-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S32x16x512 : Shape := ⟨3, ![32, 16, 512]⟩
abbrev S31 : Shape := ⟨1, ![31]⟩
abbrev S32 : Shape := ⟨1, ![32]⟩
abbrev S_ : Shape := ⟨0, ![]⟩
abbrev S1 : Shape := ⟨1, ![1]⟩
abbrev S1x16x512 : Shape := ⟨3, ![1, 16, 512]⟩
abbrev S16x512 : Shape := ⟨2, ![16, 512]⟩
abbrev S16x256 : Shape := ⟨2, ![16, 256]⟩
abbrev S7x16x512 : Shape := ⟨3, ![7, 16, 512]⟩
abbrev S112x512 : Shape := ⟨2, ![112, 512]⟩
abbrev S112x256 : Shape := ⟨2, ![112, 256]⟩
abbrev S8x16x512 : Shape := ⟨3, ![8, 16, 512]⟩
abbrev S128x512 : Shape := ⟨2, ![128, 512]⟩
abbrev S128x256 : Shape := ⟨2, ![128, 256]⟩

abbrev nBuf : Space → Nat
  | .hbm => 8
  | .vmem => 12
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S512x512, .bf16⟩
  | .local _ .vmem, ⟨9, _⟩ => ⟨S512x512, .bf16⟩
  | .local _ .vmem, ⟨10, _⟩ => ⟨S32x16x512, .bf16⟩
  | .local _ .vmem, ⟨11, _⟩ => ⟨S32x16x512, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_130 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v137 : BitVec 32 := Scalar.addi v2 c1_i32_130
  let c32_i32_131 : BitVec 32 := 32#32
  let v138 : BitVec 32 := Scalar.remsi v137 c32_i32_131
  let v139 : BitVec 32 := Scalar.subi v2 v138
  let c32_i32_132 : BitVec 32 := 32#32
  let v140 : BitVec 32 := Scalar.addi v139 c32_i32_132
  let c32_i32_133 : BitVec 32 := 32#32
  let v141 : BitVec 32 := Scalar.remsi v140 c32_i32_133
  ![v141.toNat]
def k0_off2 (d0 : Dev nD) (c1_i32_130 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v137 : BitVec 32 := Scalar.addi v2 c1_i32_130
  let c32_i32_131 : BitVec 32 := 32#32
  let v138 : BitVec 32 := Scalar.remsi v137 c32_i32_131
  let v139 : BitVec 32 := Scalar.subi v2 v138
  let c32_i32_132 : BitVec 32 := 32#32
  let v140 : BitVec 32 := Scalar.addi v139 c32_i32_132
  let c32_i32_133 : BitVec 32 := 32#32
  let v141 : BitVec 32 := Scalar.remsi v140 c32_i32_133
  let c0_i32_138 : BitVec 32 := 0#32
  let c0_i32_139 : BitVec 32 := 0#32
  ![v141.toNat, 0, 0]
def k0_off3 (d0 : Dev nD) (c1_i32_130 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v137 : BitVec 32 := Scalar.addi v2 c1_i32_130
  let c32_i32_131 : BitVec 32 := 32#32
  let v138 : BitVec 32 := Scalar.remsi v137 c32_i32_131
  let c16_i32_134 : BitVec 32 := 16#32
  let v142 : BitVec 32 := Scalar.muli v138 c16_i32_134
  let c0_i32_140 : BitVec 32 := 0#32
  ![v142.toNat, 0]
def k0_dev32 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_130 : BitVec 32 := 1#32
  let v137 : BitVec 32 := Scalar.addi v2 c1_i32_130
  let c32_i32_131 : BitVec 32 := 32#32
  let v138 : BitVec 32 := Scalar.remsi v137 c32_i32_131
  let c1_i32_136 : BitVec 32 := 1#32
  let v143 : BitVec 32 := Scalar.muli v138 c1_i32_136
  let v144 : BitVec 32 := Scalar.addi c0_i32_137 v143
  v144.toNat
def k0_dev33 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_141 : BitVec 32 := 2#32
  let v152 : BitVec 32 := Scalar.addi v2 c2_i32_141
  let c32_i32_142 : BitVec 32 := 32#32
  let v153 : BitVec 32 := Scalar.remsi v152 c32_i32_142
  let c1_i32_147 : BitVec 32 := 1#32
  let v158 : BitVec 32 := Scalar.muli v153 c1_i32_147
  let v159 : BitVec 32 := Scalar.addi c0_i32_148 v158
  v159.toNat
def k0_dev34 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_152 : BitVec 32 := 3#32
  let v167 : BitVec 32 := Scalar.addi v2 c3_i32_152
  let c32_i32_153 : BitVec 32 := 32#32
  let v168 : BitVec 32 := Scalar.remsi v167 c32_i32_153
  let c1_i32_158 : BitVec 32 := 1#32
  let v173 : BitVec 32 := Scalar.muli v168 c1_i32_158
  let v174 : BitVec 32 := Scalar.addi c0_i32_159 v173
  v174.toNat
def k0_dev35 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_163 : BitVec 32 := 4#32
  let v182 : BitVec 32 := Scalar.addi v2 c4_i32_163
  let c32_i32_164 : BitVec 32 := 32#32
  let v183 : BitVec 32 := Scalar.remsi v182 c32_i32_164
  let c1_i32_169 : BitVec 32 := 1#32
  let v188 : BitVec 32 := Scalar.muli v183 c1_i32_169
  let v189 : BitVec 32 := Scalar.addi c0_i32_170 v188
  v189.toNat
def k0_dev36 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_174 : BitVec 32 := 5#32
  let v197 : BitVec 32 := Scalar.addi v2 c5_i32_174
  let c32_i32_175 : BitVec 32 := 32#32
  let v198 : BitVec 32 := Scalar.remsi v197 c32_i32_175
  let c1_i32_180 : BitVec 32 := 1#32
  let v203 : BitVec 32 := Scalar.muli v198 c1_i32_180
  let v204 : BitVec 32 := Scalar.addi c0_i32_181 v203
  v204.toNat
def k0_dev37 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_185 : BitVec 32 := 6#32
  let v212 : BitVec 32 := Scalar.addi v2 c6_i32_185
  let c32_i32_186 : BitVec 32 := 32#32
  let v213 : BitVec 32 := Scalar.remsi v212 c32_i32_186
  let c1_i32_191 : BitVec 32 := 1#32
  let v218 : BitVec 32 := Scalar.muli v213 c1_i32_191
  let v219 : BitVec 32 := Scalar.addi c0_i32_192 v218
  v219.toNat
def k0_dev38 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_196 : BitVec 32 := 7#32
  let v227 : BitVec 32 := Scalar.addi v2 c7_i32_196
  let c32_i32_197 : BitVec 32 := 32#32
  let v228 : BitVec 32 := Scalar.remsi v227 c32_i32_197
  let c1_i32_202 : BitVec 32 := 1#32
  let v233 : BitVec 32 := Scalar.muli v228 c1_i32_202
  let v234 : BitVec 32 := Scalar.addi c0_i32_203 v233
  v234.toNat
def k0_dev39 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_207 : BitVec 32 := 8#32
  let v242 : BitVec 32 := Scalar.addi v2 c8_i32_207
  let c32_i32_208 : BitVec 32 := 32#32
  let v243 : BitVec 32 := Scalar.remsi v242 c32_i32_208
  let c1_i32_213 : BitVec 32 := 1#32
  let v248 : BitVec 32 := Scalar.muli v243 c1_i32_213
  let v249 : BitVec 32 := Scalar.addi c0_i32_214 v248
  v249.toNat
def k0_dev40 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_218 : BitVec 32 := 9#32
  let v257 : BitVec 32 := Scalar.addi v2 c9_i32_218
  let c32_i32_219 : BitVec 32 := 32#32
  let v258 : BitVec 32 := Scalar.remsi v257 c32_i32_219
  let c1_i32_224 : BitVec 32 := 1#32
  let v263 : BitVec 32 := Scalar.muli v258 c1_i32_224
  let v264 : BitVec 32 := Scalar.addi c0_i32_225 v263
  v264.toNat
def k0_dev41 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_229 : BitVec 32 := 10#32
  let v272 : BitVec 32 := Scalar.addi v2 c10_i32_229
  let c32_i32_230 : BitVec 32 := 32#32
  let v273 : BitVec 32 := Scalar.remsi v272 c32_i32_230
  let c1_i32_235 : BitVec 32 := 1#32
  let v278 : BitVec 32 := Scalar.muli v273 c1_i32_235
  let v279 : BitVec 32 := Scalar.addi c0_i32_236 v278
  v279.toNat
def k0_dev42 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_240 : BitVec 32 := 11#32
  let v287 : BitVec 32 := Scalar.addi v2 c11_i32_240
  let c32_i32_241 : BitVec 32 := 32#32
  let v288 : BitVec 32 := Scalar.remsi v287 c32_i32_241
  let c1_i32_246 : BitVec 32 := 1#32
  let v293 : BitVec 32 := Scalar.muli v288 c1_i32_246
  let v294 : BitVec 32 := Scalar.addi c0_i32_247 v293
  v294.toNat
def k0_dev43 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_251 : BitVec 32 := 12#32
  let v302 : BitVec 32 := Scalar.addi v2 c12_i32_251
  let c32_i32_252 : BitVec 32 := 32#32
  let v303 : BitVec 32 := Scalar.remsi v302 c32_i32_252
  let c1_i32_257 : BitVec 32 := 1#32
  let v308 : BitVec 32 := Scalar.muli v303 c1_i32_257
  let v309 : BitVec 32 := Scalar.addi c0_i32_258 v308
  v309.toNat
def k0_dev44 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_262 : BitVec 32 := 13#32
  let v317 : BitVec 32 := Scalar.addi v2 c13_i32_262
  let c32_i32_263 : BitVec 32 := 32#32
  let v318 : BitVec 32 := Scalar.remsi v317 c32_i32_263
  let c1_i32_268 : BitVec 32 := 1#32
  let v323 : BitVec 32 := Scalar.muli v318 c1_i32_268
  let v324 : BitVec 32 := Scalar.addi c0_i32_269 v323
  v324.toNat
def k0_dev45 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_273 : BitVec 32 := 14#32
  let v332 : BitVec 32 := Scalar.addi v2 c14_i32_273
  let c32_i32_274 : BitVec 32 := 32#32
  let v333 : BitVec 32 := Scalar.remsi v332 c32_i32_274
  let c1_i32_279 : BitVec 32 := 1#32
  let v338 : BitVec 32 := Scalar.muli v333 c1_i32_279
  let v339 : BitVec 32 := Scalar.addi c0_i32_280 v338
  v339.toNat
def k0_dev46 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_284 : BitVec 32 := 15#32
  let v347 : BitVec 32 := Scalar.addi v2 c15_i32_284
  let c32_i32_285 : BitVec 32 := 32#32
  let v348 : BitVec 32 := Scalar.remsi v347 c32_i32_285
  let c1_i32_290 : BitVec 32 := 1#32
  let v353 : BitVec 32 := Scalar.muli v348 c1_i32_290
  let v354 : BitVec 32 := Scalar.addi c0_i32_291 v353
  v354.toNat
def k0_dev47 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_295 : BitVec 32 := 16#32
  let v362 : BitVec 32 := Scalar.addi v2 c16_i32_295
  let c32_i32_296 : BitVec 32 := 32#32
  let v363 : BitVec 32 := Scalar.remsi v362 c32_i32_296
  let c1_i32_301 : BitVec 32 := 1#32
  let v368 : BitVec 32 := Scalar.muli v363 c1_i32_301
  let v369 : BitVec 32 := Scalar.addi c0_i32_302 v368
  v369.toNat
def k0_dev48 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_306 : BitVec 32 := 17#32
  let v377 : BitVec 32 := Scalar.addi v2 c17_i32_306
  let c32_i32_307 : BitVec 32 := 32#32
  let v378 : BitVec 32 := Scalar.remsi v377 c32_i32_307
  let c1_i32_312 : BitVec 32 := 1#32
  let v383 : BitVec 32 := Scalar.muli v378 c1_i32_312
  let v384 : BitVec 32 := Scalar.addi c0_i32_313 v383
  v384.toNat
def k0_dev49 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_317 : BitVec 32 := 18#32
  let v392 : BitVec 32 := Scalar.addi v2 c18_i32_317
  let c32_i32_318 : BitVec 32 := 32#32
  let v393 : BitVec 32 := Scalar.remsi v392 c32_i32_318
  let c1_i32_323 : BitVec 32 := 1#32
  let v398 : BitVec 32 := Scalar.muli v393 c1_i32_323
  let v399 : BitVec 32 := Scalar.addi c0_i32_324 v398
  v399.toNat
def k0_dev50 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_328 : BitVec 32 := 19#32
  let v407 : BitVec 32 := Scalar.addi v2 c19_i32_328
  let c32_i32_329 : BitVec 32 := 32#32
  let v408 : BitVec 32 := Scalar.remsi v407 c32_i32_329
  let c1_i32_334 : BitVec 32 := 1#32
  let v413 : BitVec 32 := Scalar.muli v408 c1_i32_334
  let v414 : BitVec 32 := Scalar.addi c0_i32_335 v413
  v414.toNat
def k0_dev51 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_339 : BitVec 32 := 20#32
  let v422 : BitVec 32 := Scalar.addi v2 c20_i32_339
  let c32_i32_340 : BitVec 32 := 32#32
  let v423 : BitVec 32 := Scalar.remsi v422 c32_i32_340
  let c1_i32_345 : BitVec 32 := 1#32
  let v428 : BitVec 32 := Scalar.muli v423 c1_i32_345
  let v429 : BitVec 32 := Scalar.addi c0_i32_346 v428
  v429.toNat
def k0_dev52 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_350 : BitVec 32 := 21#32
  let v437 : BitVec 32 := Scalar.addi v2 c21_i32_350
  let c32_i32_351 : BitVec 32 := 32#32
  let v438 : BitVec 32 := Scalar.remsi v437 c32_i32_351
  let c1_i32_356 : BitVec 32 := 1#32
  let v443 : BitVec 32 := Scalar.muli v438 c1_i32_356
  let v444 : BitVec 32 := Scalar.addi c0_i32_357 v443
  v444.toNat
def k0_dev53 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_361 : BitVec 32 := 22#32
  let v452 : BitVec 32 := Scalar.addi v2 c22_i32_361
  let c32_i32_362 : BitVec 32 := 32#32
  let v453 : BitVec 32 := Scalar.remsi v452 c32_i32_362
  let c1_i32_367 : BitVec 32 := 1#32
  let v458 : BitVec 32 := Scalar.muli v453 c1_i32_367
  let v459 : BitVec 32 := Scalar.addi c0_i32_368 v458
  v459.toNat
def k0_dev54 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_372 : BitVec 32 := 23#32
  let v467 : BitVec 32 := Scalar.addi v2 c23_i32_372
  let c32_i32_373 : BitVec 32 := 32#32
  let v468 : BitVec 32 := Scalar.remsi v467 c32_i32_373
  let c1_i32_378 : BitVec 32 := 1#32
  let v473 : BitVec 32 := Scalar.muli v468 c1_i32_378
  let v474 : BitVec 32 := Scalar.addi c0_i32_379 v473
  v474.toNat
def k0_dev55 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_383 : BitVec 32 := 24#32
  let v482 : BitVec 32 := Scalar.addi v2 c24_i32_383
  let c32_i32_384 : BitVec 32 := 32#32
  let v483 : BitVec 32 := Scalar.remsi v482 c32_i32_384
  let c1_i32_389 : BitVec 32 := 1#32
  let v488 : BitVec 32 := Scalar.muli v483 c1_i32_389
  let v489 : BitVec 32 := Scalar.addi c0_i32_390 v488
  v489.toNat
def k0_dev56 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_394 : BitVec 32 := 25#32
  let v497 : BitVec 32 := Scalar.addi v2 c25_i32_394
  let c32_i32_395 : BitVec 32 := 32#32
  let v498 : BitVec 32 := Scalar.remsi v497 c32_i32_395
  let c1_i32_400 : BitVec 32 := 1#32
  let v503 : BitVec 32 := Scalar.muli v498 c1_i32_400
  let v504 : BitVec 32 := Scalar.addi c0_i32_401 v503
  v504.toNat
def k0_dev57 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_405 : BitVec 32 := 26#32
  let v512 : BitVec 32 := Scalar.addi v2 c26_i32_405
  let c32_i32_406 : BitVec 32 := 32#32
  let v513 : BitVec 32 := Scalar.remsi v512 c32_i32_406
  let c1_i32_411 : BitVec 32 := 1#32
  let v518 : BitVec 32 := Scalar.muli v513 c1_i32_411
  let v519 : BitVec 32 := Scalar.addi c0_i32_412 v518
  v519.toNat
def k0_dev58 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_416 : BitVec 32 := 27#32
  let v527 : BitVec 32 := Scalar.addi v2 c27_i32_416
  let c32_i32_417 : BitVec 32 := 32#32
  let v528 : BitVec 32 := Scalar.remsi v527 c32_i32_417
  let c1_i32_422 : BitVec 32 := 1#32
  let v533 : BitVec 32 := Scalar.muli v528 c1_i32_422
  let v534 : BitVec 32 := Scalar.addi c0_i32_423 v533
  v534.toNat
def k0_dev59 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_427 : BitVec 32 := 28#32
  let v542 : BitVec 32 := Scalar.addi v2 c28_i32_427
  let c32_i32_428 : BitVec 32 := 32#32
  let v543 : BitVec 32 := Scalar.remsi v542 c32_i32_428
  let c1_i32_433 : BitVec 32 := 1#32
  let v548 : BitVec 32 := Scalar.muli v543 c1_i32_433
  let v549 : BitVec 32 := Scalar.addi c0_i32_434 v548
  v549.toNat
def k0_dev60 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_438 : BitVec 32 := 29#32
  let v557 : BitVec 32 := Scalar.addi v2 c29_i32_438
  let c32_i32_439 : BitVec 32 := 32#32
  let v558 : BitVec 32 := Scalar.remsi v557 c32_i32_439
  let c1_i32_444 : BitVec 32 := 1#32
  let v563 : BitVec 32 := Scalar.muli v558 c1_i32_444
  let v564 : BitVec 32 := Scalar.addi c0_i32_445 v563
  v564.toNat
def k0_dev61 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_449 : BitVec 32 := 30#32
  let v572 : BitVec 32 := Scalar.addi v2 c30_i32_449
  let c32_i32_450 : BitVec 32 := 32#32
  let v573 : BitVec 32 := Scalar.remsi v572 c32_i32_450
  let c1_i32_455 : BitVec 32 := 1#32
  let v578 : BitVec 32 := Scalar.muli v573 c1_i32_455
  let v579 : BitVec 32 := Scalar.addi c0_i32_456 v578
  v579.toNat
def k0_dev62 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_460 : BitVec 32 := 31#32
  let v587 : BitVec 32 := Scalar.addi v2 c31_i32_460
  let c32_i32_461 : BitVec 32 := 32#32
  let v588 : BitVec 32 := Scalar.remsi v587 c32_i32_461
  let c1_i32_466 : BitVec 32 := 1#32
  let v593 : BitVec 32 := Scalar.muli v588 c1_i32_466
  let v594 : BitVec 32 := Scalar.addi c0_i32_467 v593
  v594.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_471 : BitVec 32 := 16#32
  let v602 : BitVec 32 := Scalar.muli v2 c16_i32_471
  let v603 : Index := Scalar.indexCast v602
  let c0_472 : Index := 0#32
  ![v603.toNat, 0]
def k0_dev63 (d0 : Dev nD) : Nat :=
  let c0_i32_956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_949 : BitVec 32 := 1#32
  let v1022 : BitVec 32 := Scalar.addi v2 c1_i32_949
  let c32_i32_950 : BitVec 32 := 32#32
  let v1023 : BitVec 32 := Scalar.remsi v1022 c32_i32_950
  let c1_i32_955 : BitVec 32 := 1#32
  let v1027 : BitVec 32 := Scalar.muli v1023 c1_i32_955
  let v1028 : BitVec 32 := Scalar.addi c0_i32_956 v1027
  v1028.toNat
def k0_dev64 (d0 : Dev nD) : Nat :=
  let c0_i32_968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_961 : BitVec 32 := 2#32
  let v1037 : BitVec 32 := Scalar.addi v2 c2_i32_961
  let c32_i32_962 : BitVec 32 := 32#32
  let v1038 : BitVec 32 := Scalar.remsi v1037 c32_i32_962
  let c1_i32_967 : BitVec 32 := 1#32
  let v1042 : BitVec 32 := Scalar.muli v1038 c1_i32_967
  let v1043 : BitVec 32 := Scalar.addi c0_i32_968 v1042
  v1043.toNat
def k0_dev65 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_973 : BitVec 32 := 3#32
  let v1052 : BitVec 32 := Scalar.addi v2 c3_i32_973
  let c32_i32_974 : BitVec 32 := 32#32
  let v1053 : BitVec 32 := Scalar.remsi v1052 c32_i32_974
  let c1_i32_979 : BitVec 32 := 1#32
  let v1057 : BitVec 32 := Scalar.muli v1053 c1_i32_979
  let v1058 : BitVec 32 := Scalar.addi c0_i32_980 v1057
  v1058.toNat
def k0_dev66 (d0 : Dev nD) : Nat :=
  let c0_i32_992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_985 : BitVec 32 := 4#32
  let v1067 : BitVec 32 := Scalar.addi v2 c4_i32_985
  let c32_i32_986 : BitVec 32 := 32#32
  let v1068 : BitVec 32 := Scalar.remsi v1067 c32_i32_986
  let c1_i32_991 : BitVec 32 := 1#32
  let v1072 : BitVec 32 := Scalar.muli v1068 c1_i32_991
  let v1073 : BitVec 32 := Scalar.addi c0_i32_992 v1072
  v1073.toNat
def k0_dev67 (d0 : Dev nD) : Nat :=
  let c0_i32_1004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_997 : BitVec 32 := 5#32
  let v1082 : BitVec 32 := Scalar.addi v2 c5_i32_997
  let c32_i32_998 : BitVec 32 := 32#32
  let v1083 : BitVec 32 := Scalar.remsi v1082 c32_i32_998
  let c1_i32_1003 : BitVec 32 := 1#32
  let v1087 : BitVec 32 := Scalar.muli v1083 c1_i32_1003
  let v1088 : BitVec 32 := Scalar.addi c0_i32_1004 v1087
  v1088.toNat
def k0_dev68 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1009 : BitVec 32 := 6#32
  let v1097 : BitVec 32 := Scalar.addi v2 c6_i32_1009
  let c32_i32_1010 : BitVec 32 := 32#32
  let v1098 : BitVec 32 := Scalar.remsi v1097 c32_i32_1010
  let c1_i32_1015 : BitVec 32 := 1#32
  let v1102 : BitVec 32 := Scalar.muli v1098 c1_i32_1015
  let v1103 : BitVec 32 := Scalar.addi c0_i32_1016 v1102
  v1103.toNat
def k0_dev69 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1021 : BitVec 32 := 7#32
  let v1112 : BitVec 32 := Scalar.addi v2 c7_i32_1021
  let c32_i32_1022 : BitVec 32 := 32#32
  let v1113 : BitVec 32 := Scalar.remsi v1112 c32_i32_1022
  let c1_i32_1027 : BitVec 32 := 1#32
  let v1117 : BitVec 32 := Scalar.muli v1113 c1_i32_1027
  let v1118 : BitVec 32 := Scalar.addi c0_i32_1028 v1117
  v1118.toNat
def k0_dev70 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1033 : BitVec 32 := 8#32
  let v1127 : BitVec 32 := Scalar.addi v2 c8_i32_1033
  let c32_i32_1034 : BitVec 32 := 32#32
  let v1128 : BitVec 32 := Scalar.remsi v1127 c32_i32_1034
  let c1_i32_1039 : BitVec 32 := 1#32
  let v1132 : BitVec 32 := Scalar.muli v1128 c1_i32_1039
  let v1133 : BitVec 32 := Scalar.addi c0_i32_1040 v1132
  v1133.toNat
def k0_dev71 (d0 : Dev nD) : Nat :=
  let c0_i32_1052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1045 : BitVec 32 := 9#32
  let v1142 : BitVec 32 := Scalar.addi v2 c9_i32_1045
  let c32_i32_1046 : BitVec 32 := 32#32
  let v1143 : BitVec 32 := Scalar.remsi v1142 c32_i32_1046
  let c1_i32_1051 : BitVec 32 := 1#32
  let v1147 : BitVec 32 := Scalar.muli v1143 c1_i32_1051
  let v1148 : BitVec 32 := Scalar.addi c0_i32_1052 v1147
  v1148.toNat
def k0_dev72 (d0 : Dev nD) : Nat :=
  let c0_i32_1064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1057 : BitVec 32 := 10#32
  let v1157 : BitVec 32 := Scalar.addi v2 c10_i32_1057
  let c32_i32_1058 : BitVec 32 := 32#32
  let v1158 : BitVec 32 := Scalar.remsi v1157 c32_i32_1058
  let c1_i32_1063 : BitVec 32 := 1#32
  let v1162 : BitVec 32 := Scalar.muli v1158 c1_i32_1063
  let v1163 : BitVec 32 := Scalar.addi c0_i32_1064 v1162
  v1163.toNat
def k0_dev73 (d0 : Dev nD) : Nat :=
  let c0_i32_1076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1069 : BitVec 32 := 11#32
  let v1172 : BitVec 32 := Scalar.addi v2 c11_i32_1069
  let c32_i32_1070 : BitVec 32 := 32#32
  let v1173 : BitVec 32 := Scalar.remsi v1172 c32_i32_1070
  let c1_i32_1075 : BitVec 32 := 1#32
  let v1177 : BitVec 32 := Scalar.muli v1173 c1_i32_1075
  let v1178 : BitVec 32 := Scalar.addi c0_i32_1076 v1177
  v1178.toNat
def k0_dev74 (d0 : Dev nD) : Nat :=
  let c0_i32_1088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1081 : BitVec 32 := 12#32
  let v1187 : BitVec 32 := Scalar.addi v2 c12_i32_1081
  let c32_i32_1082 : BitVec 32 := 32#32
  let v1188 : BitVec 32 := Scalar.remsi v1187 c32_i32_1082
  let c1_i32_1087 : BitVec 32 := 1#32
  let v1192 : BitVec 32 := Scalar.muli v1188 c1_i32_1087
  let v1193 : BitVec 32 := Scalar.addi c0_i32_1088 v1192
  v1193.toNat
def k0_dev75 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1093 : BitVec 32 := 13#32
  let v1202 : BitVec 32 := Scalar.addi v2 c13_i32_1093
  let c32_i32_1094 : BitVec 32 := 32#32
  let v1203 : BitVec 32 := Scalar.remsi v1202 c32_i32_1094
  let c1_i32_1099 : BitVec 32 := 1#32
  let v1207 : BitVec 32 := Scalar.muli v1203 c1_i32_1099
  let v1208 : BitVec 32 := Scalar.addi c0_i32_1100 v1207
  v1208.toNat
def k0_dev76 (d0 : Dev nD) : Nat :=
  let c0_i32_1112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1105 : BitVec 32 := 14#32
  let v1217 : BitVec 32 := Scalar.addi v2 c14_i32_1105
  let c32_i32_1106 : BitVec 32 := 32#32
  let v1218 : BitVec 32 := Scalar.remsi v1217 c32_i32_1106
  let c1_i32_1111 : BitVec 32 := 1#32
  let v1222 : BitVec 32 := Scalar.muli v1218 c1_i32_1111
  let v1223 : BitVec 32 := Scalar.addi c0_i32_1112 v1222
  v1223.toNat
def k0_dev77 (d0 : Dev nD) : Nat :=
  let c0_i32_1124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1117 : BitVec 32 := 15#32
  let v1232 : BitVec 32 := Scalar.addi v2 c15_i32_1117
  let c32_i32_1118 : BitVec 32 := 32#32
  let v1233 : BitVec 32 := Scalar.remsi v1232 c32_i32_1118
  let c1_i32_1123 : BitVec 32 := 1#32
  let v1237 : BitVec 32 := Scalar.muli v1233 c1_i32_1123
  let v1238 : BitVec 32 := Scalar.addi c0_i32_1124 v1237
  v1238.toNat
def k0_dev78 (d0 : Dev nD) : Nat :=
  let c0_i32_1136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1129 : BitVec 32 := 16#32
  let v1247 : BitVec 32 := Scalar.addi v2 c16_i32_1129
  let c32_i32_1130 : BitVec 32 := 32#32
  let v1248 : BitVec 32 := Scalar.remsi v1247 c32_i32_1130
  let c1_i32_1135 : BitVec 32 := 1#32
  let v1252 : BitVec 32 := Scalar.muli v1248 c1_i32_1135
  let v1253 : BitVec 32 := Scalar.addi c0_i32_1136 v1252
  v1253.toNat
def k0_dev79 (d0 : Dev nD) : Nat :=
  let c0_i32_1148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1141 : BitVec 32 := 17#32
  let v1262 : BitVec 32 := Scalar.addi v2 c17_i32_1141
  let c32_i32_1142 : BitVec 32 := 32#32
  let v1263 : BitVec 32 := Scalar.remsi v1262 c32_i32_1142
  let c1_i32_1147 : BitVec 32 := 1#32
  let v1267 : BitVec 32 := Scalar.muli v1263 c1_i32_1147
  let v1268 : BitVec 32 := Scalar.addi c0_i32_1148 v1267
  v1268.toNat
def k0_dev80 (d0 : Dev nD) : Nat :=
  let c0_i32_1160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1153 : BitVec 32 := 18#32
  let v1277 : BitVec 32 := Scalar.addi v2 c18_i32_1153
  let c32_i32_1154 : BitVec 32 := 32#32
  let v1278 : BitVec 32 := Scalar.remsi v1277 c32_i32_1154
  let c1_i32_1159 : BitVec 32 := 1#32
  let v1282 : BitVec 32 := Scalar.muli v1278 c1_i32_1159
  let v1283 : BitVec 32 := Scalar.addi c0_i32_1160 v1282
  v1283.toNat
def k0_dev81 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1165 : BitVec 32 := 19#32
  let v1292 : BitVec 32 := Scalar.addi v2 c19_i32_1165
  let c32_i32_1166 : BitVec 32 := 32#32
  let v1293 : BitVec 32 := Scalar.remsi v1292 c32_i32_1166
  let c1_i32_1171 : BitVec 32 := 1#32
  let v1297 : BitVec 32 := Scalar.muli v1293 c1_i32_1171
  let v1298 : BitVec 32 := Scalar.addi c0_i32_1172 v1297
  v1298.toNat
def k0_dev82 (d0 : Dev nD) : Nat :=
  let c0_i32_1184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1177 : BitVec 32 := 20#32
  let v1307 : BitVec 32 := Scalar.addi v2 c20_i32_1177
  let c32_i32_1178 : BitVec 32 := 32#32
  let v1308 : BitVec 32 := Scalar.remsi v1307 c32_i32_1178
  let c1_i32_1183 : BitVec 32 := 1#32
  let v1312 : BitVec 32 := Scalar.muli v1308 c1_i32_1183
  let v1313 : BitVec 32 := Scalar.addi c0_i32_1184 v1312
  v1313.toNat
def k0_dev83 (d0 : Dev nD) : Nat :=
  let c0_i32_1196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1189 : BitVec 32 := 21#32
  let v1322 : BitVec 32 := Scalar.addi v2 c21_i32_1189
  let c32_i32_1190 : BitVec 32 := 32#32
  let v1323 : BitVec 32 := Scalar.remsi v1322 c32_i32_1190
  let c1_i32_1195 : BitVec 32 := 1#32
  let v1327 : BitVec 32 := Scalar.muli v1323 c1_i32_1195
  let v1328 : BitVec 32 := Scalar.addi c0_i32_1196 v1327
  v1328.toNat
def k0_dev84 (d0 : Dev nD) : Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1201 : BitVec 32 := 22#32
  let v1337 : BitVec 32 := Scalar.addi v2 c22_i32_1201
  let c32_i32_1202 : BitVec 32 := 32#32
  let v1338 : BitVec 32 := Scalar.remsi v1337 c32_i32_1202
  let c1_i32_1207 : BitVec 32 := 1#32
  let v1342 : BitVec 32 := Scalar.muli v1338 c1_i32_1207
  let v1343 : BitVec 32 := Scalar.addi c0_i32_1208 v1342
  v1343.toNat
def k0_dev85 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1213 : BitVec 32 := 23#32
  let v1352 : BitVec 32 := Scalar.addi v2 c23_i32_1213
  let c32_i32_1214 : BitVec 32 := 32#32
  let v1353 : BitVec 32 := Scalar.remsi v1352 c32_i32_1214
  let c1_i32_1219 : BitVec 32 := 1#32
  let v1357 : BitVec 32 := Scalar.muli v1353 c1_i32_1219
  let v1358 : BitVec 32 := Scalar.addi c0_i32_1220 v1357
  v1358.toNat
def k0_dev86 (d0 : Dev nD) : Nat :=
  let c0_i32_1232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1225 : BitVec 32 := 24#32
  let v1367 : BitVec 32 := Scalar.addi v2 c24_i32_1225
  let c32_i32_1226 : BitVec 32 := 32#32
  let v1368 : BitVec 32 := Scalar.remsi v1367 c32_i32_1226
  let c1_i32_1231 : BitVec 32 := 1#32
  let v1372 : BitVec 32 := Scalar.muli v1368 c1_i32_1231
  let v1373 : BitVec 32 := Scalar.addi c0_i32_1232 v1372
  v1373.toNat
def k0_dev87 (d0 : Dev nD) : Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1237 : BitVec 32 := 25#32
  let v1382 : BitVec 32 := Scalar.addi v2 c25_i32_1237
  let c32_i32_1238 : BitVec 32 := 32#32
  let v1383 : BitVec 32 := Scalar.remsi v1382 c32_i32_1238
  let c1_i32_1243 : BitVec 32 := 1#32
  let v1387 : BitVec 32 := Scalar.muli v1383 c1_i32_1243
  let v1388 : BitVec 32 := Scalar.addi c0_i32_1244 v1387
  v1388.toNat
def k0_dev88 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1249 : BitVec 32 := 26#32
  let v1397 : BitVec 32 := Scalar.addi v2 c26_i32_1249
  let c32_i32_1250 : BitVec 32 := 32#32
  let v1398 : BitVec 32 := Scalar.remsi v1397 c32_i32_1250
  let c1_i32_1255 : BitVec 32 := 1#32
  let v1402 : BitVec 32 := Scalar.muli v1398 c1_i32_1255
  let v1403 : BitVec 32 := Scalar.addi c0_i32_1256 v1402
  v1403.toNat
def k0_dev89 (d0 : Dev nD) : Nat :=
  let c0_i32_1268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1261 : BitVec 32 := 27#32
  let v1412 : BitVec 32 := Scalar.addi v2 c27_i32_1261
  let c32_i32_1262 : BitVec 32 := 32#32
  let v1413 : BitVec 32 := Scalar.remsi v1412 c32_i32_1262
  let c1_i32_1267 : BitVec 32 := 1#32
  let v1417 : BitVec 32 := Scalar.muli v1413 c1_i32_1267
  let v1418 : BitVec 32 := Scalar.addi c0_i32_1268 v1417
  v1418.toNat
def k0_dev90 (d0 : Dev nD) : Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1273 : BitVec 32 := 28#32
  let v1427 : BitVec 32 := Scalar.addi v2 c28_i32_1273
  let c32_i32_1274 : BitVec 32 := 32#32
  let v1428 : BitVec 32 := Scalar.remsi v1427 c32_i32_1274
  let c1_i32_1279 : BitVec 32 := 1#32
  let v1432 : BitVec 32 := Scalar.muli v1428 c1_i32_1279
  let v1433 : BitVec 32 := Scalar.addi c0_i32_1280 v1432
  v1433.toNat
def k0_dev91 (d0 : Dev nD) : Nat :=
  let c0_i32_1292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1285 : BitVec 32 := 29#32
  let v1442 : BitVec 32 := Scalar.addi v2 c29_i32_1285
  let c32_i32_1286 : BitVec 32 := 32#32
  let v1443 : BitVec 32 := Scalar.remsi v1442 c32_i32_1286
  let c1_i32_1291 : BitVec 32 := 1#32
  let v1447 : BitVec 32 := Scalar.muli v1443 c1_i32_1291
  let v1448 : BitVec 32 := Scalar.addi c0_i32_1292 v1447
  v1448.toNat
def k0_dev92 (d0 : Dev nD) : Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1297 : BitVec 32 := 30#32
  let v1457 : BitVec 32 := Scalar.addi v2 c30_i32_1297
  let c32_i32_1298 : BitVec 32 := 32#32
  let v1458 : BitVec 32 := Scalar.remsi v1457 c32_i32_1298
  let c1_i32_1303 : BitVec 32 := 1#32
  let v1462 : BitVec 32 := Scalar.muli v1458 c1_i32_1303
  let v1463 : BitVec 32 := Scalar.addi c0_i32_1304 v1462
  v1463.toNat
def k0_dev93 (d0 : Dev nD) : Nat :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1309 : BitVec 32 := 31#32
  let v1472 : BitVec 32 := Scalar.addi v2 c31_i32_1309
  let c32_i32_1310 : BitVec 32 := 32#32
  let v1473 : BitVec 32 := Scalar.remsi v1472 c32_i32_1310
  let c1_i32_1315 : BitVec 32 := 1#32
  let v1477 : BitVec 32 := Scalar.muli v1473 c1_i32_1315
  let v1478 : BitVec 32 := Scalar.addi c0_i32_1316 v1477
  v1478.toNat
def k0_dev94 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1405 : BitVec 32 := 25#32
  let v1564 : BitVec 32 := Scalar.addi v2 c25_i32_1405
  let c32_i32_1406 : BitVec 32 := 32#32
  let v1565 : BitVec 32 := Scalar.remsi v1564 c32_i32_1406
  let c1_i32_1410 : BitVec 32 := 1#32
  let v1569 : BitVec 32 := Scalar.muli v1565 c1_i32_1410
  let v1570 : BitVec 32 := Scalar.addi c0_i32_1411 v1569
  v1570.toNat
def k0_dev95 (d0 : Dev nD) : Nat :=
  let c0_i32_1421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1415 : BitVec 32 := 26#32
  let v1578 : BitVec 32 := Scalar.addi v2 c26_i32_1415
  let c32_i32_1416 : BitVec 32 := 32#32
  let v1579 : BitVec 32 := Scalar.remsi v1578 c32_i32_1416
  let c1_i32_1420 : BitVec 32 := 1#32
  let v1583 : BitVec 32 := Scalar.muli v1579 c1_i32_1420
  let v1584 : BitVec 32 := Scalar.addi c0_i32_1421 v1583
  v1584.toNat
def k0_dev96 (d0 : Dev nD) : Nat :=
  let c0_i32_1431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1425 : BitVec 32 := 27#32
  let v1592 : BitVec 32 := Scalar.addi v2 c27_i32_1425
  let c32_i32_1426 : BitVec 32 := 32#32
  let v1593 : BitVec 32 := Scalar.remsi v1592 c32_i32_1426
  let c1_i32_1430 : BitVec 32 := 1#32
  let v1597 : BitVec 32 := Scalar.muli v1593 c1_i32_1430
  let v1598 : BitVec 32 := Scalar.addi c0_i32_1431 v1597
  v1598.toNat
def k0_dev97 (d0 : Dev nD) : Nat :=
  let c0_i32_1441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1435 : BitVec 32 := 28#32
  let v1606 : BitVec 32 := Scalar.addi v2 c28_i32_1435
  let c32_i32_1436 : BitVec 32 := 32#32
  let v1607 : BitVec 32 := Scalar.remsi v1606 c32_i32_1436
  let c1_i32_1440 : BitVec 32 := 1#32
  let v1611 : BitVec 32 := Scalar.muli v1607 c1_i32_1440
  let v1612 : BitVec 32 := Scalar.addi c0_i32_1441 v1611
  v1612.toNat
def k0_dev98 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1445 : BitVec 32 := 29#32
  let v1620 : BitVec 32 := Scalar.addi v2 c29_i32_1445
  let c32_i32_1446 : BitVec 32 := 32#32
  let v1621 : BitVec 32 := Scalar.remsi v1620 c32_i32_1446
  let c1_i32_1450 : BitVec 32 := 1#32
  let v1625 : BitVec 32 := Scalar.muli v1621 c1_i32_1450
  let v1626 : BitVec 32 := Scalar.addi c0_i32_1451 v1625
  v1626.toNat
def k0_dev99 (d0 : Dev nD) : Nat :=
  let c0_i32_1461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1455 : BitVec 32 := 30#32
  let v1634 : BitVec 32 := Scalar.addi v2 c30_i32_1455
  let c32_i32_1456 : BitVec 32 := 32#32
  let v1635 : BitVec 32 := Scalar.remsi v1634 c32_i32_1456
  let c1_i32_1460 : BitVec 32 := 1#32
  let v1639 : BitVec 32 := Scalar.muli v1635 c1_i32_1460
  let v1640 : BitVec 32 := Scalar.addi c0_i32_1461 v1639
  v1640.toNat
def k0_dev100 (d0 : Dev nD) : Nat :=
  let c0_i32_1471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1465 : BitVec 32 := 31#32
  let v1648 : BitVec 32 := Scalar.addi v2 c31_i32_1465
  let c32_i32_1466 : BitVec 32 := 32#32
  let v1649 : BitVec 32 := Scalar.remsi v1648 c32_i32_1466
  let c1_i32_1470 : BitVec 32 := 1#32
  let v1653 : BitVec 32 := Scalar.muli v1649 c1_i32_1470
  let v1654 : BitVec 32 := Scalar.addi c0_i32_1471 v1653
  v1654.toNat
def k0_dev101 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1560 : BitVec 32 := 17#32
  let v1735 : BitVec 32 := Scalar.addi v2 c17_i32_1560
  let c32_i32_1561 : BitVec 32 := 32#32
  let v1736 : BitVec 32 := Scalar.remsi v1735 c32_i32_1561
  let c1_i32_1565 : BitVec 32 := 1#32
  let v1740 : BitVec 32 := Scalar.muli v1736 c1_i32_1565
  let v1741 : BitVec 32 := Scalar.addi c0_i32_1566 v1740
  v1741.toNat
def k0_dev102 (d0 : Dev nD) : Nat :=
  let c0_i32_1576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1570 : BitVec 32 := 18#32
  let v1749 : BitVec 32 := Scalar.addi v2 c18_i32_1570
  let c32_i32_1571 : BitVec 32 := 32#32
  let v1750 : BitVec 32 := Scalar.remsi v1749 c32_i32_1571
  let c1_i32_1575 : BitVec 32 := 1#32
  let v1754 : BitVec 32 := Scalar.muli v1750 c1_i32_1575
  let v1755 : BitVec 32 := Scalar.addi c0_i32_1576 v1754
  v1755.toNat
def k0_dev103 (d0 : Dev nD) : Nat :=
  let c0_i32_1586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1580 : BitVec 32 := 19#32
  let v1763 : BitVec 32 := Scalar.addi v2 c19_i32_1580
  let c32_i32_1581 : BitVec 32 := 32#32
  let v1764 : BitVec 32 := Scalar.remsi v1763 c32_i32_1581
  let c1_i32_1585 : BitVec 32 := 1#32
  let v1768 : BitVec 32 := Scalar.muli v1764 c1_i32_1585
  let v1769 : BitVec 32 := Scalar.addi c0_i32_1586 v1768
  v1769.toNat
def k0_dev104 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1590 : BitVec 32 := 20#32
  let v1777 : BitVec 32 := Scalar.addi v2 c20_i32_1590
  let c32_i32_1591 : BitVec 32 := 32#32
  let v1778 : BitVec 32 := Scalar.remsi v1777 c32_i32_1591
  let c1_i32_1595 : BitVec 32 := 1#32
  let v1782 : BitVec 32 := Scalar.muli v1778 c1_i32_1595
  let v1783 : BitVec 32 := Scalar.addi c0_i32_1596 v1782
  v1783.toNat
def k0_dev105 (d0 : Dev nD) : Nat :=
  let c0_i32_1606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1600 : BitVec 32 := 21#32
  let v1791 : BitVec 32 := Scalar.addi v2 c21_i32_1600
  let c32_i32_1601 : BitVec 32 := 32#32
  let v1792 : BitVec 32 := Scalar.remsi v1791 c32_i32_1601
  let c1_i32_1605 : BitVec 32 := 1#32
  let v1796 : BitVec 32 := Scalar.muli v1792 c1_i32_1605
  let v1797 : BitVec 32 := Scalar.addi c0_i32_1606 v1796
  v1797.toNat
def k0_dev106 (d0 : Dev nD) : Nat :=
  let c0_i32_1616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1610 : BitVec 32 := 22#32
  let v1805 : BitVec 32 := Scalar.addi v2 c22_i32_1610
  let c32_i32_1611 : BitVec 32 := 32#32
  let v1806 : BitVec 32 := Scalar.remsi v1805 c32_i32_1611
  let c1_i32_1615 : BitVec 32 := 1#32
  let v1810 : BitVec 32 := Scalar.muli v1806 c1_i32_1615
  let v1811 : BitVec 32 := Scalar.addi c0_i32_1616 v1810
  v1811.toNat
def k0_dev107 (d0 : Dev nD) : Nat :=
  let c0_i32_1626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1620 : BitVec 32 := 23#32
  let v1819 : BitVec 32 := Scalar.addi v2 c23_i32_1620
  let c32_i32_1621 : BitVec 32 := 32#32
  let v1820 : BitVec 32 := Scalar.remsi v1819 c32_i32_1621
  let c1_i32_1625 : BitVec 32 := 1#32
  let v1824 : BitVec 32 := Scalar.muli v1820 c1_i32_1625
  let v1825 : BitVec 32 := Scalar.addi c0_i32_1626 v1824
  v1825.toNat
def k0_dev108 (d0 : Dev nD) : Nat :=
  let c0_i32_1636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1630 : BitVec 32 := 24#32
  let v1833 : BitVec 32 := Scalar.addi v2 c24_i32_1630
  let c32_i32_1631 : BitVec 32 := 32#32
  let v1834 : BitVec 32 := Scalar.remsi v1833 c32_i32_1631
  let c1_i32_1635 : BitVec 32 := 1#32
  let v1838 : BitVec 32 := Scalar.muli v1834 c1_i32_1635
  let v1839 : BitVec 32 := Scalar.addi c0_i32_1636 v1838
  v1839.toNat
def k0_dev109 (d0 : Dev nD) : Nat :=
  let c0_i32_1731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1725 : BitVec 32 := 9#32
  let v1920 : BitVec 32 := Scalar.addi v2 c9_i32_1725
  let c32_i32_1726 : BitVec 32 := 32#32
  let v1921 : BitVec 32 := Scalar.remsi v1920 c32_i32_1726
  let c1_i32_1730 : BitVec 32 := 1#32
  let v1925 : BitVec 32 := Scalar.muli v1921 c1_i32_1730
  let v1926 : BitVec 32 := Scalar.addi c0_i32_1731 v1925
  v1926.toNat
def k0_dev110 (d0 : Dev nD) : Nat :=
  let c0_i32_1741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1735 : BitVec 32 := 10#32
  let v1934 : BitVec 32 := Scalar.addi v2 c10_i32_1735
  let c32_i32_1736 : BitVec 32 := 32#32
  let v1935 : BitVec 32 := Scalar.remsi v1934 c32_i32_1736
  let c1_i32_1740 : BitVec 32 := 1#32
  let v1939 : BitVec 32 := Scalar.muli v1935 c1_i32_1740
  let v1940 : BitVec 32 := Scalar.addi c0_i32_1741 v1939
  v1940.toNat
def k0_dev111 (d0 : Dev nD) : Nat :=
  let c0_i32_1751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1745 : BitVec 32 := 11#32
  let v1948 : BitVec 32 := Scalar.addi v2 c11_i32_1745
  let c32_i32_1746 : BitVec 32 := 32#32
  let v1949 : BitVec 32 := Scalar.remsi v1948 c32_i32_1746
  let c1_i32_1750 : BitVec 32 := 1#32
  let v1953 : BitVec 32 := Scalar.muli v1949 c1_i32_1750
  let v1954 : BitVec 32 := Scalar.addi c0_i32_1751 v1953
  v1954.toNat
def k0_dev112 (d0 : Dev nD) : Nat :=
  let c0_i32_1761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1755 : BitVec 32 := 12#32
  let v1962 : BitVec 32 := Scalar.addi v2 c12_i32_1755
  let c32_i32_1756 : BitVec 32 := 32#32
  let v1963 : BitVec 32 := Scalar.remsi v1962 c32_i32_1756
  let c1_i32_1760 : BitVec 32 := 1#32
  let v1967 : BitVec 32 := Scalar.muli v1963 c1_i32_1760
  let v1968 : BitVec 32 := Scalar.addi c0_i32_1761 v1967
  v1968.toNat
def k0_dev113 (d0 : Dev nD) : Nat :=
  let c0_i32_1771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1765 : BitVec 32 := 13#32
  let v1976 : BitVec 32 := Scalar.addi v2 c13_i32_1765
  let c32_i32_1766 : BitVec 32 := 32#32
  let v1977 : BitVec 32 := Scalar.remsi v1976 c32_i32_1766
  let c1_i32_1770 : BitVec 32 := 1#32
  let v1981 : BitVec 32 := Scalar.muli v1977 c1_i32_1770
  let v1982 : BitVec 32 := Scalar.addi c0_i32_1771 v1981
  v1982.toNat
def k0_dev114 (d0 : Dev nD) : Nat :=
  let c0_i32_1781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1775 : BitVec 32 := 14#32
  let v1990 : BitVec 32 := Scalar.addi v2 c14_i32_1775
  let c32_i32_1776 : BitVec 32 := 32#32
  let v1991 : BitVec 32 := Scalar.remsi v1990 c32_i32_1776
  let c1_i32_1780 : BitVec 32 := 1#32
  let v1995 : BitVec 32 := Scalar.muli v1991 c1_i32_1780
  let v1996 : BitVec 32 := Scalar.addi c0_i32_1781 v1995
  v1996.toNat
def k0_dev115 (d0 : Dev nD) : Nat :=
  let c0_i32_1791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1785 : BitVec 32 := 15#32
  let v2004 : BitVec 32 := Scalar.addi v2 c15_i32_1785
  let c32_i32_1786 : BitVec 32 := 32#32
  let v2005 : BitVec 32 := Scalar.remsi v2004 c32_i32_1786
  let c1_i32_1790 : BitVec 32 := 1#32
  let v2009 : BitVec 32 := Scalar.muli v2005 c1_i32_1790
  let v2010 : BitVec 32 := Scalar.addi c0_i32_1791 v2009
  v2010.toNat
def k0_dev116 (d0 : Dev nD) : Nat :=
  let c0_i32_1801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1795 : BitVec 32 := 16#32
  let v2018 : BitVec 32 := Scalar.addi v2 c16_i32_1795
  let c32_i32_1796 : BitVec 32 := 32#32
  let v2019 : BitVec 32 := Scalar.remsi v2018 c32_i32_1796
  let c1_i32_1800 : BitVec 32 := 1#32
  let v2023 : BitVec 32 := Scalar.muli v2019 c1_i32_1800
  let v2024 : BitVec 32 := Scalar.addi c0_i32_1801 v2023
  v2024.toNat
def k0_dev117 (d0 : Dev nD) : Nat :=
  let c0_i32_1896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1890 : BitVec 32 := 1#32
  let v2105 : BitVec 32 := Scalar.addi v2 c1_i32_1890
  let c32_i32_1891 : BitVec 32 := 32#32
  let v2106 : BitVec 32 := Scalar.remsi v2105 c32_i32_1891
  let c1_i32_1895 : BitVec 32 := 1#32
  let v2110 : BitVec 32 := Scalar.muli v2106 c1_i32_1895
  let v2111 : BitVec 32 := Scalar.addi c0_i32_1896 v2110
  v2111.toNat
def k0_dev118 (d0 : Dev nD) : Nat :=
  let c0_i32_1907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1901 : BitVec 32 := 2#32
  let v2119 : BitVec 32 := Scalar.addi v2 c2_i32_1901
  let c32_i32_1902 : BitVec 32 := 32#32
  let v2120 : BitVec 32 := Scalar.remsi v2119 c32_i32_1902
  let c1_i32_1906 : BitVec 32 := 1#32
  let v2124 : BitVec 32 := Scalar.muli v2120 c1_i32_1906
  let v2125 : BitVec 32 := Scalar.addi c0_i32_1907 v2124
  v2125.toNat
def k0_dev119 (d0 : Dev nD) : Nat :=
  let c0_i32_1918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1912 : BitVec 32 := 3#32
  let v2133 : BitVec 32 := Scalar.addi v2 c3_i32_1912
  let c32_i32_1913 : BitVec 32 := 32#32
  let v2134 : BitVec 32 := Scalar.remsi v2133 c32_i32_1913
  let c1_i32_1917 : BitVec 32 := 1#32
  let v2138 : BitVec 32 := Scalar.muli v2134 c1_i32_1917
  let v2139 : BitVec 32 := Scalar.addi c0_i32_1918 v2138
  v2139.toNat
def k0_dev120 (d0 : Dev nD) : Nat :=
  let c0_i32_1928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1922 : BitVec 32 := 4#32
  let v2147 : BitVec 32 := Scalar.addi v2 c4_i32_1922
  let c32_i32_1923 : BitVec 32 := 32#32
  let v2148 : BitVec 32 := Scalar.remsi v2147 c32_i32_1923
  let c1_i32_1927 : BitVec 32 := 1#32
  let v2152 : BitVec 32 := Scalar.muli v2148 c1_i32_1927
  let v2153 : BitVec 32 := Scalar.addi c0_i32_1928 v2152
  v2153.toNat
def k0_dev121 (d0 : Dev nD) : Nat :=
  let c0_i32_1938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1932 : BitVec 32 := 5#32
  let v2161 : BitVec 32 := Scalar.addi v2 c5_i32_1932
  let c32_i32_1933 : BitVec 32 := 32#32
  let v2162 : BitVec 32 := Scalar.remsi v2161 c32_i32_1933
  let c1_i32_1937 : BitVec 32 := 1#32
  let v2166 : BitVec 32 := Scalar.muli v2162 c1_i32_1937
  let v2167 : BitVec 32 := Scalar.addi c0_i32_1938 v2166
  v2167.toNat
def k0_dev122 (d0 : Dev nD) : Nat :=
  let c0_i32_1948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1942 : BitVec 32 := 6#32
  let v2175 : BitVec 32 := Scalar.addi v2 c6_i32_1942
  let c32_i32_1943 : BitVec 32 := 32#32
  let v2176 : BitVec 32 := Scalar.remsi v2175 c32_i32_1943
  let c1_i32_1947 : BitVec 32 := 1#32
  let v2180 : BitVec 32 := Scalar.muli v2176 c1_i32_1947
  let v2181 : BitVec 32 := Scalar.addi c0_i32_1948 v2180
  v2181.toNat
def k0_dev123 (d0 : Dev nD) : Nat :=
  let c0_i32_1958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1952 : BitVec 32 := 7#32
  let v2189 : BitVec 32 := Scalar.addi v2 c7_i32_1952
  let c32_i32_1953 : BitVec 32 := 32#32
  let v2190 : BitVec 32 := Scalar.remsi v2189 c32_i32_1953
  let c1_i32_1957 : BitVec 32 := 1#32
  let v2194 : BitVec 32 := Scalar.muli v2190 c1_i32_1957
  let v2195 : BitVec 32 := Scalar.addi c0_i32_1958 v2194
  v2195.toNat
def k0_dev124 (d0 : Dev nD) : Nat :=
  let c0_i32_1968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1962 : BitVec 32 := 8#32
  let v2203 : BitVec 32 := Scalar.addi v2 c8_i32_1962
  let c32_i32_1963 : BitVec 32 := 32#32
  let v2204 : BitVec 32 := Scalar.remsi v2203 c32_i32_1963
  let c1_i32_1967 : BitVec 32 := 1#32
  let v2208 : BitVec 32 := Scalar.muli v2204 c1_i32_1967
  let v2209 : BitVec 32 := Scalar.addi c0_i32_1968 v2208
  v2209.toNat
def k0_dev125 (d0 : Dev nD) : Nat :=
  let c0_i32_2700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2693 : BitVec 32 := 1#32
  let v2816 : BitVec 32 := Scalar.addi v2 c1_i32_2693
  let c32_i32_2694 : BitVec 32 := 32#32
  let v2817 : BitVec 32 := Scalar.remsi v2816 c32_i32_2694
  let c1_i32_2699 : BitVec 32 := 1#32
  let v2821 : BitVec 32 := Scalar.muli v2817 c1_i32_2699
  let v2822 : BitVec 32 := Scalar.addi c0_i32_2700 v2821
  v2822.toNat
def k0_dev126 (d0 : Dev nD) : Nat :=
  let c0_i32_2712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2705 : BitVec 32 := 2#32
  let v2831 : BitVec 32 := Scalar.addi v2 c2_i32_2705
  let c32_i32_2706 : BitVec 32 := 32#32
  let v2832 : BitVec 32 := Scalar.remsi v2831 c32_i32_2706
  let c1_i32_2711 : BitVec 32 := 1#32
  let v2836 : BitVec 32 := Scalar.muli v2832 c1_i32_2711
  let v2837 : BitVec 32 := Scalar.addi c0_i32_2712 v2836
  v2837.toNat
def k0_dev127 (d0 : Dev nD) : Nat :=
  let c0_i32_2724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2717 : BitVec 32 := 3#32
  let v2846 : BitVec 32 := Scalar.addi v2 c3_i32_2717
  let c32_i32_2718 : BitVec 32 := 32#32
  let v2847 : BitVec 32 := Scalar.remsi v2846 c32_i32_2718
  let c1_i32_2723 : BitVec 32 := 1#32
  let v2851 : BitVec 32 := Scalar.muli v2847 c1_i32_2723
  let v2852 : BitVec 32 := Scalar.addi c0_i32_2724 v2851
  v2852.toNat
def k0_dev128 (d0 : Dev nD) : Nat :=
  let c0_i32_2736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2729 : BitVec 32 := 4#32
  let v2861 : BitVec 32 := Scalar.addi v2 c4_i32_2729
  let c32_i32_2730 : BitVec 32 := 32#32
  let v2862 : BitVec 32 := Scalar.remsi v2861 c32_i32_2730
  let c1_i32_2735 : BitVec 32 := 1#32
  let v2866 : BitVec 32 := Scalar.muli v2862 c1_i32_2735
  let v2867 : BitVec 32 := Scalar.addi c0_i32_2736 v2866
  v2867.toNat
def k0_dev129 (d0 : Dev nD) : Nat :=
  let c0_i32_2748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2741 : BitVec 32 := 5#32
  let v2876 : BitVec 32 := Scalar.addi v2 c5_i32_2741
  let c32_i32_2742 : BitVec 32 := 32#32
  let v2877 : BitVec 32 := Scalar.remsi v2876 c32_i32_2742
  let c1_i32_2747 : BitVec 32 := 1#32
  let v2881 : BitVec 32 := Scalar.muli v2877 c1_i32_2747
  let v2882 : BitVec 32 := Scalar.addi c0_i32_2748 v2881
  v2882.toNat
def k0_dev130 (d0 : Dev nD) : Nat :=
  let c0_i32_2760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2753 : BitVec 32 := 6#32
  let v2891 : BitVec 32 := Scalar.addi v2 c6_i32_2753
  let c32_i32_2754 : BitVec 32 := 32#32
  let v2892 : BitVec 32 := Scalar.remsi v2891 c32_i32_2754
  let c1_i32_2759 : BitVec 32 := 1#32
  let v2896 : BitVec 32 := Scalar.muli v2892 c1_i32_2759
  let v2897 : BitVec 32 := Scalar.addi c0_i32_2760 v2896
  v2897.toNat
def k0_dev131 (d0 : Dev nD) : Nat :=
  let c0_i32_2772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2765 : BitVec 32 := 7#32
  let v2906 : BitVec 32 := Scalar.addi v2 c7_i32_2765
  let c32_i32_2766 : BitVec 32 := 32#32
  let v2907 : BitVec 32 := Scalar.remsi v2906 c32_i32_2766
  let c1_i32_2771 : BitVec 32 := 1#32
  let v2911 : BitVec 32 := Scalar.muli v2907 c1_i32_2771
  let v2912 : BitVec 32 := Scalar.addi c0_i32_2772 v2911
  v2912.toNat
def k0_dev132 (d0 : Dev nD) : Nat :=
  let c0_i32_2784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2777 : BitVec 32 := 8#32
  let v2921 : BitVec 32 := Scalar.addi v2 c8_i32_2777
  let c32_i32_2778 : BitVec 32 := 32#32
  let v2922 : BitVec 32 := Scalar.remsi v2921 c32_i32_2778
  let c1_i32_2783 : BitVec 32 := 1#32
  let v2926 : BitVec 32 := Scalar.muli v2922 c1_i32_2783
  let v2927 : BitVec 32 := Scalar.addi c0_i32_2784 v2926
  v2927.toNat
def k0_dev133 (d0 : Dev nD) : Nat :=
  let c0_i32_2796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2789 : BitVec 32 := 9#32
  let v2936 : BitVec 32 := Scalar.addi v2 c9_i32_2789
  let c32_i32_2790 : BitVec 32 := 32#32
  let v2937 : BitVec 32 := Scalar.remsi v2936 c32_i32_2790
  let c1_i32_2795 : BitVec 32 := 1#32
  let v2941 : BitVec 32 := Scalar.muli v2937 c1_i32_2795
  let v2942 : BitVec 32 := Scalar.addi c0_i32_2796 v2941
  v2942.toNat
def k0_dev134 (d0 : Dev nD) : Nat :=
  let c0_i32_2808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2801 : BitVec 32 := 10#32
  let v2951 : BitVec 32 := Scalar.addi v2 c10_i32_2801
  let c32_i32_2802 : BitVec 32 := 32#32
  let v2952 : BitVec 32 := Scalar.remsi v2951 c32_i32_2802
  let c1_i32_2807 : BitVec 32 := 1#32
  let v2956 : BitVec 32 := Scalar.muli v2952 c1_i32_2807
  let v2957 : BitVec 32 := Scalar.addi c0_i32_2808 v2956
  v2957.toNat
def k0_dev135 (d0 : Dev nD) : Nat :=
  let c0_i32_2820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2813 : BitVec 32 := 11#32
  let v2966 : BitVec 32 := Scalar.addi v2 c11_i32_2813
  let c32_i32_2814 : BitVec 32 := 32#32
  let v2967 : BitVec 32 := Scalar.remsi v2966 c32_i32_2814
  let c1_i32_2819 : BitVec 32 := 1#32
  let v2971 : BitVec 32 := Scalar.muli v2967 c1_i32_2819
  let v2972 : BitVec 32 := Scalar.addi c0_i32_2820 v2971
  v2972.toNat
def k0_dev136 (d0 : Dev nD) : Nat :=
  let c0_i32_2832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2825 : BitVec 32 := 12#32
  let v2981 : BitVec 32 := Scalar.addi v2 c12_i32_2825
  let c32_i32_2826 : BitVec 32 := 32#32
  let v2982 : BitVec 32 := Scalar.remsi v2981 c32_i32_2826
  let c1_i32_2831 : BitVec 32 := 1#32
  let v2986 : BitVec 32 := Scalar.muli v2982 c1_i32_2831
  let v2987 : BitVec 32 := Scalar.addi c0_i32_2832 v2986
  v2987.toNat
def k0_dev137 (d0 : Dev nD) : Nat :=
  let c0_i32_2844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2837 : BitVec 32 := 13#32
  let v2996 : BitVec 32 := Scalar.addi v2 c13_i32_2837
  let c32_i32_2838 : BitVec 32 := 32#32
  let v2997 : BitVec 32 := Scalar.remsi v2996 c32_i32_2838
  let c1_i32_2843 : BitVec 32 := 1#32
  let v3001 : BitVec 32 := Scalar.muli v2997 c1_i32_2843
  let v3002 : BitVec 32 := Scalar.addi c0_i32_2844 v3001
  v3002.toNat
def k0_dev138 (d0 : Dev nD) : Nat :=
  let c0_i32_2856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2849 : BitVec 32 := 14#32
  let v3011 : BitVec 32 := Scalar.addi v2 c14_i32_2849
  let c32_i32_2850 : BitVec 32 := 32#32
  let v3012 : BitVec 32 := Scalar.remsi v3011 c32_i32_2850
  let c1_i32_2855 : BitVec 32 := 1#32
  let v3016 : BitVec 32 := Scalar.muli v3012 c1_i32_2855
  let v3017 : BitVec 32 := Scalar.addi c0_i32_2856 v3016
  v3017.toNat
def k0_dev139 (d0 : Dev nD) : Nat :=
  let c0_i32_2868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2861 : BitVec 32 := 15#32
  let v3026 : BitVec 32 := Scalar.addi v2 c15_i32_2861
  let c32_i32_2862 : BitVec 32 := 32#32
  let v3027 : BitVec 32 := Scalar.remsi v3026 c32_i32_2862
  let c1_i32_2867 : BitVec 32 := 1#32
  let v3031 : BitVec 32 := Scalar.muli v3027 c1_i32_2867
  let v3032 : BitVec 32 := Scalar.addi c0_i32_2868 v3031
  v3032.toNat
def k0_dev140 (d0 : Dev nD) : Nat :=
  let c0_i32_2880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2873 : BitVec 32 := 16#32
  let v3041 : BitVec 32 := Scalar.addi v2 c16_i32_2873
  let c32_i32_2874 : BitVec 32 := 32#32
  let v3042 : BitVec 32 := Scalar.remsi v3041 c32_i32_2874
  let c1_i32_2879 : BitVec 32 := 1#32
  let v3046 : BitVec 32 := Scalar.muli v3042 c1_i32_2879
  let v3047 : BitVec 32 := Scalar.addi c0_i32_2880 v3046
  v3047.toNat
def k0_dev141 (d0 : Dev nD) : Nat :=
  let c0_i32_2892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2885 : BitVec 32 := 17#32
  let v3056 : BitVec 32 := Scalar.addi v2 c17_i32_2885
  let c32_i32_2886 : BitVec 32 := 32#32
  let v3057 : BitVec 32 := Scalar.remsi v3056 c32_i32_2886
  let c1_i32_2891 : BitVec 32 := 1#32
  let v3061 : BitVec 32 := Scalar.muli v3057 c1_i32_2891
  let v3062 : BitVec 32 := Scalar.addi c0_i32_2892 v3061
  v3062.toNat
def k0_dev142 (d0 : Dev nD) : Nat :=
  let c0_i32_2904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2897 : BitVec 32 := 18#32
  let v3071 : BitVec 32 := Scalar.addi v2 c18_i32_2897
  let c32_i32_2898 : BitVec 32 := 32#32
  let v3072 : BitVec 32 := Scalar.remsi v3071 c32_i32_2898
  let c1_i32_2903 : BitVec 32 := 1#32
  let v3076 : BitVec 32 := Scalar.muli v3072 c1_i32_2903
  let v3077 : BitVec 32 := Scalar.addi c0_i32_2904 v3076
  v3077.toNat
def k0_dev143 (d0 : Dev nD) : Nat :=
  let c0_i32_2916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2909 : BitVec 32 := 19#32
  let v3086 : BitVec 32 := Scalar.addi v2 c19_i32_2909
  let c32_i32_2910 : BitVec 32 := 32#32
  let v3087 : BitVec 32 := Scalar.remsi v3086 c32_i32_2910
  let c1_i32_2915 : BitVec 32 := 1#32
  let v3091 : BitVec 32 := Scalar.muli v3087 c1_i32_2915
  let v3092 : BitVec 32 := Scalar.addi c0_i32_2916 v3091
  v3092.toNat
def k0_dev144 (d0 : Dev nD) : Nat :=
  let c0_i32_2928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2921 : BitVec 32 := 20#32
  let v3101 : BitVec 32 := Scalar.addi v2 c20_i32_2921
  let c32_i32_2922 : BitVec 32 := 32#32
  let v3102 : BitVec 32 := Scalar.remsi v3101 c32_i32_2922
  let c1_i32_2927 : BitVec 32 := 1#32
  let v3106 : BitVec 32 := Scalar.muli v3102 c1_i32_2927
  let v3107 : BitVec 32 := Scalar.addi c0_i32_2928 v3106
  v3107.toNat
def k0_dev145 (d0 : Dev nD) : Nat :=
  let c0_i32_2940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2933 : BitVec 32 := 21#32
  let v3116 : BitVec 32 := Scalar.addi v2 c21_i32_2933
  let c32_i32_2934 : BitVec 32 := 32#32
  let v3117 : BitVec 32 := Scalar.remsi v3116 c32_i32_2934
  let c1_i32_2939 : BitVec 32 := 1#32
  let v3121 : BitVec 32 := Scalar.muli v3117 c1_i32_2939
  let v3122 : BitVec 32 := Scalar.addi c0_i32_2940 v3121
  v3122.toNat
def k0_dev146 (d0 : Dev nD) : Nat :=
  let c0_i32_2952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2945 : BitVec 32 := 22#32
  let v3131 : BitVec 32 := Scalar.addi v2 c22_i32_2945
  let c32_i32_2946 : BitVec 32 := 32#32
  let v3132 : BitVec 32 := Scalar.remsi v3131 c32_i32_2946
  let c1_i32_2951 : BitVec 32 := 1#32
  let v3136 : BitVec 32 := Scalar.muli v3132 c1_i32_2951
  let v3137 : BitVec 32 := Scalar.addi c0_i32_2952 v3136
  v3137.toNat
def k0_dev147 (d0 : Dev nD) : Nat :=
  let c0_i32_2964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2957 : BitVec 32 := 23#32
  let v3146 : BitVec 32 := Scalar.addi v2 c23_i32_2957
  let c32_i32_2958 : BitVec 32 := 32#32
  let v3147 : BitVec 32 := Scalar.remsi v3146 c32_i32_2958
  let c1_i32_2963 : BitVec 32 := 1#32
  let v3151 : BitVec 32 := Scalar.muli v3147 c1_i32_2963
  let v3152 : BitVec 32 := Scalar.addi c0_i32_2964 v3151
  v3152.toNat
def k0_dev148 (d0 : Dev nD) : Nat :=
  let c0_i32_2976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2969 : BitVec 32 := 24#32
  let v3161 : BitVec 32 := Scalar.addi v2 c24_i32_2969
  let c32_i32_2970 : BitVec 32 := 32#32
  let v3162 : BitVec 32 := Scalar.remsi v3161 c32_i32_2970
  let c1_i32_2975 : BitVec 32 := 1#32
  let v3166 : BitVec 32 := Scalar.muli v3162 c1_i32_2975
  let v3167 : BitVec 32 := Scalar.addi c0_i32_2976 v3166
  v3167.toNat
def k0_dev149 (d0 : Dev nD) : Nat :=
  let c0_i32_2988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2981 : BitVec 32 := 25#32
  let v3176 : BitVec 32 := Scalar.addi v2 c25_i32_2981
  let c32_i32_2982 : BitVec 32 := 32#32
  let v3177 : BitVec 32 := Scalar.remsi v3176 c32_i32_2982
  let c1_i32_2987 : BitVec 32 := 1#32
  let v3181 : BitVec 32 := Scalar.muli v3177 c1_i32_2987
  let v3182 : BitVec 32 := Scalar.addi c0_i32_2988 v3181
  v3182.toNat
def k0_dev150 (d0 : Dev nD) : Nat :=
  let c0_i32_3000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2993 : BitVec 32 := 26#32
  let v3191 : BitVec 32 := Scalar.addi v2 c26_i32_2993
  let c32_i32_2994 : BitVec 32 := 32#32
  let v3192 : BitVec 32 := Scalar.remsi v3191 c32_i32_2994
  let c1_i32_2999 : BitVec 32 := 1#32
  let v3196 : BitVec 32 := Scalar.muli v3192 c1_i32_2999
  let v3197 : BitVec 32 := Scalar.addi c0_i32_3000 v3196
  v3197.toNat
def k0_dev151 (d0 : Dev nD) : Nat :=
  let c0_i32_3012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3005 : BitVec 32 := 27#32
  let v3206 : BitVec 32 := Scalar.addi v2 c27_i32_3005
  let c32_i32_3006 : BitVec 32 := 32#32
  let v3207 : BitVec 32 := Scalar.remsi v3206 c32_i32_3006
  let c1_i32_3011 : BitVec 32 := 1#32
  let v3211 : BitVec 32 := Scalar.muli v3207 c1_i32_3011
  let v3212 : BitVec 32 := Scalar.addi c0_i32_3012 v3211
  v3212.toNat
def k0_dev152 (d0 : Dev nD) : Nat :=
  let c0_i32_3024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3017 : BitVec 32 := 28#32
  let v3221 : BitVec 32 := Scalar.addi v2 c28_i32_3017
  let c32_i32_3018 : BitVec 32 := 32#32
  let v3222 : BitVec 32 := Scalar.remsi v3221 c32_i32_3018
  let c1_i32_3023 : BitVec 32 := 1#32
  let v3226 : BitVec 32 := Scalar.muli v3222 c1_i32_3023
  let v3227 : BitVec 32 := Scalar.addi c0_i32_3024 v3226
  v3227.toNat
def k0_dev153 (d0 : Dev nD) : Nat :=
  let c0_i32_3036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3029 : BitVec 32 := 29#32
  let v3236 : BitVec 32 := Scalar.addi v2 c29_i32_3029
  let c32_i32_3030 : BitVec 32 := 32#32
  let v3237 : BitVec 32 := Scalar.remsi v3236 c32_i32_3030
  let c1_i32_3035 : BitVec 32 := 1#32
  let v3241 : BitVec 32 := Scalar.muli v3237 c1_i32_3035
  let v3242 : BitVec 32 := Scalar.addi c0_i32_3036 v3241
  v3242.toNat
def k0_dev154 (d0 : Dev nD) : Nat :=
  let c0_i32_3048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3041 : BitVec 32 := 30#32
  let v3251 : BitVec 32 := Scalar.addi v2 c30_i32_3041
  let c32_i32_3042 : BitVec 32 := 32#32
  let v3252 : BitVec 32 := Scalar.remsi v3251 c32_i32_3042
  let c1_i32_3047 : BitVec 32 := 1#32
  let v3256 : BitVec 32 := Scalar.muli v3252 c1_i32_3047
  let v3257 : BitVec 32 := Scalar.addi c0_i32_3048 v3256
  v3257.toNat
def k0_dev155 (d0 : Dev nD) : Nat :=
  let c0_i32_3060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3053 : BitVec 32 := 31#32
  let v3266 : BitVec 32 := Scalar.addi v2 c31_i32_3053
  let c32_i32_3054 : BitVec 32 := 32#32
  let v3267 : BitVec 32 := Scalar.remsi v3266 c32_i32_3054
  let c1_i32_3059 : BitVec 32 := 1#32
  let v3271 : BitVec 32 := Scalar.muli v3267 c1_i32_3059
  let v3272 : BitVec 32 := Scalar.addi c0_i32_3060 v3271
  v3272.toNat
def k0_dev156 (d0 : Dev nD) : Nat :=
  let c0_i32_3157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3151 : BitVec 32 := 25#32
  let v3358 : BitVec 32 := Scalar.addi v2 c25_i32_3151
  let c32_i32_3152 : BitVec 32 := 32#32
  let v3359 : BitVec 32 := Scalar.remsi v3358 c32_i32_3152
  let c1_i32_3156 : BitVec 32 := 1#32
  let v3363 : BitVec 32 := Scalar.muli v3359 c1_i32_3156
  let v3364 : BitVec 32 := Scalar.addi c0_i32_3157 v3363
  v3364.toNat
def k0_dev157 (d0 : Dev nD) : Nat :=
  let c0_i32_3168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3162 : BitVec 32 := 26#32
  let v3372 : BitVec 32 := Scalar.addi v2 c26_i32_3162
  let c32_i32_3163 : BitVec 32 := 32#32
  let v3373 : BitVec 32 := Scalar.remsi v3372 c32_i32_3163
  let c1_i32_3167 : BitVec 32 := 1#32
  let v3377 : BitVec 32 := Scalar.muli v3373 c1_i32_3167
  let v3378 : BitVec 32 := Scalar.addi c0_i32_3168 v3377
  v3378.toNat
def k0_dev158 (d0 : Dev nD) : Nat :=
  let c0_i32_3179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3173 : BitVec 32 := 27#32
  let v3386 : BitVec 32 := Scalar.addi v2 c27_i32_3173
  let c32_i32_3174 : BitVec 32 := 32#32
  let v3387 : BitVec 32 := Scalar.remsi v3386 c32_i32_3174
  let c1_i32_3178 : BitVec 32 := 1#32
  let v3391 : BitVec 32 := Scalar.muli v3387 c1_i32_3178
  let v3392 : BitVec 32 := Scalar.addi c0_i32_3179 v3391
  v3392.toNat
def k0_dev159 (d0 : Dev nD) : Nat :=
  let c0_i32_3190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3184 : BitVec 32 := 28#32
  let v3400 : BitVec 32 := Scalar.addi v2 c28_i32_3184
  let c32_i32_3185 : BitVec 32 := 32#32
  let v3401 : BitVec 32 := Scalar.remsi v3400 c32_i32_3185
  let c1_i32_3189 : BitVec 32 := 1#32
  let v3405 : BitVec 32 := Scalar.muli v3401 c1_i32_3189
  let v3406 : BitVec 32 := Scalar.addi c0_i32_3190 v3405
  v3406.toNat
def k0_dev160 (d0 : Dev nD) : Nat :=
  let c0_i32_3201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3195 : BitVec 32 := 29#32
  let v3414 : BitVec 32 := Scalar.addi v2 c29_i32_3195
  let c32_i32_3196 : BitVec 32 := 32#32
  let v3415 : BitVec 32 := Scalar.remsi v3414 c32_i32_3196
  let c1_i32_3200 : BitVec 32 := 1#32
  let v3419 : BitVec 32 := Scalar.muli v3415 c1_i32_3200
  let v3420 : BitVec 32 := Scalar.addi c0_i32_3201 v3419
  v3420.toNat
def k0_dev161 (d0 : Dev nD) : Nat :=
  let c0_i32_3212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3206 : BitVec 32 := 30#32
  let v3428 : BitVec 32 := Scalar.addi v2 c30_i32_3206
  let c32_i32_3207 : BitVec 32 := 32#32
  let v3429 : BitVec 32 := Scalar.remsi v3428 c32_i32_3207
  let c1_i32_3211 : BitVec 32 := 1#32
  let v3433 : BitVec 32 := Scalar.muli v3429 c1_i32_3211
  let v3434 : BitVec 32 := Scalar.addi c0_i32_3212 v3433
  v3434.toNat
def k0_dev162 (d0 : Dev nD) : Nat :=
  let c0_i32_3223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3217 : BitVec 32 := 31#32
  let v3442 : BitVec 32 := Scalar.addi v2 c31_i32_3217
  let c32_i32_3218 : BitVec 32 := 32#32
  let v3443 : BitVec 32 := Scalar.remsi v3442 c32_i32_3218
  let c1_i32_3222 : BitVec 32 := 1#32
  let v3447 : BitVec 32 := Scalar.muli v3443 c1_i32_3222
  let v3448 : BitVec 32 := Scalar.addi c0_i32_3223 v3447
  v3448.toNat
def k0_dev163 (d0 : Dev nD) : Nat :=
  let c0_i32_3321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3315 : BitVec 32 := 17#32
  let v3529 : BitVec 32 := Scalar.addi v2 c17_i32_3315
  let c32_i32_3316 : BitVec 32 := 32#32
  let v3530 : BitVec 32 := Scalar.remsi v3529 c32_i32_3316
  let c1_i32_3320 : BitVec 32 := 1#32
  let v3534 : BitVec 32 := Scalar.muli v3530 c1_i32_3320
  let v3535 : BitVec 32 := Scalar.addi c0_i32_3321 v3534
  v3535.toNat
def k0_dev164 (d0 : Dev nD) : Nat :=
  let c0_i32_3332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3326 : BitVec 32 := 18#32
  let v3543 : BitVec 32 := Scalar.addi v2 c18_i32_3326
  let c32_i32_3327 : BitVec 32 := 32#32
  let v3544 : BitVec 32 := Scalar.remsi v3543 c32_i32_3327
  let c1_i32_3331 : BitVec 32 := 1#32
  let v3548 : BitVec 32 := Scalar.muli v3544 c1_i32_3331
  let v3549 : BitVec 32 := Scalar.addi c0_i32_3332 v3548
  v3549.toNat
def k0_dev165 (d0 : Dev nD) : Nat :=
  let c0_i32_3343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3337 : BitVec 32 := 19#32
  let v3557 : BitVec 32 := Scalar.addi v2 c19_i32_3337
  let c32_i32_3338 : BitVec 32 := 32#32
  let v3558 : BitVec 32 := Scalar.remsi v3557 c32_i32_3338
  let c1_i32_3342 : BitVec 32 := 1#32
  let v3562 : BitVec 32 := Scalar.muli v3558 c1_i32_3342
  let v3563 : BitVec 32 := Scalar.addi c0_i32_3343 v3562
  v3563.toNat
def k0_dev166 (d0 : Dev nD) : Nat :=
  let c0_i32_3354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3348 : BitVec 32 := 20#32
  let v3571 : BitVec 32 := Scalar.addi v2 c20_i32_3348
  let c32_i32_3349 : BitVec 32 := 32#32
  let v3572 : BitVec 32 := Scalar.remsi v3571 c32_i32_3349
  let c1_i32_3353 : BitVec 32 := 1#32
  let v3576 : BitVec 32 := Scalar.muli v3572 c1_i32_3353
  let v3577 : BitVec 32 := Scalar.addi c0_i32_3354 v3576
  v3577.toNat
def k0_dev167 (d0 : Dev nD) : Nat :=
  let c0_i32_3365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3359 : BitVec 32 := 21#32
  let v3585 : BitVec 32 := Scalar.addi v2 c21_i32_3359
  let c32_i32_3360 : BitVec 32 := 32#32
  let v3586 : BitVec 32 := Scalar.remsi v3585 c32_i32_3360
  let c1_i32_3364 : BitVec 32 := 1#32
  let v3590 : BitVec 32 := Scalar.muli v3586 c1_i32_3364
  let v3591 : BitVec 32 := Scalar.addi c0_i32_3365 v3590
  v3591.toNat
def k0_dev168 (d0 : Dev nD) : Nat :=
  let c0_i32_3376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3370 : BitVec 32 := 22#32
  let v3599 : BitVec 32 := Scalar.addi v2 c22_i32_3370
  let c32_i32_3371 : BitVec 32 := 32#32
  let v3600 : BitVec 32 := Scalar.remsi v3599 c32_i32_3371
  let c1_i32_3375 : BitVec 32 := 1#32
  let v3604 : BitVec 32 := Scalar.muli v3600 c1_i32_3375
  let v3605 : BitVec 32 := Scalar.addi c0_i32_3376 v3604
  v3605.toNat
def k0_dev169 (d0 : Dev nD) : Nat :=
  let c0_i32_3387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3381 : BitVec 32 := 23#32
  let v3613 : BitVec 32 := Scalar.addi v2 c23_i32_3381
  let c32_i32_3382 : BitVec 32 := 32#32
  let v3614 : BitVec 32 := Scalar.remsi v3613 c32_i32_3382
  let c1_i32_3386 : BitVec 32 := 1#32
  let v3618 : BitVec 32 := Scalar.muli v3614 c1_i32_3386
  let v3619 : BitVec 32 := Scalar.addi c0_i32_3387 v3618
  v3619.toNat
def k0_dev170 (d0 : Dev nD) : Nat :=
  let c0_i32_3398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3392 : BitVec 32 := 24#32
  let v3627 : BitVec 32 := Scalar.addi v2 c24_i32_3392
  let c32_i32_3393 : BitVec 32 := 32#32
  let v3628 : BitVec 32 := Scalar.remsi v3627 c32_i32_3393
  let c1_i32_3397 : BitVec 32 := 1#32
  let v3632 : BitVec 32 := Scalar.muli v3628 c1_i32_3397
  let v3633 : BitVec 32 := Scalar.addi c0_i32_3398 v3632
  v3633.toNat
def k0_dev171 (d0 : Dev nD) : Nat :=
  let c0_i32_3496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3490 : BitVec 32 := 9#32
  let v3714 : BitVec 32 := Scalar.addi v2 c9_i32_3490
  let c32_i32_3491 : BitVec 32 := 32#32
  let v3715 : BitVec 32 := Scalar.remsi v3714 c32_i32_3491
  let c1_i32_3495 : BitVec 32 := 1#32
  let v3719 : BitVec 32 := Scalar.muli v3715 c1_i32_3495
  let v3720 : BitVec 32 := Scalar.addi c0_i32_3496 v3719
  v3720.toNat
def k0_dev172 (d0 : Dev nD) : Nat :=
  let c0_i32_3507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3501 : BitVec 32 := 10#32
  let v3728 : BitVec 32 := Scalar.addi v2 c10_i32_3501
  let c32_i32_3502 : BitVec 32 := 32#32
  let v3729 : BitVec 32 := Scalar.remsi v3728 c32_i32_3502
  let c1_i32_3506 : BitVec 32 := 1#32
  let v3733 : BitVec 32 := Scalar.muli v3729 c1_i32_3506
  let v3734 : BitVec 32 := Scalar.addi c0_i32_3507 v3733
  v3734.toNat
def k0_dev173 (d0 : Dev nD) : Nat :=
  let c0_i32_3518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3512 : BitVec 32 := 11#32
  let v3742 : BitVec 32 := Scalar.addi v2 c11_i32_3512
  let c32_i32_3513 : BitVec 32 := 32#32
  let v3743 : BitVec 32 := Scalar.remsi v3742 c32_i32_3513
  let c1_i32_3517 : BitVec 32 := 1#32
  let v3747 : BitVec 32 := Scalar.muli v3743 c1_i32_3517
  let v3748 : BitVec 32 := Scalar.addi c0_i32_3518 v3747
  v3748.toNat
def k0_dev174 (d0 : Dev nD) : Nat :=
  let c0_i32_3529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3523 : BitVec 32 := 12#32
  let v3756 : BitVec 32 := Scalar.addi v2 c12_i32_3523
  let c32_i32_3524 : BitVec 32 := 32#32
  let v3757 : BitVec 32 := Scalar.remsi v3756 c32_i32_3524
  let c1_i32_3528 : BitVec 32 := 1#32
  let v3761 : BitVec 32 := Scalar.muli v3757 c1_i32_3528
  let v3762 : BitVec 32 := Scalar.addi c0_i32_3529 v3761
  v3762.toNat
def k0_dev175 (d0 : Dev nD) : Nat :=
  let c0_i32_3540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3534 : BitVec 32 := 13#32
  let v3770 : BitVec 32 := Scalar.addi v2 c13_i32_3534
  let c32_i32_3535 : BitVec 32 := 32#32
  let v3771 : BitVec 32 := Scalar.remsi v3770 c32_i32_3535
  let c1_i32_3539 : BitVec 32 := 1#32
  let v3775 : BitVec 32 := Scalar.muli v3771 c1_i32_3539
  let v3776 : BitVec 32 := Scalar.addi c0_i32_3540 v3775
  v3776.toNat
def k0_dev176 (d0 : Dev nD) : Nat :=
  let c0_i32_3551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3545 : BitVec 32 := 14#32
  let v3784 : BitVec 32 := Scalar.addi v2 c14_i32_3545
  let c32_i32_3546 : BitVec 32 := 32#32
  let v3785 : BitVec 32 := Scalar.remsi v3784 c32_i32_3546
  let c1_i32_3550 : BitVec 32 := 1#32
  let v3789 : BitVec 32 := Scalar.muli v3785 c1_i32_3550
  let v3790 : BitVec 32 := Scalar.addi c0_i32_3551 v3789
  v3790.toNat
def k0_dev177 (d0 : Dev nD) : Nat :=
  let c0_i32_3562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3556 : BitVec 32 := 15#32
  let v3798 : BitVec 32 := Scalar.addi v2 c15_i32_3556
  let c32_i32_3557 : BitVec 32 := 32#32
  let v3799 : BitVec 32 := Scalar.remsi v3798 c32_i32_3557
  let c1_i32_3561 : BitVec 32 := 1#32
  let v3803 : BitVec 32 := Scalar.muli v3799 c1_i32_3561
  let v3804 : BitVec 32 := Scalar.addi c0_i32_3562 v3803
  v3804.toNat
def k0_dev178 (d0 : Dev nD) : Nat :=
  let c0_i32_3573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3567 : BitVec 32 := 16#32
  let v3812 : BitVec 32 := Scalar.addi v2 c16_i32_3567
  let c32_i32_3568 : BitVec 32 := 32#32
  let v3813 : BitVec 32 := Scalar.remsi v3812 c32_i32_3568
  let c1_i32_3572 : BitVec 32 := 1#32
  let v3817 : BitVec 32 := Scalar.muli v3813 c1_i32_3572
  let v3818 : BitVec 32 := Scalar.addi c0_i32_3573 v3817
  v3818.toNat
def k0_dev179 (d0 : Dev nD) : Nat :=
  let c0_i32_3671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3665 : BitVec 32 := 1#32
  let v3899 : BitVec 32 := Scalar.addi v2 c1_i32_3665
  let c32_i32_3666 : BitVec 32 := 32#32
  let v3900 : BitVec 32 := Scalar.remsi v3899 c32_i32_3666
  let c1_i32_3670 : BitVec 32 := 1#32
  let v3904 : BitVec 32 := Scalar.muli v3900 c1_i32_3670
  let v3905 : BitVec 32 := Scalar.addi c0_i32_3671 v3904
  v3905.toNat
def k0_dev180 (d0 : Dev nD) : Nat :=
  let c0_i32_3682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3676 : BitVec 32 := 2#32
  let v3913 : BitVec 32 := Scalar.addi v2 c2_i32_3676
  let c32_i32_3677 : BitVec 32 := 32#32
  let v3914 : BitVec 32 := Scalar.remsi v3913 c32_i32_3677
  let c1_i32_3681 : BitVec 32 := 1#32
  let v3918 : BitVec 32 := Scalar.muli v3914 c1_i32_3681
  let v3919 : BitVec 32 := Scalar.addi c0_i32_3682 v3918
  v3919.toNat
def k0_dev181 (d0 : Dev nD) : Nat :=
  let c0_i32_3693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3687 : BitVec 32 := 3#32
  let v3927 : BitVec 32 := Scalar.addi v2 c3_i32_3687
  let c32_i32_3688 : BitVec 32 := 32#32
  let v3928 : BitVec 32 := Scalar.remsi v3927 c32_i32_3688
  let c1_i32_3692 : BitVec 32 := 1#32
  let v3932 : BitVec 32 := Scalar.muli v3928 c1_i32_3692
  let v3933 : BitVec 32 := Scalar.addi c0_i32_3693 v3932
  v3933.toNat
def k0_dev182 (d0 : Dev nD) : Nat :=
  let c0_i32_3704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3698 : BitVec 32 := 4#32
  let v3941 : BitVec 32 := Scalar.addi v2 c4_i32_3698
  let c32_i32_3699 : BitVec 32 := 32#32
  let v3942 : BitVec 32 := Scalar.remsi v3941 c32_i32_3699
  let c1_i32_3703 : BitVec 32 := 1#32
  let v3946 : BitVec 32 := Scalar.muli v3942 c1_i32_3703
  let v3947 : BitVec 32 := Scalar.addi c0_i32_3704 v3946
  v3947.toNat
def k0_dev183 (d0 : Dev nD) : Nat :=
  let c0_i32_3715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3709 : BitVec 32 := 5#32
  let v3955 : BitVec 32 := Scalar.addi v2 c5_i32_3709
  let c32_i32_3710 : BitVec 32 := 32#32
  let v3956 : BitVec 32 := Scalar.remsi v3955 c32_i32_3710
  let c1_i32_3714 : BitVec 32 := 1#32
  let v3960 : BitVec 32 := Scalar.muli v3956 c1_i32_3714
  let v3961 : BitVec 32 := Scalar.addi c0_i32_3715 v3960
  v3961.toNat
def k0_dev184 (d0 : Dev nD) : Nat :=
  let c0_i32_3726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3720 : BitVec 32 := 6#32
  let v3969 : BitVec 32 := Scalar.addi v2 c6_i32_3720
  let c32_i32_3721 : BitVec 32 := 32#32
  let v3970 : BitVec 32 := Scalar.remsi v3969 c32_i32_3721
  let c1_i32_3725 : BitVec 32 := 1#32
  let v3974 : BitVec 32 := Scalar.muli v3970 c1_i32_3725
  let v3975 : BitVec 32 := Scalar.addi c0_i32_3726 v3974
  v3975.toNat
def k0_dev185 (d0 : Dev nD) : Nat :=
  let c0_i32_3737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3731 : BitVec 32 := 7#32
  let v3983 : BitVec 32 := Scalar.addi v2 c7_i32_3731
  let c32_i32_3732 : BitVec 32 := 32#32
  let v3984 : BitVec 32 := Scalar.remsi v3983 c32_i32_3732
  let c1_i32_3736 : BitVec 32 := 1#32
  let v3988 : BitVec 32 := Scalar.muli v3984 c1_i32_3736
  let v3989 : BitVec 32 := Scalar.addi c0_i32_3737 v3988
  v3989.toNat
def k0_dev186 (d0 : Dev nD) : Nat :=
  let c0_i32_3748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3742 : BitVec 32 := 8#32
  let v3997 : BitVec 32 := Scalar.addi v2 c8_i32_3742
  let c32_i32_3743 : BitVec 32 := 32#32
  let v3998 : BitVec 32 := Scalar.remsi v3997 c32_i32_3743
  let c1_i32_3747 : BitVec 32 := 1#32
  let v4002 : BitVec 32 := Scalar.muli v3998 c1_i32_3747
  let v4003 : BitVec 32 := Scalar.addi c0_i32_3748 v4002
  v4003.toNat
def k0_dev187 (d0 : Dev nD) : Nat :=
  let c0_i32_4481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4474 : BitVec 32 := 1#32
  let v4610 : BitVec 32 := Scalar.addi v2 c1_i32_4474
  let c32_i32_4475 : BitVec 32 := 32#32
  let v4611 : BitVec 32 := Scalar.remsi v4610 c32_i32_4475
  let c1_i32_4480 : BitVec 32 := 1#32
  let v4615 : BitVec 32 := Scalar.muli v4611 c1_i32_4480
  let v4616 : BitVec 32 := Scalar.addi c0_i32_4481 v4615
  v4616.toNat
def k0_dev188 (d0 : Dev nD) : Nat :=
  let c0_i32_4493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4486 : BitVec 32 := 2#32
  let v4625 : BitVec 32 := Scalar.addi v2 c2_i32_4486
  let c32_i32_4487 : BitVec 32 := 32#32
  let v4626 : BitVec 32 := Scalar.remsi v4625 c32_i32_4487
  let c1_i32_4492 : BitVec 32 := 1#32
  let v4630 : BitVec 32 := Scalar.muli v4626 c1_i32_4492
  let v4631 : BitVec 32 := Scalar.addi c0_i32_4493 v4630
  v4631.toNat
def k0_dev189 (d0 : Dev nD) : Nat :=
  let c0_i32_4505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4498 : BitVec 32 := 3#32
  let v4640 : BitVec 32 := Scalar.addi v2 c3_i32_4498
  let c32_i32_4499 : BitVec 32 := 32#32
  let v4641 : BitVec 32 := Scalar.remsi v4640 c32_i32_4499
  let c1_i32_4504 : BitVec 32 := 1#32
  let v4645 : BitVec 32 := Scalar.muli v4641 c1_i32_4504
  let v4646 : BitVec 32 := Scalar.addi c0_i32_4505 v4645
  v4646.toNat
def k0_dev190 (d0 : Dev nD) : Nat :=
  let c0_i32_4517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4510 : BitVec 32 := 4#32
  let v4655 : BitVec 32 := Scalar.addi v2 c4_i32_4510
  let c32_i32_4511 : BitVec 32 := 32#32
  let v4656 : BitVec 32 := Scalar.remsi v4655 c32_i32_4511
  let c1_i32_4516 : BitVec 32 := 1#32
  let v4660 : BitVec 32 := Scalar.muli v4656 c1_i32_4516
  let v4661 : BitVec 32 := Scalar.addi c0_i32_4517 v4660
  v4661.toNat
def k0_dev191 (d0 : Dev nD) : Nat :=
  let c0_i32_4529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4522 : BitVec 32 := 5#32
  let v4670 : BitVec 32 := Scalar.addi v2 c5_i32_4522
  let c32_i32_4523 : BitVec 32 := 32#32
  let v4671 : BitVec 32 := Scalar.remsi v4670 c32_i32_4523
  let c1_i32_4528 : BitVec 32 := 1#32
  let v4675 : BitVec 32 := Scalar.muli v4671 c1_i32_4528
  let v4676 : BitVec 32 := Scalar.addi c0_i32_4529 v4675
  v4676.toNat
def k0_dev192 (d0 : Dev nD) : Nat :=
  let c0_i32_4541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4534 : BitVec 32 := 6#32
  let v4685 : BitVec 32 := Scalar.addi v2 c6_i32_4534
  let c32_i32_4535 : BitVec 32 := 32#32
  let v4686 : BitVec 32 := Scalar.remsi v4685 c32_i32_4535
  let c1_i32_4540 : BitVec 32 := 1#32
  let v4690 : BitVec 32 := Scalar.muli v4686 c1_i32_4540
  let v4691 : BitVec 32 := Scalar.addi c0_i32_4541 v4690
  v4691.toNat
def k0_dev193 (d0 : Dev nD) : Nat :=
  let c0_i32_4553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4546 : BitVec 32 := 7#32
  let v4700 : BitVec 32 := Scalar.addi v2 c7_i32_4546
  let c32_i32_4547 : BitVec 32 := 32#32
  let v4701 : BitVec 32 := Scalar.remsi v4700 c32_i32_4547
  let c1_i32_4552 : BitVec 32 := 1#32
  let v4705 : BitVec 32 := Scalar.muli v4701 c1_i32_4552
  let v4706 : BitVec 32 := Scalar.addi c0_i32_4553 v4705
  v4706.toNat
def k0_dev194 (d0 : Dev nD) : Nat :=
  let c0_i32_4565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4558 : BitVec 32 := 8#32
  let v4715 : BitVec 32 := Scalar.addi v2 c8_i32_4558
  let c32_i32_4559 : BitVec 32 := 32#32
  let v4716 : BitVec 32 := Scalar.remsi v4715 c32_i32_4559
  let c1_i32_4564 : BitVec 32 := 1#32
  let v4720 : BitVec 32 := Scalar.muli v4716 c1_i32_4564
  let v4721 : BitVec 32 := Scalar.addi c0_i32_4565 v4720
  v4721.toNat
def k0_dev195 (d0 : Dev nD) : Nat :=
  let c0_i32_4577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4570 : BitVec 32 := 9#32
  let v4730 : BitVec 32 := Scalar.addi v2 c9_i32_4570
  let c32_i32_4571 : BitVec 32 := 32#32
  let v4731 : BitVec 32 := Scalar.remsi v4730 c32_i32_4571
  let c1_i32_4576 : BitVec 32 := 1#32
  let v4735 : BitVec 32 := Scalar.muli v4731 c1_i32_4576
  let v4736 : BitVec 32 := Scalar.addi c0_i32_4577 v4735
  v4736.toNat
def k0_dev196 (d0 : Dev nD) : Nat :=
  let c0_i32_4589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4582 : BitVec 32 := 10#32
  let v4745 : BitVec 32 := Scalar.addi v2 c10_i32_4582
  let c32_i32_4583 : BitVec 32 := 32#32
  let v4746 : BitVec 32 := Scalar.remsi v4745 c32_i32_4583
  let c1_i32_4588 : BitVec 32 := 1#32
  let v4750 : BitVec 32 := Scalar.muli v4746 c1_i32_4588
  let v4751 : BitVec 32 := Scalar.addi c0_i32_4589 v4750
  v4751.toNat
def k0_dev197 (d0 : Dev nD) : Nat :=
  let c0_i32_4601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4594 : BitVec 32 := 11#32
  let v4760 : BitVec 32 := Scalar.addi v2 c11_i32_4594
  let c32_i32_4595 : BitVec 32 := 32#32
  let v4761 : BitVec 32 := Scalar.remsi v4760 c32_i32_4595
  let c1_i32_4600 : BitVec 32 := 1#32
  let v4765 : BitVec 32 := Scalar.muli v4761 c1_i32_4600
  let v4766 : BitVec 32 := Scalar.addi c0_i32_4601 v4765
  v4766.toNat
def k0_dev198 (d0 : Dev nD) : Nat :=
  let c0_i32_4613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4606 : BitVec 32 := 12#32
  let v4775 : BitVec 32 := Scalar.addi v2 c12_i32_4606
  let c32_i32_4607 : BitVec 32 := 32#32
  let v4776 : BitVec 32 := Scalar.remsi v4775 c32_i32_4607
  let c1_i32_4612 : BitVec 32 := 1#32
  let v4780 : BitVec 32 := Scalar.muli v4776 c1_i32_4612
  let v4781 : BitVec 32 := Scalar.addi c0_i32_4613 v4780
  v4781.toNat
def k0_dev199 (d0 : Dev nD) : Nat :=
  let c0_i32_4625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4618 : BitVec 32 := 13#32
  let v4790 : BitVec 32 := Scalar.addi v2 c13_i32_4618
  let c32_i32_4619 : BitVec 32 := 32#32
  let v4791 : BitVec 32 := Scalar.remsi v4790 c32_i32_4619
  let c1_i32_4624 : BitVec 32 := 1#32
  let v4795 : BitVec 32 := Scalar.muli v4791 c1_i32_4624
  let v4796 : BitVec 32 := Scalar.addi c0_i32_4625 v4795
  v4796.toNat
def k0_dev200 (d0 : Dev nD) : Nat :=
  let c0_i32_4637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4630 : BitVec 32 := 14#32
  let v4805 : BitVec 32 := Scalar.addi v2 c14_i32_4630
  let c32_i32_4631 : BitVec 32 := 32#32
  let v4806 : BitVec 32 := Scalar.remsi v4805 c32_i32_4631
  let c1_i32_4636 : BitVec 32 := 1#32
  let v4810 : BitVec 32 := Scalar.muli v4806 c1_i32_4636
  let v4811 : BitVec 32 := Scalar.addi c0_i32_4637 v4810
  v4811.toNat
def k0_dev201 (d0 : Dev nD) : Nat :=
  let c0_i32_4649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4642 : BitVec 32 := 15#32
  let v4820 : BitVec 32 := Scalar.addi v2 c15_i32_4642
  let c32_i32_4643 : BitVec 32 := 32#32
  let v4821 : BitVec 32 := Scalar.remsi v4820 c32_i32_4643
  let c1_i32_4648 : BitVec 32 := 1#32
  let v4825 : BitVec 32 := Scalar.muli v4821 c1_i32_4648
  let v4826 : BitVec 32 := Scalar.addi c0_i32_4649 v4825
  v4826.toNat
def k0_dev202 (d0 : Dev nD) : Nat :=
  let c0_i32_4661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4654 : BitVec 32 := 16#32
  let v4835 : BitVec 32 := Scalar.addi v2 c16_i32_4654
  let c32_i32_4655 : BitVec 32 := 32#32
  let v4836 : BitVec 32 := Scalar.remsi v4835 c32_i32_4655
  let c1_i32_4660 : BitVec 32 := 1#32
  let v4840 : BitVec 32 := Scalar.muli v4836 c1_i32_4660
  let v4841 : BitVec 32 := Scalar.addi c0_i32_4661 v4840
  v4841.toNat
def k0_dev203 (d0 : Dev nD) : Nat :=
  let c0_i32_4673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4666 : BitVec 32 := 17#32
  let v4850 : BitVec 32 := Scalar.addi v2 c17_i32_4666
  let c32_i32_4667 : BitVec 32 := 32#32
  let v4851 : BitVec 32 := Scalar.remsi v4850 c32_i32_4667
  let c1_i32_4672 : BitVec 32 := 1#32
  let v4855 : BitVec 32 := Scalar.muli v4851 c1_i32_4672
  let v4856 : BitVec 32 := Scalar.addi c0_i32_4673 v4855
  v4856.toNat
def k0_dev204 (d0 : Dev nD) : Nat :=
  let c0_i32_4685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4678 : BitVec 32 := 18#32
  let v4865 : BitVec 32 := Scalar.addi v2 c18_i32_4678
  let c32_i32_4679 : BitVec 32 := 32#32
  let v4866 : BitVec 32 := Scalar.remsi v4865 c32_i32_4679
  let c1_i32_4684 : BitVec 32 := 1#32
  let v4870 : BitVec 32 := Scalar.muli v4866 c1_i32_4684
  let v4871 : BitVec 32 := Scalar.addi c0_i32_4685 v4870
  v4871.toNat
def k0_dev205 (d0 : Dev nD) : Nat :=
  let c0_i32_4697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4690 : BitVec 32 := 19#32
  let v4880 : BitVec 32 := Scalar.addi v2 c19_i32_4690
  let c32_i32_4691 : BitVec 32 := 32#32
  let v4881 : BitVec 32 := Scalar.remsi v4880 c32_i32_4691
  let c1_i32_4696 : BitVec 32 := 1#32
  let v4885 : BitVec 32 := Scalar.muli v4881 c1_i32_4696
  let v4886 : BitVec 32 := Scalar.addi c0_i32_4697 v4885
  v4886.toNat
def k0_dev206 (d0 : Dev nD) : Nat :=
  let c0_i32_4709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4702 : BitVec 32 := 20#32
  let v4895 : BitVec 32 := Scalar.addi v2 c20_i32_4702
  let c32_i32_4703 : BitVec 32 := 32#32
  let v4896 : BitVec 32 := Scalar.remsi v4895 c32_i32_4703
  let c1_i32_4708 : BitVec 32 := 1#32
  let v4900 : BitVec 32 := Scalar.muli v4896 c1_i32_4708
  let v4901 : BitVec 32 := Scalar.addi c0_i32_4709 v4900
  v4901.toNat
def k0_dev207 (d0 : Dev nD) : Nat :=
  let c0_i32_4721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4714 : BitVec 32 := 21#32
  let v4910 : BitVec 32 := Scalar.addi v2 c21_i32_4714
  let c32_i32_4715 : BitVec 32 := 32#32
  let v4911 : BitVec 32 := Scalar.remsi v4910 c32_i32_4715
  let c1_i32_4720 : BitVec 32 := 1#32
  let v4915 : BitVec 32 := Scalar.muli v4911 c1_i32_4720
  let v4916 : BitVec 32 := Scalar.addi c0_i32_4721 v4915
  v4916.toNat
def k0_dev208 (d0 : Dev nD) : Nat :=
  let c0_i32_4733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4726 : BitVec 32 := 22#32
  let v4925 : BitVec 32 := Scalar.addi v2 c22_i32_4726
  let c32_i32_4727 : BitVec 32 := 32#32
  let v4926 : BitVec 32 := Scalar.remsi v4925 c32_i32_4727
  let c1_i32_4732 : BitVec 32 := 1#32
  let v4930 : BitVec 32 := Scalar.muli v4926 c1_i32_4732
  let v4931 : BitVec 32 := Scalar.addi c0_i32_4733 v4930
  v4931.toNat
def k0_dev209 (d0 : Dev nD) : Nat :=
  let c0_i32_4745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4738 : BitVec 32 := 23#32
  let v4940 : BitVec 32 := Scalar.addi v2 c23_i32_4738
  let c32_i32_4739 : BitVec 32 := 32#32
  let v4941 : BitVec 32 := Scalar.remsi v4940 c32_i32_4739
  let c1_i32_4744 : BitVec 32 := 1#32
  let v4945 : BitVec 32 := Scalar.muli v4941 c1_i32_4744
  let v4946 : BitVec 32 := Scalar.addi c0_i32_4745 v4945
  v4946.toNat
def k0_dev210 (d0 : Dev nD) : Nat :=
  let c0_i32_4757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4750 : BitVec 32 := 24#32
  let v4955 : BitVec 32 := Scalar.addi v2 c24_i32_4750
  let c32_i32_4751 : BitVec 32 := 32#32
  let v4956 : BitVec 32 := Scalar.remsi v4955 c32_i32_4751
  let c1_i32_4756 : BitVec 32 := 1#32
  let v4960 : BitVec 32 := Scalar.muli v4956 c1_i32_4756
  let v4961 : BitVec 32 := Scalar.addi c0_i32_4757 v4960
  v4961.toNat
def k0_dev211 (d0 : Dev nD) : Nat :=
  let c0_i32_4769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4762 : BitVec 32 := 25#32
  let v4970 : BitVec 32 := Scalar.addi v2 c25_i32_4762
  let c32_i32_4763 : BitVec 32 := 32#32
  let v4971 : BitVec 32 := Scalar.remsi v4970 c32_i32_4763
  let c1_i32_4768 : BitVec 32 := 1#32
  let v4975 : BitVec 32 := Scalar.muli v4971 c1_i32_4768
  let v4976 : BitVec 32 := Scalar.addi c0_i32_4769 v4975
  v4976.toNat
def k0_dev212 (d0 : Dev nD) : Nat :=
  let c0_i32_4781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4774 : BitVec 32 := 26#32
  let v4985 : BitVec 32 := Scalar.addi v2 c26_i32_4774
  let c32_i32_4775 : BitVec 32 := 32#32
  let v4986 : BitVec 32 := Scalar.remsi v4985 c32_i32_4775
  let c1_i32_4780 : BitVec 32 := 1#32
  let v4990 : BitVec 32 := Scalar.muli v4986 c1_i32_4780
  let v4991 : BitVec 32 := Scalar.addi c0_i32_4781 v4990
  v4991.toNat
def k0_dev213 (d0 : Dev nD) : Nat :=
  let c0_i32_4793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4786 : BitVec 32 := 27#32
  let v5000 : BitVec 32 := Scalar.addi v2 c27_i32_4786
  let c32_i32_4787 : BitVec 32 := 32#32
  let v5001 : BitVec 32 := Scalar.remsi v5000 c32_i32_4787
  let c1_i32_4792 : BitVec 32 := 1#32
  let v5005 : BitVec 32 := Scalar.muli v5001 c1_i32_4792
  let v5006 : BitVec 32 := Scalar.addi c0_i32_4793 v5005
  v5006.toNat
def k0_dev214 (d0 : Dev nD) : Nat :=
  let c0_i32_4805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4798 : BitVec 32 := 28#32
  let v5015 : BitVec 32 := Scalar.addi v2 c28_i32_4798
  let c32_i32_4799 : BitVec 32 := 32#32
  let v5016 : BitVec 32 := Scalar.remsi v5015 c32_i32_4799
  let c1_i32_4804 : BitVec 32 := 1#32
  let v5020 : BitVec 32 := Scalar.muli v5016 c1_i32_4804
  let v5021 : BitVec 32 := Scalar.addi c0_i32_4805 v5020
  v5021.toNat
def k0_dev215 (d0 : Dev nD) : Nat :=
  let c0_i32_4817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4810 : BitVec 32 := 29#32
  let v5030 : BitVec 32 := Scalar.addi v2 c29_i32_4810
  let c32_i32_4811 : BitVec 32 := 32#32
  let v5031 : BitVec 32 := Scalar.remsi v5030 c32_i32_4811
  let c1_i32_4816 : BitVec 32 := 1#32
  let v5035 : BitVec 32 := Scalar.muli v5031 c1_i32_4816
  let v5036 : BitVec 32 := Scalar.addi c0_i32_4817 v5035
  v5036.toNat
def k0_dev216 (d0 : Dev nD) : Nat :=
  let c0_i32_4829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4822 : BitVec 32 := 30#32
  let v5045 : BitVec 32 := Scalar.addi v2 c30_i32_4822
  let c32_i32_4823 : BitVec 32 := 32#32
  let v5046 : BitVec 32 := Scalar.remsi v5045 c32_i32_4823
  let c1_i32_4828 : BitVec 32 := 1#32
  let v5050 : BitVec 32 := Scalar.muli v5046 c1_i32_4828
  let v5051 : BitVec 32 := Scalar.addi c0_i32_4829 v5050
  v5051.toNat
def k0_dev217 (d0 : Dev nD) : Nat :=
  let c0_i32_4841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4834 : BitVec 32 := 31#32
  let v5060 : BitVec 32 := Scalar.addi v2 c31_i32_4834
  let c32_i32_4835 : BitVec 32 := 32#32
  let v5061 : BitVec 32 := Scalar.remsi v5060 c32_i32_4835
  let c1_i32_4840 : BitVec 32 := 1#32
  let v5065 : BitVec 32 := Scalar.muli v5061 c1_i32_4840
  let v5066 : BitVec 32 := Scalar.addi c0_i32_4841 v5065
  v5066.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4849 : BitVec 32 := 16#32
  let v5078 : BitVec 32 := Scalar.muli v2 c16_i32_4849
  let v5079 : Index := Scalar.indexCast v5078
  let c0_4850 : Index := 0#32
  ![v5079.toNat, 0]
def k0_off6 (d0 : Dev nD) (c25_i32_4925 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5140 : BitVec 32 := Scalar.addi v2 c25_i32_4925
  let c32_i32_4926 : BitVec 32 := 32#32
  let v5141 : BitVec 32 := Scalar.remsi v5140 c32_i32_4926
  let c16_i32_4927 : BitVec 32 := 16#32
  let v5142 : BitVec 32 := Scalar.muli v5141 c16_i32_4927
  let v5144 : Index := Scalar.indexCast v5142
  let c0_4928 : Index := 0#32
  ![v5144.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x8192 : Shape := ⟨2, ![512, 8192]⟩
abbrev S8192x512 : Shape := ⟨2, ![8192, 512]⟩
abbrev S512x512 : Shape := ⟨2, ![512, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S512x8192, .bf16⟩
  | .hbm, ⟨5, _⟩ => ⟨S512x8192, .bf16⟩
  | .hbm, ⟨6, _⟩ => ⟨S512x8192, .bf16⟩
  | .hbm, ⟨7, _⟩ => ⟨S512x8192, .f32⟩
  | .hbm, ⟨8, _⟩ => ⟨S8192x512, .f32⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S512x8192, .f32⟩
  | .hbm, ⟨14, _⟩ => ⟨S512x8192, .f32⟩
  | .hbm, ⟨15, _⟩ => ⟨S8192x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x8192, .f32⟩
  | .hbm, ⟨21, _⟩ => ⟨S512x8192, .f32⟩
  | .hbm, ⟨22, _⟩ => ⟨S8192x512, .f32⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x8192, .f32⟩
  | .hbm, ⟨28, _⟩ => ⟨S512x8192, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Program.lean ====
/- The kernel body as one short program: the printed body repeats each step 31 times, once per
   distance to a peer; here the steps are written once and repeated along a list of distances. The
   last theorem says that the printed body is this program. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.KernelIdeal.Net

open Idealize.ShloMosaic Idealize.SL.Sem Cert.KernelIdeal.Gen

variable {F : FTy → Type} [FloatOps F]

/-- A program of the TensorCore without a result. -/
abbrev Act (F : FTy → Type) [FloatOps F] := Prog (TpuEff nD τ sig (Elt F) Λ₀ .tc) PUnit

/-! ## Buffers -/

abbrev mX : Memref sig .tc .vmem S512x256 .bf16 := Memref.whole cc0_stg0_0
abbrev mWin0 : Memref sig .tc .vmem S256x512 .bf16 := Memref.whole cc0_stg1_0
abbrev mWout0 : Memref sig .tc .vmem S512x256 .bf16 := Memref.whole cc0_stg2_0
abbrev mWin1 : Memref sig .tc .vmem S256x512 .bf16 := Memref.whole cc0_stg3_0
abbrev mWout1 : Memref sig .tc .vmem S512x256 .bf16 := Memref.whole cc0_stg4_0
abbrev mWin2 : Memref sig .tc .vmem S256x512 .bf16 := Memref.whole cc0_stg5_0
abbrev mWout2 : Memref sig .tc .vmem S512x256 .bf16 := Memref.whole cc0_stg6_0
abbrev mOut : Memref sig .tc .vmem S512x256 .f32 := Memref.whole cc0_stg7_0
/-- The partial product of the first layer, 512 rows. -/
abbrev mP : Memref sig .tc .vmem S512x512 .bf16 := Memref.whole cc0_scratch0
/-- The partial products of the later layers, rows ordered by distance. -/
abbrev mQ : Memref sig .tc .vmem S512x512 .bf16 := Memref.whole cc0_scratch1
/-- The landing slots of the reduce-scatter. -/
abbrev mR1 : Memref sig .tc .vmem S32x16x512 .bf16 := Memref.whole cc0_scratch2
/-- The landing slots of the all-gather. -/
abbrev mR2 : Memref sig .tc .vmem S32x16x512 .bf16 := Memref.whole cc0_scratch3

/-- The runtime's barrier semaphore. -/
abbrev barS : Sem sig := (SemArray.scalar (sig.barrier 0 rfl) : Sems sig S_).sem

/-! ## Distances -/

/-- The distance of the peer numbered `r`, as a word. -/
abbrev wd (r : Fin 31) : BitVec 32 := BitVec.ofNat 32 (1 + r.val)

/-- The logical number of the peer at that distance, as the kernel computes it. -/
def devN (d0 : Dev nD) (r : Fin 31) : Nat :=
  (Scalar.addi 0#32 (Scalar.muli
    (Scalar.remsi (Scalar.addi (Scalar.remsi (Scalar.divsi (Dev.word d0) 1#32) 32#32) (wd r)) 32#32) 1#32)).toNat

theorem devN_eq : ∀ (d0 : Dev nD) (r : Fin 31), devN d0 r = (d0.val + r.val + 1) % 32 := by decide +kernel

theorem devN_lt (d0 : Dev nD) (r : Fin 31) : devN d0 r < nD := by
  rw [devN_eq]; exact Nat.mod_lt _ (by decide)

/-- The peer at distance `r + 1`. -/
abbrev peer (d0 : Dev nD) (r : Fin 31) : Dev nD := ⟨devN d0 r, devN_lt d0 r⟩

/-- The distances in the order of the first loops, and by groups in the order of the later ones. -/
abbrev all : List (Fin 31) :=
  [0, 1, 2, 3, 4, 5, 6, 7, 8, 9, 10, 11, 12, 13, 14, 15, 16, 17, 18, 19, 20, 21, 22, 23, 24, 25, 26, 27, 28, 29, 30]
abbrev gA : List (Fin 31) := [24, 25, 26, 27, 28, 29, 30]
abbrev gB : List (Fin 31) := [16, 17, 18, 19, 20, 21, 22, 23]
abbrev gC : List (Fin 31) := [8, 9, 10, 11, 12, 13, 14, 15]
abbrev gD : List (Fin 31) := [0, 1, 2, 3, 4, 5, 6, 7]
abbrev gA' : List (Fin 31) := [30, 29, 28, 27, 26, 25, 24]
abbrev gB' : List (Fin 31) := [23, 22, 21, 20, 19, 18, 17, 16]
abbrev gC' : List (Fin 31) := [15, 14, 13, 12, 11, 10, 9, 8]
abbrev gD' : List (Fin 31) := [7, 6, 5, 4, 3, 2, 1, 0]

/-- One step per distance of a list, then the rest. -/
def chain (ks : List (Fin 31)) (f : Fin 31 → Act F → Act F) (k : Act F) : Act F := ks.foldr f k

/-! ## Views -/

/-- One landing slot as a 16 × 512 block. -/
abbrev slotM (m : Memref sig .tc .vmem S32x16x512 .bf16) (off : Fin 3 → Nat)
    (h : ∀ a, off a + S1x16x512.size a ≤ S32x16x512.size a) : Memref sig .tc .vmem S16x512 .bf16 :=
  (m.slice (Rect.unit (s := S32x16x512) off S1x16x512.size h) (fun _ => rfl)).squeeze S16x512 squeezes_S1x16x512_S16x512

/-- Sixteen rows of a 512 × 512 buffer. -/
abbrev rowsM (m : Memref sig .tc .vmem S512x512 .bf16) (off : Fin 2 → Nat)
    (h : ∀ a, off a + S16x512.size a ≤ S512x512.size a) : Memref sig .tc .vmem S16x512 .bf16 :=
  m.slice (Rect.unit (s := S512x512) off S16x512.size h) (fun _ => rfl)

/-- One semaphore of an array of `n`. -/
abbrev semAt {n : Nat} (a : DmaSems sig ⟨1, ![n]⟩) (off : Fin 1 → Nat)
    (h : ∀ i, off i + S1.size i ≤ (⟨1, ![n]⟩ : Shape).size i) : DmaSem sig :=
  ((a.slice (Rect.unit (s := ⟨1, ![n]⟩) off S1.size h)).squeeze S_ squeezes_S1_S_).sem

theorem inb31 : ∀ r : Fin 31, ∀ i, (![r.val] : Fin 1 → Nat) i + S1.size i ≤ S31.size i := by decide
theorem inb32 : ∀ r : Fin 31, ∀ i, (![1 + r.val] : Fin 1 → Nat) i + S1.size i ≤ S32.size i := by decide
theorem inbSlot : ∀ r : Fin 31, ∀ a, (![1 + r.val, 0, 0] : Fin 3 → Nat) a + S1x16x512.size a ≤ S32x16x512.size a := by
  decide
theorem inbQ : ∀ r : Fin 31, ∀ a, (![16 * (1 + r.val), 0] : Fin 2 → Nat) a + S16x512.size a ≤ S512x512.size a := by
  decide
theorem wordsSlot : ∀ r : Fin 31, (Rect.unit (s := S32x16x512) ![1 + r.val, 0, 0] S1x16x512.size (inbSlot r)).WholeWords
    (EltTy.packing .bf16) := by decide
theorem wordsQ : ∀ r : Fin 31, (Rect.unit (s := S512x512) ![16 * (1 + r.val), 0] S16x512.size (inbQ r)).WholeWords
    (EltTy.packing .bf16) := by decide

abbrev slot0 (m : Memref sig .tc .vmem S32x16x512 .bf16) : Memref sig .tc .vmem S16x512 .bf16 :=
  slotM m ![0, 0, 0] inb_S32x16x512_S1x16x512_0_0_0
/-- The slot that the peer numbered `r` fills on this device. -/
abbrev slotS (m : Memref sig .tc .vmem S32x16x512 .bf16) (r : Fin 31) : Memref sig .tc .vmem S16x512 .bf16 :=
  slotM m ![1 + r.val, 0, 0] (inbSlot r)
/-- The slot that this device fills on the peer numbered `r`. -/
abbrev slotD (m : Memref sig .tc .vmem S32x16x512 .bf16) (d0 : Dev nD) (r : Fin 31) : Memref sig .tc .vmem S16x512 .bf16 :=
  slotM m (k0_off2 d0 (wd r)) (k0_off2_inb d0 r)

theorem we_slot (m : Memref sig .tc .vmem S32x16x512 .bf16) (hm : m.IsWhole) (off : Fin 3 → Nat)
    (h : ∀ a, off a + S1x16x512.size a ≤ S32x16x512.size a)
    (hw : (Rect.unit (s := S32x16x512) off S1x16x512.size h).WholeWords (EltTy.packing .bf16)) :
    (slotM m off h).view.WordExact := (hm.wordExact_slice rfl _ hw).reshape _ _

theorem we_rows (m : Memref sig .tc .vmem S512x512 .bf16) (hm : m.IsWhole) (off : Fin 2 → Nat)
    (h : ∀ a, off a + S16x512.size a ≤ S512x512.size a)
    (hw : (Rect.unit (s := S512x512) off S16x512.size h).WholeWords (EltTy.packing .bf16)) :
    (rowsM m off h).view.WordExact := hm.wordExact_slice rfl _ hw

theorem we_slot0_1 : (slot0 mR1).view.WordExact :=
  we_slot mR1 (Memref.isWhole_whole _) _ _ wordsbf16_S32x16x512_S1x16x512_0_0_0
theorem we_slot0_2 : (slot0 mR2).view.WordExact :=
  we_slot mR2 (Memref.isWhole_whole _) _ _ wordsbf16_S32x16x512_S1x16x512_0_0_0
theorem we_slotS_1 (r : Fin 31) : (slotS mR1 r).view.WordExact := we_slot mR1 (Memref.isWhole_whole _) _ _ (wordsSlot r)
theorem we_slotS_2 (r : Fin 31) : (slotS mR2 r).view.WordExact := we_slot mR2 (Memref.isWhole_whole _) _ _ (wordsSlot r)
theorem we_slotD_1 (d0 : Dev nD) (r : Fin 31) : (slotD mR1 d0 r).view.WordExact :=
  we_slot mR1 (Memref.isWhole_whole _) _ _ (k0_off2_wordsbf16 d0 r)
theorem we_slotD_2 (d0 : Dev nD) (r : Fin 31) : (slotD mR2 d0 r).view.WordExact :=
  we_slot mR2 (Memref.isWhole_whole _) _ _ (k0_off2_wordsbf16 d0 r)

/-- The rows of the first layer's partial product meant for the peer numbered `r`. -/
abbrev rowsP (d0 : Dev nD) (r : Fin 31) : Memref sig .tc .vmem S16x512 .bf16 :=
  rowsM mP (k0_off3 d0 (wd r)) (k0_off3_inb d0 r)
/-- The rows of a later layer's partial product meant for the peer numbered `r`. -/
abbrev rowsQ (r : Fin 31) : Memref sig .tc .vmem S16x512 .bf16 := rowsM mQ ![16 * (1 + r.val), 0] (inbQ r)

theorem we_rowsP (d0 : Dev nD) (r : Fin 31) : (rowsP d0 r).view.WordExact :=
  we_rows mP (Memref.isWhole_whole _) _ _ (k0_off3_wordsbf16 d0 r)
theorem we_rowsQ (r : Fin 31) : (rowsQ r).view.WordExact := we_rows mQ (Memref.isWhole_whole _) _ _ (wordsQ r)

/-! ## Semaphores -/

/-- Completion at the sender of its `r`-th reduce-scatter copy; the receiver's counterpart; the same
    two for the all-gather. -/
abbrev ss1 (r : Fin 31) : DmaSem sig := semAt (n := 31) cc0_scratch4 ![r.val] (inb31 r)
abbrev rs1 (r : Fin 31) : DmaSem sig := semAt (n := 32) cc0_scratch5 ![1 + r.val] (inb32 r)
abbrev ss2 (r : Fin 31) : DmaSem sig := semAt (n := 31) cc0_scratch6 ![r.val] (inb31 r)
abbrev rs2 (r : Fin 31) : DmaSem sig := semAt (n := 32) cc0_scratch7 ![1 + r.val] (inb32 r)
/-- The semaphores at the receiver, as the sender computes them. -/
abbrev rd1 (d0 : Dev nD) (r : Fin 31) : DmaSem sig := semAt (n := 32) cc0_scratch5 (k0_off1 d0 (wd r)) (k0_off1_inb d0 r)
abbrev rd2 (d0 : Dev nD) (r : Fin 31) : DmaSem sig := semAt (n := 32) cc0_scratch7 (k0_off1 d0 (wd r)) (k0_off1_inb d0 r)

/-! ## Steps -/

/-- Tell the peer numbered `r` that this device has entered. -/
def sig1 (d0 : Dev nD) (r : Fin 31) (k : Act F) : Act F := .op (.semSignal (Dev.tc (peer d0 r)) barS 1) fun _ => k

/-- A copy of a 16 × 512 block onto a slot of device `p`. -/
def send (p : Dev nD) (src dst : Memref sig .tc .vmem S16x512 .bf16) (sS sR : DmaSem sig)
    (h : src.view.WordExact) (h' : dst.view.WordExact) (k : Act F) : Act F :=
  .op (.enqueueDma src (.remote (Dev.tc p) dst (.dma sS)) (.dma sR) h h' ⟨⟨rfl, Or.inl rfl⟩, trivial⟩) fun _ => k

/-- Wait for one copy of a 16 × 512 block. -/
def await (s : DmaSem sig) (a b : Memref sig .tc .vmem S16x512 .bf16) (ha : a.view.WordExact) (hb : b.view.WordExact)
    (k : Act F) : Act F := .op (.waitDma2 s a b ha hb) fun _ => k

def sendP (d0 : Dev nD) (r : Fin 31) : Act F → Act F :=
  send (peer d0 r) (rowsP d0 r) (slotD mR1 d0 r) (ss1 r) (rd1 d0 r) (we_rowsP d0 r) (we_slotD_1 d0 r)
def sendQ (d0 : Dev nD) (r : Fin 31) : Act F → Act F :=
  send (peer d0 r) (rowsQ r) (slotD mR1 d0 r) (ss1 r) (rd1 d0 r) (we_rowsQ r) (we_slotD_1 d0 r)
def sendG (d0 : Dev nD) (r : Fin 31) : Act F → Act F :=
  send (peer d0 r) (slot0 mR2) (slotD mR2 d0 r) (ss2 r) (rd2 d0 r) we_slot0_2 (we_slotD_2 d0 r)
def gotP (r : Fin 31) : Act F → Act F := await (rs1 r) (slot0 mR1) (slotS mR1 r) we_slot0_1 (we_slotS_1 r)
def gotG (r : Fin 31) : Act F → Act F := await (rs2 r) (slot0 mR2) (slotS mR2 r) we_slot0_2 (we_slotS_2 r)
def sentP (d0 : Dev nD) (r : Fin 31) : Act F → Act F :=
  await (ss1 r) (slotD mR1 d0 r) (rowsP d0 r) (we_slotD_1 d0 r) (we_rowsP d0 r)
def sentQ (d0 : Dev nD) (r : Fin 31) : Act F → Act F :=
  await (ss1 r) (slotD mR1 d0 r) (rowsQ r) (we_slotD_1 d0 r) (we_rowsQ r)
def sentG (d0 : Dev nD) (r : Fin 31) : Act F → Act F :=
  await (ss2 r) (slotD mR2 d0 r) (slot0 mR2) (we_slotD_2 d0 r) we_slot0_2

/-- The whole of a buffer of weights. -/
def load256 (m : Memref sig .tc .vmem S256x512 .bf16) (k : Vec F S256x512 .bf16 → Act F) : Act F :=
  .op (.load m (Rect.unit (s := S256x512) ![0, 0] S256x512.size inb_S256x512_S256x512_0_0).toLoadRect
    (View.loadsAt_vmem h_S256x512)) k
def load512 (m : Memref sig .tc .vmem S512x256 .bf16) (k : Vec F S512x256 .bf16 → Act F) : Act F :=
  .op (.load m (Rect.unit (s := S512x256) ![0, 0] S512x256.size inb_S512x256_S512x256_0_0).toLoadRect
    (View.loadsAt_vmem h_S512x256)) k
/-- All landing slots of the reduce-scatter. -/
def loadR1 (k : Vec F S32x16x512 .bf16 → Act F) : Act F :=
  .op (.load mR1 (Rect.unit (s := S32x16x512) ![0, 0, 0] S32x16x512.size inb_S32x16x512_S32x16x512_0_0_0).toLoadRect
    (View.loadsAt_vmem h_S32x16x512)) k

/-- Store this device's own block in slot zero (the value read beforehand is not used). -/
def put0 (m : Memref sig .tc .vmem S32x16x512 .bf16) (hm : m.IsWhole) (v : FVec F S1x16x512 .bf16) (k : Act F) : Act F :=
  .op (.load m (Rect.unit (s := S32x16x512) ![0, 0, 0] S1x16x512.size inb_S32x16x512_S1x16x512_0_0_0).toLoadRect
    (View.loadsAt_vmem h_S1x16x512)) fun _ =>
  .op (.store m (Rect.unit (s := S32x16x512) ![0, 0, 0] S1x16x512.size inb_S32x16x512_S1x16x512_0_0_0) v Finset.univ
    (View.stores_vmem h_S1x16x512 (hm.storeExact_slice rfl _ packedbf16_S32x16x512_S1x16x512_0_0_0) (fun _ => rfl))
    (.inl rfl)) fun _ => k

/-- Store the first layer's partial product. -/
def putP (v : FVec F S512x512 .bf16) (k : Act F) : Act F :=
  .op (.load mP (Rect.unit (s := S512x512) ![0, 0] S512x512.size inb_S512x512_S512x512_0_0).toLoadRect
    (View.loadsAt_vmem h_S512x512)) fun _ =>
  .op (.store mP (Rect.unit (s := S512x512) ![0, 0] S512x512.size inb_S512x512_S512x512_0_0) v Finset.univ
    (View.stores_vmem h_S512x512 ((Memref.isWhole_whole _).storeExact_slice rfl _ packedbf16_S512x512_S512x512_0_0)
      (fun _ => rfl)) (.inl rfl)) fun _ => k

/-- This device's own rows of the first layer's partial product. -/
def loadOwn (d0 : Dev nD) (k : Vec F S16x512 .bf16 → Act F) : Act F :=
  .op (.load mP (Rect.unit (s := S512x512) (k0_off4 d0) S16x512.size (k0_off4_inb d0)).toLoadRect
    (View.loadsAt_vmem h_S16x512)) k

abbrev Sh3 (n : Nat) : Shape := ⟨3, ![n, 16, 512]⟩
abbrev Sh2 (n : Nat) : Shape := ⟨2, ![n, 512]⟩

/-- The `n` gathered slots from slot `lo` on. -/
def loadG (n lo : Nat) (h : ∀ a, (![lo, 0, 0] : Fin 3 → Nat) a + (Sh3 n).size a ≤ S32x16x512.size a) (hp : 0 < (Sh3 n).numel)
    (k : Vec F (Sh3 n) .bf16 → Act F) : Act F :=
  .op (.load mR2 (Rect.unit (s := S32x16x512) ![lo, 0, 0] (Sh3 n).size h).toLoadRect (View.loadsAt_vmem hp)) k

/-- Store `m` rows from row `lo` on in the buffer of the later layers' partial products. -/
def putQ (m lo : Nat) (h : ∀ a, (![lo, 0] : Fin 2 → Nat) a + (Sh2 m).size a ≤ S512x512.size a) (hp : 0 < (Sh2 m).numel)
    (hk : (Rect.unit (s := S512x512) ![lo, 0] (Sh2 m).size h).PackedRows (EltTy.packing .bf16))
    (v : FVec F (Sh2 m) .bf16) (k : Act F) : Act F :=
  .op (.load mQ (Rect.unit (s := S512x512) ![lo, 0] (Sh2 m).size h).toLoadRect (View.loadsAt_vmem hp)) fun _ =>
  .op (.store mQ (Rect.unit (s := S512x512) ![lo, 0] (Sh2 m).size h) v Finset.univ
    (View.stores_vmem hp ((Memref.isWhole_whole _).storeExact_slice rfl _ hk) (fun _ => rfl)) (.inl rfl)) fun _ => k

/-- Store one block of sixteen rows of the result. -/
def putO (off : Fin 2 → Nat) (h : ∀ a, off a + S16x256.size a ≤ S512x256.size a) (v : FVec F S16x256 .f32) (k : Act F) : Act F :=
  .op (.load mOut (Rect.unit (s := S512x256) off S16x256.size h).toLoadRect (View.loadsAt_vmem h_S16x256)) fun _ =>
  .op (.store mOut (Rect.unit (s := S512x256) off S16x256.size h) v Finset.univ
    (View.stores_vmem_bits_univ h_S16x256 rfl) (.inl rfl)) fun _ => k

/-! ## Phases -/

/-- One group of a middle layer: wait for its gathered blocks, multiply them by both weights, store the
    products and send each to its peer. -/
def grp (d0 : Dev nD) (n m lo lo' : Nat) (ws ks : List (Fin 31))
    (h3 : ∀ a, (![lo, 0, 0] : Fin 3 → Nat) a + (Sh3 n).size a ≤ S32x16x512.size a) (hp3 : 0 < (Sh3 n).numel)
    (h2 : ∀ a, (![lo', 0] : Fin 2 → Nat) a + (Sh2 m).size a ≤ S512x512.size a) (hp2 : 0 < (Sh2 m).numel)
    (hk : (Rect.unit (s := S512x512) ![lo', 0] (Sh2 m).size h2).PackedRows (EltTy.packing .bf16))
    (pay : Vec F (Sh3 n) .bf16 → FVec F (Sh2 m) .bf16) (k : Act F) : Act F :=
  chain ws gotG <| loadG n lo h3 hp3 fun v => putQ m lo' h2 hp2 hk (pay v) <| chain ks (sendQ d0) k

/-- A middle layer: gather the previous result, multiply, scatter, and add what has arrived. -/
def layer (d0 : Dev nD) (mWo : Memref sig .tc .vmem S512x256 .bf16) (mWi : Memref sig .tc .vmem S256x512 .bf16)
    (s : FVec F S16x512 .bf16) (k : FVec F S16x512 .bf16 → Act F) : Act F :=
  put0 mR2 (Memref.isWhole_whole _) (k0_pay4 s) <| chain all (sendG d0) <|
  load512 mWo fun wo => load256 mWi fun wi =>
  put0 mR1 (Memref.isWhole_whole _) (k0_pay7 s wo wi) <|
  grp d0 7 112 25 400 gA' gA inb_S32x16x512_S7x16x512_25_0_0 h_S7x16x512 inb_S512x512_S112x512_400_0 h_S112x512
    packedbf16_S512x512_S112x512_400_0 (k0_pay8 (k0_pay5 wo) (k0_pay6 wi)) <|
  grp d0 8 128 17 272 gB' gB inb_S32x16x512_S8x16x512_17_0_0 h_S8x16x512 inb_S512x512_S128x512_272_0 h_S128x512
    packedbf16_S512x512_S128x512_272_0 (k0_pay9 (k0_pay5 wo) (k0_pay6 wi)) <|
  grp d0 8 128 9 144 gC' gC inb_S32x16x512_S8x16x512_9_0_0 h_S8x16x512 inb_S512x512_S128x512_144_0 h_S128x512
    packedbf16_S512x512_S128x512_144_0 (k0_pay9 (k0_pay5 wo) (k0_pay6 wi)) <|
  grp d0 8 128 1 16 gD' gD inb_S32x16x512_S8x16x512_1_0_0 h_S8x16x512 inb_S512x512_S128x512_16_0 h_S128x512
    packedbf16_S512x512_S128x512_16_0 (k0_pay9 (k0_pay5 wo) (k0_pay6 wi)) <|
  chain all gotP <| loadR1 fun R =>
  chain all (sentG d0) <|
  chain gA (sentQ d0) <| chain gB (sentQ d0) <| chain gC (sentQ d0) <| chain gD (sentQ d0) <|
  k (k0_pay3 R)

/-- Store the block of the result whose rows belong to the peer numbered `r`. -/
def putF (d0 : Dev nD) (r : Fin 31) : FVec F S16x256 .f32 → Act F → Act F :=
  putO (k0_off6 d0 (wd r)) (k0_off6_inb d0 r)

/-- The blocks of the result that one group computes, stored one after the other: block `i` of the
    product belongs to the peer numbered `lo + i`. -/
def puts (d0 : Dev nD) (n m lo : Nat) (is : List (Fin n)) (hlo : lo + n ≤ 31)
    (hs : ∀ i : Fin n, (⟨2, ![m, 256]⟩ : Shape).Slices ![16 * i.val, 0] S16x256)
    (Y : FVec F ⟨2, ![m, 256]⟩ .f32) (k : Act F) : Act F :=
  is.foldr (fun i k => putF d0 ⟨lo + i.val, by omega⟩
    (extractStridedSlice S16x256 ![16 * i.val, 0] Y (hs i)) k) k

theorem slices7 : ∀ i : Fin 7, S112x256.Slices ![16 * i.val, 0] S16x256 := by decide +kernel
theorem slices8 : ∀ i : Fin 8, S128x256.Slices ![16 * i.val, 0] S16x256 := by decide +kernel

/-- One group of the last layer. -/
def fin (d0 : Dev nD) (n m lo : Nat) (ws : List (Fin 31)) (is : List (Fin n)) (hlo : lo + n ≤ 31)
    (h3 : ∀ a, (![1 + lo, 0, 0] : Fin 3 → Nat) a + (Sh3 n).size a ≤ S32x16x512.size a) (hp3 : 0 < (Sh3 n).numel)
    (hs : ∀ i : Fin n, (⟨2, ![m, 256]⟩ : Shape).Slices ![16 * i.val, 0] S16x256)
    (pay : Vec F (Sh3 n) .bf16 → FVec F ⟨2, ![m, 256]⟩ .f32) (k : Act F) : Act F :=
  chain ws gotG <| loadG n (1 + lo) h3 hp3 fun v => puts d0 n m lo is hlo hs (pay v) k

/-- The last layer: gather the previous result and multiply each block into the result. -/
def last (d0 : Dev nD) (s : FVec F S16x512 .bf16) (k : Act F) : Act F :=
  put0 mR2 (Memref.isWhole_whole _) (k0_pay24 s) <| chain all (sendG d0) <|
  load512 mWout2 fun wo =>
  putO (k0_off5 d0) (k0_off5_inb d0) (k0_pay26 s wo) <|
  fin d0 7 112 24 gA' [0, 1, 2, 3, 4, 5, 6] (by decide) inb_S32x16x512_S7x16x512_25_0_0 h_S7x16x512 slices7
    (k0_pay27 (k0_pay25 wo)) <|
  fin d0 8 128 16 gB' [0, 1, 2, 3, 4, 5, 6, 7] (by decide) inb_S32x16x512_S8x16x512_17_0_0 h_S8x16x512 slices8
    (k0_pay35 (k0_pay25 wo)) <|
  fin d0 8 128 8 gC' [0, 1, 2, 3, 4, 5, 6, 7] (by decide) inb_S32x16x512_S8x16x512_9_0_0 h_S8x16x512 slices8
    (k0_pay35 (k0_pay25 wo)) <|
  fin d0 8 128 0 gD' [0, 1, 2, 3, 4, 5, 6, 7] (by decide) inb_S32x16x512_S8x16x512_1_0_0 h_S8x16x512 slices8
    (k0_pay35 (k0_pay25 wo)) <|
  chain all (sentG d0) k

/-- The first layer: multiply, scatter, and add what has arrived. -/
def first (d0 : Dev nD) (k : FVec F S16x512 .bf16 → Act F) : Act F :=
  load512 mX fun x => load256 mWin0 fun w =>
  putP (k0_pay1 x w) <| chain all (sendP d0) <|
  loadOwn d0 fun v => put0 mR1 (Memref.isWhole_whole _) (k0_pay2 v) <|
  chain all gotP <| loadR1 fun R =>
  chain all (sentP d0) <| k (k0_pay3 R)

/-- The entry handshake: tell every peer, and wait until all 31 have told this device. -/
def enter (d0 : Dev nD) (k : Act F) : Act F :=
  chain all (sig1 d0) <| .op (.semWait barS 31) fun _ => k

/-- The kernel body. -/
def body (d0 : Dev nD) : Act F :=
  enter d0 <| first d0 fun s0 => layer d0 mWout0 mWin1 s0 fun s1 => layer d0 mWout1 mWin2 s1 fun s2 =>
  last d0 s2 <| .ret ⟨⟩

theorem body_eq : bodyAt0 (F := F) t0_0 = .op .deviceId (fun d0 => body d0) := by
  sl_kernel_rfl

end Cert.KernelIdeal.Net

end
-- ==== Proof.Cells.lean ====
/- The peers of a device, the semaphore cells of the exchange, and the parts of the buffers that the
   copies move: slot by slot in the two landing buffers, sixteen rows by sixteen rows elsewhere. -/
module

public import proofs.«01_k».proof.Proof.Program
public import Idealize.ShloMosaic.Lib.Pipeline.Launch
public import Idealize.ShloMosaic.Lib.Pipeline.Kit
public import Idealize.ShloMosaic.Lib.Pipeline.BigSepL
public import Idealize.ShloMosaic.Lib.ValueLayout
public import Idealize.ShloMosaic.Lib.ViewIndex
public import Idealize.ShloMosaic.Lib.VecWindow
public import Idealize.ShloMosaic.Lib.Pipeline.ValueKit.Geometry

@[expose] public section

noncomputable section

namespace Cert.KernelIdeal.Net

open Idealize.ShloMosaic Idealize.SL.Sem Cert.KernelIdeal.Gen Idealize.ShloMosaic.ValueIdx

/-! ## Peers -/

/-- The peer numbered `r`: the device at distance `r + 1` up the ring. -/
def nb (c : Dev nD) (r : Fin 31) : Dev nD := ⟨(c.val + r.val + 1) % 32, Nat.mod_lt _ (by decide)⟩

theorem peer_eq (c : Dev nD) (r : Fin 31) : peer c r = nb c r := Fin.ext (devN_eq c r)

/-- Seen from the peer numbered `r`, this device is the peer numbered `r.rev`. -/
theorem nb_nb (c : Dev nD) (r : Fin 31) : nb (nb c r) r.rev = c := by
  have hc : c.val < 32 := c.isLt
  have hr := r.isLt
  refine Fin.ext ?_
  simp only [nb, Fin.val_rev]
  omega

theorem nb_rev (c : Dev nD) (r : Fin 31) : nb (nb c r.rev) r = c := by
  have := nb_nb c r.rev; rwa [Fin.rev_rev] at this

theorem nb_injective (c : Dev nD) : Function.Injective (nb c) := fun r r' h => by
  have hc : c.val < 32 := c.isLt
  have hr := r.isLt
  have hr' := r'.isLt
  have h' := congrArg Fin.val h
  simp only [nb] at h'
  exact Fin.ext (by omega)

theorem nb_ne (c : Dev nD) (r : Fin 31) : nb c r ≠ c := fun h => by
  have hc : c.val < 32 := c.isLt
  have hr := r.isLt
  have h' := congrArg Fin.val h
  simp only [nb] at h'
  omega

/-- Every other device is a peer. -/
theorem exists_nb (c d : Dev nD) (h : d ≠ c) : ∃ r, nb c r = d := by
  have hc : c.val < 32 := c.isLt
  have hd : d.val < 32 := d.isLt
  have hne : d.val ≠ c.val := fun e => h (Fin.ext e)
  refine ⟨⟨(d.val + 31 - c.val) % 32, by omega⟩, Fin.ext ?_⟩
  simp only [nb]
  omega

/-- A fixed distance shifts all devices along the ring. -/
def shift (r : Fin 31) : Dev nD ≃ Dev nD := ⟨fun c => nb c r, fun c => nb c r.rev, fun c => nb_nb c r, fun c => nb_rev c r⟩

theorem rev_val (r : Fin 31) : (r.rev).val = 30 - r.val := by rw [Fin.val_rev]; omega

/-- The offsets the kernel computes at a device are those of `r.rev` at its peer. -/
theorem off1_eq (c : Dev nD) (r : Fin 31) : k0_off1 c (wd r) = ![1 + r.rev.val] := by
  rw [k0_off1_eq]
  have hc : c.val < 32 := c.isLt
  have hr := r.isLt
  rw [rev_val]
  exact congrArg (fun n : Nat => (![n] : Fin 1 → Nat)) (by omega)

theorem off2_eq (c : Dev nD) (r : Fin 31) : k0_off2 c (wd r) = ![1 + r.rev.val, 0, 0] := by
  rw [k0_off2_eq]
  have hc : c.val < 32 := c.isLt
  have hr := r.isLt
  rw [rev_val]
  exact congrArg (fun n : Nat => (![n, 0, 0] : Fin 3 → Nat)) (by omega)

theorem off3_eq (c : Dev nD) (r : Fin 31) : k0_off3 c (wd r) = ![16 * (nb c r).val, 0] := k0_off3_eq c r
theorem off6_eq (c : Dev nD) (r : Fin 31) : k0_off6 c (wd r) = ![16 * (nb c r).val, 0] := k0_off6_eq c r

theorem slotM_congr (m : Memref sig .tc .vmem S32x16x512 .bf16) {off off' : Fin 3 → Nat} (e : off = off')
    (h : ∀ a, off a + S1x16x512.size a ≤ S32x16x512.size a) (h' : ∀ a, off' a + S1x16x512.size a ≤ S32x16x512.size a) :
    slotM m off h = slotM m off' h' := by subst e; rfl

theorem slotD_eq (m : Memref sig .tc .vmem S32x16x512 .bf16) (c : Dev nD) (r : Fin 31) : slotD m c r = slotS m r.rev :=
  slotM_congr m (off2_eq c r) _ _

theorem semAt_congr {n : Nat} (a : DmaSems sig ⟨1, ![n]⟩) {off off' : Fin 1 → Nat} (e : off = off')
    (h : ∀ i, off i + S1.size i ≤ (⟨1, ![n]⟩ : Shape).size i) (h' : ∀ i, off' i + S1.size i ≤ (⟨1, ![n]⟩ : Shape).size i) :
    semAt a off h = semAt a off' h' := by subst e; rfl

theorem rd1_eq (c : Dev nD) (r : Fin 31) : rd1 c r = rs1 r.rev := semAt_congr _ (off1_eq c r) _ _
theorem rd2_eq (c : Dev nD) (r : Fin 31) : rd2 c r = rs2 r.rev := semAt_congr _ (off1_eq c r) _ _

/-! ## Semaphore cells -/

theorem ss1_val : ∀ r : Fin 31, (ss1 r).val = 8 + r.val := by decide
theorem rs1_val : ∀ r : Fin 31, (rs1 r).val = 40 + r.val := by decide
theorem ss2_val : ∀ r : Fin 31, (ss2 r).val = 71 + r.val := by decide
theorem rs2_val : ∀ r : Fin 31, (rs2 r).val = 103 + r.val := by decide

/-- What a semaphore is in the exchange: the barrier, one of the four families, or none of these. -/
inductive Kd where
  | bar
  | s1 (r : Fin 31)
  | r1 (r : Fin 31)
  | s2 (r : Fin 31)
  | r2 (r : Fin 31)
  | other
  deriving DecidableEq

/-- The kind of a DMA semaphore, by its number. -/
def kindN (n : Nat) : Kd :=
  if h : 8 ≤ n ∧ n < 39 then .s1 ⟨n - 8, by omega⟩
  else if h : 40 ≤ n ∧ n < 71 then .r1 ⟨n - 40, by omega⟩
  else if h : 71 ≤ n ∧ n < 102 then .s2 ⟨n - 71, by omega⟩
  else if h : 103 ≤ n ∧ n < 134 then .r2 ⟨n - 103, by omega⟩
  else .other

def kind : SemLoc sig → Kd
  | .reg s => if s = barS then .bar else .other
  | .dma q => kindN q.val

theorem kind_bar : kind (.reg barS) = .bar := by unfold kind; exact if_pos rfl
theorem kind_ss1 (r : Fin 31) : kind (.dma (ss1 r)) = .s1 r := by
  show kindN (ss1 r).val = _; rw [ss1_val]; revert r; decide
theorem kind_rs1 (r : Fin 31) : kind (.dma (rs1 r)) = .r1 r := by
  show kindN (rs1 r).val = _; rw [rs1_val]; revert r; decide
theorem kind_ss2 (r : Fin 31) : kind (.dma (ss2 r)) = .s2 r := by
  show kindN (ss2 r).val = _; rw [ss2_val]; revert r; decide
theorem kind_rs2 (r : Fin 31) : kind (.dma (rs2 r)) = .r2 r := by
  show kindN (rs2 r).val = _; rw [rs2_val]; revert r; decide

/-! ## Parts of buffers -/

/-- Slot `k` of a landing buffer. -/
def bl (k : Nat) : Finset S32x16x512.Idx := Finset.univ.filter fun i => (i 0).val = k

/-- Rows `16 k` to `16 k + 15` of a 512 × 512 buffer; the same of a 512 × 256 buffer. -/
def rb (k : Nat) : Finset S512x512.Idx := Finset.univ.filter fun i => (i 0).val / 16 = k
def ro (k : Nat) : Finset S512x256.Idx := Finset.univ.filter fun i => (i 0).val / 16 = k

theorem mem_bl {k : Nat} {i : S32x16x512.Idx} : i ∈ bl k ↔ (i 0).val = k := by simp [bl]
theorem mem_rb {k : Nat} {i : S512x512.Idx} : i ∈ rb k ↔ (i 0).val / 16 = k := by simp [rb]
theorem mem_ro {k : Nat} {i : S512x256.Idx} : i ∈ ro k ↔ (i 0).val / 16 = k := by simp [ro]

/-- The rows `lo` to `hi - 1` of a rank-3 or rank-2 rectangle of full width. -/
theorem mem_unit3 {o n : Nat} {h : ∀ a, (![o, 0, 0] : Fin 3 → Nat) a + (⟨3, ![n, 16, 512]⟩ : Shape).size a ≤ S32x16x512.size a}
    {i : S32x16x512.Idx} :
    i ∈ (Rect.unit (s := S32x16x512) ![o, 0, 0] (⟨3, ![n, 16, 512]⟩ : Shape).size h).set ↔ o ≤ (i 0).val ∧ (i 0).val < o + n := by
  have h1 : (i 1).val < 16 := (i 1).isLt
  have h2 : (i 2).val < 512 := (i 2).isLt
  rw [Rect.mem_set_unit]
  constructor
  · intro hi; exact hi 0
  · intro hi a
    match a with
    | ⟨0, _⟩ => exact hi
    | ⟨1, _⟩ => exact ⟨Nat.zero_le _, show (i 1).val < 0 + 16 by omega⟩
    | ⟨2, _⟩ => exact ⟨Nat.zero_le _, show (i 2).val < 0 + 512 by omega⟩

theorem mem_unit2 {w o n : Nat} {h : ∀ a, (![o, 0] : Fin 2 → Nat) a + (⟨2, ![n, w]⟩ : Shape).size a ≤ (⟨2, ![512, w]⟩ : Shape).size a}
    {i : (⟨2, ![512, w]⟩ : Shape).Idx} :
    i ∈ (Rect.unit (s := ⟨2, ![512, w]⟩) ![o, 0] (⟨2, ![n, w]⟩ : Shape).size h).set ↔ o ≤ (i 0).val ∧ (i 0).val < o + n := by
  have h1 : (i 1).val < w := (i 1).isLt
  rw [Rect.mem_set_unit]
  constructor
  · intro hi; exact hi 0
  · intro hi a
    match a with
    | ⟨0, _⟩ => exact hi
    | ⟨1, _⟩ => exact ⟨Nat.zero_le _, show (i 1).val < 0 + w by omega⟩

theorem set_slot1 (k : Nat) (h : ∀ a, (![k, 0, 0] : Fin 3 → Nat) a + S1x16x512.size a ≤ S32x16x512.size a) :
    (slotM mR1 ![k, 0, 0] h).view.set = bl k := by
  have e : (slotM mR1 ![k, 0, 0] h).view.set = (Rect.unit (s := S32x16x512) ![k, 0, 0] S1x16x512.size h).set :=
    Eq.trans (View.set_reshape _ _) (View.set_slice_whole _ _)
  refine e.trans (Finset.ext fun i => ?_)
  rw [mem_unit3, mem_bl]; omega
theorem set_slot2 (k : Nat) (h : ∀ a, (![k, 0, 0] : Fin 3 → Nat) a + S1x16x512.size a ≤ S32x16x512.size a) :
    (slotM mR2 ![k, 0, 0] h).view.set = bl k := by
  have e : (slotM mR2 ![k, 0, 0] h).view.set = (Rect.unit (s := S32x16x512) ![k, 0, 0] S1x16x512.size h).set :=
    Eq.trans (View.set_reshape _ _) (View.set_slice_whole _ _)
  refine e.trans (Finset.ext fun i => ?_)
  rw [mem_unit3, mem_bl]; omega
theorem set_rowsP (k : Nat) (h : ∀ a, (![16 * k, 0] : Fin 2 → Nat) a + S16x512.size a ≤ S512x512.size a) :
    (rowsM mP ![16 * k, 0] h).view.set = rb k := by
  refine Eq.trans (View.set_slice_whole _ _) (Finset.ext fun i => ?_)
  rw [mem_unit2, mem_rb]; omega
theorem set_rowsQ (k : Nat) (h : ∀ a, (![16 * k, 0] : Fin 2 → Nat) a + S16x512.size a ≤ S512x512.size a) :
    (rowsM mQ ![16 * k, 0] h).view.set = rb k := by
  refine Eq.trans (View.set_slice_whole _ _) (Finset.ext fun i => ?_)
  rw [mem_unit2, mem_rb]; omega

/-- Where a slot's view places its indices. -/
theorem emb_slot {k : Nat} (hk : k < 32) (h : ∀ a, (![k, 0, 0] : Fin 3 → Nat) a + S1x16x512.size a ≤ S32x16x512.size a)
    (hn : S16x512.numel = S1x16x512.numel) (a : Fin 16) (b : Fin 512) :
    (Rect.unit (s := S32x16x512) ![k, 0, 0] S1x16x512.size h).emb (Shape.reshapeEquiv hn (ix2 a b)) = ix3 (⟨k, hk⟩ : Fin 32) a b := by
  rw [reshapeEquiv_ix2_1ab]
  funext d
  refine Fin.ext ?_
  match d with
  | ⟨0, _⟩ => exact ValueKit.rect_emb_unit_val _ _ _ _ _
  | ⟨1, _⟩ => exact (ValueKit.rect_emb_unit_val _ _ _ _ _).trans (Nat.zero_add _)
  | ⟨2, _⟩ => exact (ValueKit.rect_emb_unit_val _ _ _ _ _).trans (Nat.zero_add _)

/-- Where a rectangle of full rows places its indices. -/
theorem emb_rows {w o n : Nat} (h : ∀ a, (![o, 0] : Fin 2 → Nat) a + (⟨2, ![n, w]⟩ : Shape).size a ≤ (⟨2, ![512, w]⟩ : Shape).size a)
    (a : Fin n) (b : Fin w) (ha : o + a.val < 512) :
    (Rect.unit (s := ⟨2, ![512, w]⟩) ![o, 0] (⟨2, ![n, w]⟩ : Shape).size h).emb (ix2 a b) = ix2 (⟨o + a.val, ha⟩ : Fin 512) b := by
  funext d
  refine Fin.ext ?_
  match d with
  | ⟨0, _⟩ => exact ValueKit.rect_emb_unit_val _ _ _ _ _
  | ⟨1, _⟩ => exact (ValueKit.rect_emb_unit_val _ _ _ _ _).trans (Nat.zero_add _)

/-- Where a rectangle of full slots places its indices. -/
theorem emb_slots {o n : Nat} (h : ∀ a, (![o, 0, 0] : Fin 3 → Nat) a + (⟨3, ![n, 16, 512]⟩ : Shape).size a ≤ S32x16x512.size a)
    (k : Fin n) (a : Fin 16) (b : Fin 512) (ho : o + k.val < 32) :
    (Rect.unit (s := S32x16x512) ![o, 0, 0] (⟨3, ![n, 16, 512]⟩ : Shape).size h).emb (ix3 k a b) = ix3 (⟨o + k.val, ho⟩ : Fin 32) a b := by
  funext d
  refine Fin.ext ?_
  match d with
  | ⟨0, _⟩ => exact ValueKit.rect_emb_unit_val _ _ _ _ _
  | ⟨1, _⟩ => exact (ValueKit.rect_emb_unit_val _ _ _ _ _).trans (Nat.zero_add _)
  | ⟨2, _⟩ => exact (ValueKit.rect_emb_unit_val _ _ _ _ _).trans (Nat.zero_add _)

variable {F : FTy → Type}

/-! What is read through the views, and what a write through them leaves. -/

theorem read_slot2 {k : Nat} (hk : k < 32) (h : ∀ a, (![k, 0, 0] : Fin 3 → Nat) a + S1x16x512.size a ≤ S32x16x512.size a)
    (f : S32x16x512.Idx → Elt F .bf16) (a : Fin 16) (b : Fin 512) :
    (slotM mR2 ![k, 0, 0] h).view.read (Elt F) f (ix2 a b) = f (ix3 (⟨k, hk⟩ : Fin 32) a b) :=
  congrArg f (emb_slot hk h _ a b)

theorem read_rowsP {k : Nat} (hk : k < 32) (h : ∀ a, (![16 * k, 0] : Fin 2 → Nat) a + S16x512.size a ≤ S512x512.size a)
    (f : S512x512.Idx → Elt F .bf16) (a : Fin 16) (b : Fin 512) :
    (rowsM mP ![16 * k, 0] h).view.read (Elt F) f (ix2 a b) = f (ix2 (⟨16 * k + a.val, by omega⟩ : Fin 512) b) :=
  congrArg f (emb_rows h a b _)

theorem read_rowsQ {k : Nat} (hk : k < 32) (h : ∀ a, (![16 * k, 0] : Fin 2 → Nat) a + S16x512.size a ≤ S512x512.size a)
    (f : S512x512.Idx → Elt F .bf16) (a : Fin 16) (b : Fin 512) :
    (rowsM mQ ![16 * k, 0] h).view.read (Elt F) f (ix2 a b) = f (ix2 (⟨16 * k + a.val, by omega⟩ : Fin 512) b) :=
  congrArg f (emb_rows h a b _)

theorem land1 {k : Nat} (hk : k < 32) (h : ∀ a, (![k, 0, 0] : Fin 3 → Nat) a + S1x16x512.size a ≤ S32x16x512.size a)
    (fd g : S32x16x512.Idx → Elt F .bf16) (w : S16x512.Idx → Elt F .bf16)
    (hg : ∀ a b, g (ix3 (⟨k, hk⟩ : Fin 32) a b) = w (ix2 a b)) :
    ∀ i ∈ bl k, (slotM mR1 ![k, 0, 0] h).view.write (Elt F) fd w Finset.univ i = g i := fun i hi => by
  rw [mem_bl] at hi
  have hi' : i = ix3 (⟨k, hk⟩ : Fin 32) (i 1) (i 2) := by
    rw [eq_ix3 i]; funext d; match d with | ⟨0, _⟩ => exact Fin.ext hi | ⟨1, _⟩ => rfl | ⟨2, _⟩ => rfl
  have he : i = (slotM mR1 ![k, 0, 0] h).view.emb (ix2 (i 1) (i 2)) := hi'.trans (emb_slot hk h _ (i 1) (i 2)).symm
  conv_lhs => rw [he]
  rw [View.write_emb_of_mem _ _ (Finset.mem_univ _)]
  conv_rhs => rw [hi']
  exact (hg _ _).symm

theorem land2 {k : Nat} (hk : k < 32) (h : ∀ a, (![k, 0, 0] : Fin 3 → Nat) a + S1x16x512.size a ≤ S32x16x512.size a)
    (fd g : S32x16x512.Idx → Elt F .bf16) (w : S16x512.Idx → Elt F .bf16)
    (hg : ∀ a b, g (ix3 (⟨k, hk⟩ : Fin 32) a b) = w (ix2 a b)) :
    ∀ i ∈ bl k, (slotM mR2 ![k, 0, 0] h).view.write (Elt F) fd w Finset.univ i = g i := fun i hi => by
  rw [mem_bl] at hi
  have hi' : i = ix3 (⟨k, hk⟩ : Fin 32) (i 1) (i 2) := by
    rw [eq_ix3 i]; funext d; match d with | ⟨0, _⟩ => exact Fin.ext hi | ⟨1, _⟩ => rfl | ⟨2, _⟩ => rfl
  have he : i = (slotM mR2 ![k, 0, 0] h).view.emb (ix2 (i 1) (i 2)) := hi'.trans (emb_slot hk h _ (i 1) (i 2)).symm
  conv_lhs => rw [he]
  rw [View.write_emb_of_mem _ _ (Finset.mem_univ _)]
  conv_rhs => rw [hi']
  exact (hg _ _).symm

end Cert.KernelIdeal.Net

end
-- ==== Proof.Contents.lean ====
/- What every buffer of the exchange holds, layer by layer, as functions of the operands of all devices. -/
module

public import proofs.«01_k».proof.Proof.Cells

@[expose] public section

noncomputable section

namespace Cert.KernelIdeal.Net

open Idealize.ShloMosaic Idealize.SL.Sem Cert.KernelIdeal.Gen Idealize.ShloMosaic.ValueIdx

variable {F : FTy → Type}

/-- The operands as staged on each device: the activations, and both weights of each layer. -/
structure Ops (F : FTy → Type) where
  x : Dev nD → Vec F S512x256 .bf16
  wi : Nat → Dev nD → Vec F S256x512 .bf16
  wo : Nat → Dev nD → Vec F S512x256 .bf16

/-- Contents of the buffers, by shape. -/
abbrev Sq (F : FTy → Type) := S512x512.Idx → Elt F .bf16
abbrev Sl (F : FTy → Type) := S32x16x512.Idx → Elt F .bf16
abbrev Re (F : FTy → Type) := S512x256.Idx → Elt F .f32

/-- The `n` slots from slot `lo` on of a landing buffer. -/
def slots (n lo : Nat) (h : ∀ a, (![lo, 0, 0] : Fin 3 → Nat) a + (Sh3 n).size a ≤ S32x16x512.size a) (g : Sl F) :
    Vec F (Sh3 n) .bf16 :=
  mR2.view.readAt (Elt F) (Rect.unit (s := S32x16x512) ![lo, 0, 0] (Sh3 n).size h).toLoadRect g

/-- The sixteen rows of the first layer's partial product that belong to device `c`. -/
def ownRows (c : Dev nD) (g : Sq F) : Vec F S16x512 .bf16 :=
  mP.view.readAt (Elt F) (Rect.unit (s := S512x512) (k0_off4 c) S16x512.size (k0_off4_inb c)).toLoadRect g

/-- Block `k` of sixteen rows. -/
def blk (g : Sq F) (k : Nat) (hk : k < 32) : S16x512.Idx → Elt F .bf16 := fun i =>
  g (ix2 (⟨16 * k + (i 0).val, by have h : (i 0).val < 16 := (i 0).isLt; omega⟩ : Fin 512) (i 1))

/-- A landing buffer from its slots: the own block, and the block of each peer. -/
def stack (own : S1x16x512.Idx → Elt F .bf16) (b : Fin 31 → S16x512.Idx → Elt F .bf16) : Sl F := fun i =>
  if h : (i 0).val = 0 then own (ix3 (0 : Fin 1) (i 1) (i 2))
  else b ⟨(i 0).val - 1, by have h : (i 0).val < 32 := (i 0).isLt; omega⟩ (ix2 (i 1) (i 2))

/-- A block without its leading axis. -/
def flat (v : S1x16x512.Idx → Elt F .bf16) : S16x512.Idx → Elt F .bf16 := fun i => v (ix3 (0 : Fin 1) (i 0) (i 1))

theorem stack_own (own : S1x16x512.Idx → Elt F .bf16) (b) (k : Fin 32) (hk : k.val = 0) (i : Fin 16) (j : Fin 512) :
    stack own b (ix3 k i j) = own (ix3 (0 : Fin 1) i j) := dif_pos hk
theorem stack_peer (own : S1x16x512.Idx → Elt F .bf16) (b) (r : Fin 31) (h : 1 + r.val < 32) (i : Fin 16) (j : Fin 512) :
    stack own b (ix3 (⟨1 + r.val, h⟩ : Fin 32) i j) = b r (ix2 i j) := by
  unfold stack
  rw [dif_neg (show ¬ (1 + r.val) = 0 by omega)]
  exact congrArg (fun r => b r (ix2 i j)) (Fin.ext (show 1 + r.val - 1 = r.val by omega))

variable [FloatOps F]

/-- The partial products of a middle layer, rows ordered by distance. -/
def partQ (wo : Vec F S512x256 .bf16) (wi : Vec F S256x512 .bf16) (g : Sl F) : Sq F := fun i =>
  have hi : (i 0).val < 512 := (i 0).isLt
  if hA : 400 ≤ (i 0).val then
    k0_pay8 (k0_pay5 wo) (k0_pay6 wi) (slots 7 25 inb_S32x16x512_S7x16x512_25_0_0 g) (ix2 (⟨(i 0).val - 400, by omega⟩ : Fin 112) (i 1))
  else if hB : 272 ≤ (i 0).val then
    k0_pay9 (k0_pay5 wo) (k0_pay6 wi) (slots 8 17 inb_S32x16x512_S8x16x512_17_0_0 g) (ix2 (⟨(i 0).val - 272, by omega⟩ : Fin 128) (i 1))
  else if hC : 144 ≤ (i 0).val then
    k0_pay9 (k0_pay5 wo) (k0_pay6 wi) (slots 8 9 inb_S32x16x512_S8x16x512_9_0_0 g) (ix2 (⟨(i 0).val - 144, by omega⟩ : Fin 128) (i 1))
  else
    k0_pay9 (k0_pay5 wo) (k0_pay6 wi) (slots 8 1 inb_S32x16x512_S8x16x512_1_0_0 g) (ix2 (⟨(i 0).val - 16, by omega⟩ : Fin 128) (i 1))

/-- The result of device `c`: the block of the device at distance `d + 1` comes from slot `d + 1`. -/
def result (c : Dev nD) (s : FVec F S16x512 .bf16) (wo : Vec F S512x256 .bf16) (g : Sl F) : Re F := fun i =>
  have ha : (i 0).val % 16 < 16 := Nat.mod_lt _ (by decide)
  have hd : ((i 0).val / 16 + 31 - c.val) % 32 < 32 := Nat.mod_lt _ (by decide)
  if hO : ((i 0).val / 16 + 31 - c.val) % 32 = 31 then k0_pay26 s wo (ix2 (⟨(i 0).val % 16, ha⟩ : Fin 16) (i 1))
  else if hA : 24 ≤ ((i 0).val / 16 + 31 - c.val) % 32 then
    k0_pay27 (k0_pay25 wo) (slots 7 25 inb_S32x16x512_S7x16x512_25_0_0 g)
      (ix2 (⟨16 * (((i 0).val / 16 + 31 - c.val) % 32 - 24) + (i 0).val % 16, by omega⟩ : Fin 112) (i 1))
  else if hB : 16 ≤ ((i 0).val / 16 + 31 - c.val) % 32 then
    k0_pay35 (k0_pay25 wo) (slots 8 17 inb_S32x16x512_S8x16x512_17_0_0 g)
      (ix2 (⟨16 * (((i 0).val / 16 + 31 - c.val) % 32 - 16) + (i 0).val % 16, by omega⟩ : Fin 128) (i 1))
  else if hC : 8 ≤ ((i 0).val / 16 + 31 - c.val) % 32 then
    k0_pay35 (k0_pay25 wo) (slots 8 9 inb_S32x16x512_S8x16x512_9_0_0 g)
      (ix2 (⟨16 * (((i 0).val / 16 + 31 - c.val) % 32 - 8) + (i 0).val % 16, by omega⟩ : Fin 128) (i 1))
  else
    k0_pay35 (k0_pay25 wo) (slots 8 1 inb_S32x16x512_S8x16x512_1_0_0 g)
      (ix2 (⟨16 * (((i 0).val / 16 + 31 - c.val) % 32) + (i 0).val % 16, by omega⟩ : Fin 128) (i 1))

variable (A : Ops F)

/-- The first layer's partial product. -/
def Pc (c : Dev nD) : Sq F := k0_pay1 (A.x c) (A.wi 0 c)

/-- What the devices gather, from what each of them holds. -/
def gatherOf (s : Dev nD → FVec F S16x512 .bf16) (c : Dev nD) : Sl F :=
  stack (k0_pay4 (s c)) fun k => flat (k0_pay4 (s (nb c k)))

/-- The partial products of the layer after `l`. -/
def qOf (l : Nat) (s : Dev nD → FVec F S16x512 .bf16) (c : Dev nD) : Sq F :=
  partQ (A.wo l c) (A.wi (l + 1) c) (gatherOf s c)

/-- What the reduce-scatter of the first layer leaves on device `c`; the same of the layer after `l`. -/
def scat0 (c : Dev nD) : Sl F :=
  stack (k0_pay2 (ownRows c (Pc A c))) fun k => blk (Pc A (nb c k)) c.val c.isLt
def scatS (l : Nat) (s : Dev nD → FVec F S16x512 .bf16) (c : Dev nD) : Sl F :=
  stack (k0_pay7 (s c) (A.wo l c) (A.wi (l + 1) c)) fun k =>
    blk (qOf A l s (nb c k)) (1 + k.rev.val) (by rw [rev_val]; omega)

/-- What device `c` holds after layer `l`: its sixteen rows of the activations. -/
def S : Nat → Dev nD → FVec F S16x512 .bf16
  | 0 => fun c => k0_pay3 (scat0 A c)
  | l + 1 => fun c => k0_pay3 (scatS A l (S l) c)

/-- The landing buffer of the reduce-scatter in layer `l`. -/
def R1 : Nat → Dev nD → Sl F
  | 0 => scat0 A
  | l + 1 => scatS A l (S A l)

theorem S_eq (l : Nat) (c : Dev nD) : S A l c = k0_pay3 (R1 A l c) := by cases l <;> rfl

/-- The landing buffer of the all-gather after layer `l`. -/
def G2 (l : Nat) (c : Dev nD) : Sl F := gatherOf (S A l) c

/-- The partial products sent in layer `l` (from the second on). -/
def Q (l : Nat) (c : Dev nD) : Sq F := qOf A (l - 1) (S A (l - 1)) c

/-- The result. -/
def Ov (c : Dev nD) : Re F := result c (S A 2 c) (A.wo 2 c) (G2 A 2 c)

end Cert.KernelIdeal.Net

end
-- ==== Proof.Schedule.lean ====
/- The protocol of the exchange. Every copy has two semaphore cells: one at the sender, which gives the
   sent rows back, and one at the receiver, which hands over the filled slot. What else the landing of a
   copy hands over is the right to fill the sender's slot of the other landing buffer in the next phase. -/
module

public import proofs.«01_k».proof.Proof.Contents
public import Idealize.ShloMosaic.Lib.Rounds
public import Idealize.ShloMosaic.Lib.ShareLeaves
public import Idealize.ShloMosaic.Lib.Pipeline.TalkSched

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

/-! ## The resources -/

abbrev UB : Type := URounds (GSem nD τ sig) (Fin 31)
abbrev UU : Type := UR sig nD τ × UB

local notation "𝕄" => MT nD τ sig ℕ (Elt F) ℕ UU ℕ

abbrev ER : Emb UB (MT nD τ sig ℕ (Elt F) ℕ UU ℕ) := embR

/-- Rows or slots of the four scratch buffers of device `c`. -/
def pAt (c : Dev nD) (I : Finset S512x512.Idx) (f : Sq F) : sProp 𝕄 :=
  ((c : Thread nD τ).loc cc0_scratch0 ↦[I]{fullShare} (f : Buf (Elt F) ((c : Thread nD τ).loc cc0_scratch0)))
def qAt (c : Dev nD) (I : Finset S512x512.Idx) (f : Sq F) : sProp 𝕄 :=
  ((c : Thread nD τ).loc cc0_scratch1 ↦[I]{fullShare} (f : Buf (Elt F) ((c : Thread nD τ).loc cc0_scratch1)))
def r1At (c : Dev nD) (I : Finset S32x16x512.Idx) (f : Sl F) : sProp 𝕄 :=
  ((c : Thread nD τ).loc cc0_scratch2 ↦[I]{fullShare} (f : Buf (Elt F) ((c : Thread nD τ).loc cc0_scratch2)))
def r2At (c : Dev nD) (I : Finset S32x16x512.Idx) (q : PosShare TreeShare) (f : Sl F) : sProp 𝕄 :=
  ((c : Thread nD τ).loc cc0_scratch3 ↦[I]{q} (f : Buf (Elt F) ((c : Thread nD τ).loc cc0_scratch3)))

instance (c : Dev nD) (I f) : BI.Storable (upEmb : UEmb _ 𝕄) (pAt (F := F) c I f) := by unfold pAt; infer_instance
instance (c : Dev nD) (I f) : BI.Storable (upEmb : UEmb _ 𝕄) (qAt (F := F) c I f) := by unfold qAt; infer_instance
instance (c : Dev nD) (I f) : BI.Storable (upEmb : UEmb _ 𝕄) (r1At (F := F) c I f) := by unfold r1At; infer_instance
instance (c : Dev nD) (I q f) : BI.Storable (upEmb : UEmb _ 𝕄) (r2At (F := F) c I q f) := by unfold r2At; infer_instance

/-- The share of the own block that the `r`-th copy of the all-gather reads. -/
def lf (r : Fin 31) : PosShare TreeShare := ShareLeaves.leaf 5 fullShare ⟨r.val, by omega⟩

/-- Slot `r` of the two landing buffers, at some contents. -/
def free1 (c : Dev nD) (r : Fin 31) : sProp 𝕄 := iprop(∃ f : Sl F, r1At c (bl (1 + r.val)) f)
def free2 (c : Dev nD) (r : Fin 31) : sProp 𝕄 := iprop(∃ f : Sl F, r2At c (bl (1 + r.val)) fullShare f)

instance (c : Dev nD) (r) : BI.Storable (upEmb : UEmb _ 𝕄) (free1 (F := F) c r) := by unfold free1; infer_instance
instance (c : Dev nD) (r) : BI.Storable (upEmb : UEmb _ 𝕄) (free2 (F := F) c r) := by unfold free2; infer_instance

/-! ## Cells -/

abbrev barC (c : Dev nD) : GSem nD τ sig := ((c : Thread nD τ), .reg barS)
abbrev cs1 (c : Dev nD) (r : Fin 31) : GSem nD τ sig := ((c : Thread nD τ), .dma (ss1 r))
abbrev cr1 (c : Dev nD) (r : Fin 31) : GSem nD τ sig := ((c : Thread nD τ), .dma (rs1 r))
abbrev cs2 (c : Dev nD) (r : Fin 31) : GSem nD τ sig := ((c : Thread nD τ), .dma (ss2 r))
abbrev cr2 (c : Dev nD) (r : Fin 31) : GSem nD τ sig := ((c : Thread nD τ), .dma (rs2 r))

/-- The credit of one copy of a 16 × 512 block. -/
abbrev N : ℕ := (slot0 mR1).view.dmaCredit
theorem N_pos : 0 < N := View.dmaCredit_pos _ (by decide)

/-- The right to fill the slot of the peer numbered `r` that belongs to this device: the slot, and that
    the peer's semaphore of that slot has come to round `l`. -/
def dst1 (c : Dev nD) (l : ℕ) (r : Fin 31) : sProp 𝕄 := iprop(free1 (F := F) (nb c r) r.rev ∗ reached ER (cr1 (nb c r) r.rev) l)
def dst2 (c : Dev nD) (l : ℕ) (r : Fin 31) : sProp 𝕄 := iprop(free2 (F := F) (nb c r) r.rev ∗ reached ER (cr2 (nb c r) r.rev) l)

instance (c : Dev nD) (l r) : BI.Storable (upEmb : UEmb _ 𝕄) (dst1 (F := F) c l r) := by unfold dst1; infer_instance
instance (c : Dev nD) (l r) : BI.Storable (upEmb : UEmb _ 𝕄) (dst2 (F := F) c l r) := by unfold dst2; infer_instance

variable [FloatOps F] (A : Ops F)

/-- What the signal of the peer numbered `r` hands over: both its slots that belong to this device. -/
def barPay (c : Dev nD) (r : Fin 31) : sProp 𝕄 := iprop(free1 (F := F) (nb c r) r.rev ∗ free2 (F := F) (nb c r) r.rev)
/-- What the landing of the copy of the peer numbered `r` hands over in round `l`. -/
def r1Pay (c : Dev nD) (l : ℕ) (r : Fin 31) : sProp 𝕄 :=
  iprop(r1At c (bl (1 + r.val)) (R1 A l c) ∗ if l = 0 then iprop(emp) else dst2 c l r)
def r2Pay (c : Dev nD) (l : ℕ) (r : Fin 31) : sProp 𝕄 :=
  iprop(r2At c (bl (1 + r.val)) fullShare (G2 A l c) ∗ if l < 2 then dst1 c (l + 1) r else iprop(emp))
/-- What the completion of the copy to the peer numbered `r` gives back. -/
def s1Pay (c : Dev nD) (l : ℕ) (r : Fin 31) : sProp 𝕄 :=
  if l = 0 then pAt c (rb (nb c r).val) (Pc A c) else qAt c (rb (1 + r.val)) (Q A l c)
def s2Pay (c : Dev nD) (l : ℕ) (r : Fin 31) : sProp 𝕄 := r2At c (bl 0) (lf r) (G2 A l c)

instance (c : Dev nD) (r) : BI.Storable (upEmb : UEmb _ 𝕄) (barPay (F := F) c r) := by unfold barPay; infer_instance
instance (c : Dev nD) (l r) : BI.Storable (upEmb : UEmb _ 𝕄) (r1Pay A c l r) := by unfold r1Pay; split <;> infer_instance
instance (c : Dev nD) (l r) : BI.Storable (upEmb : UEmb _ 𝕄) (r2Pay A c l r) := by unfold r2Pay; split <;> infer_instance
instance (c : Dev nD) (l r) : BI.Storable (upEmb : UEmb _ 𝕄) (s1Pay A c l r) := by unfold s1Pay; split <;> infer_instance
instance (c : Dev nD) (l r) : BI.Storable (upEmb : UEmb _ 𝕄) (s2Pay A c l r) := by unfold s2Pay; infer_instance

/-! ## The schedule -/

/-- The duties of a cell by its kind: the barrier has one round of 31 duties, the others three rounds of one. -/
def dut : Kd → ℕ → Finset (Fin 31)
  | .bar, l => if l = 0 then Finset.univ else ∅
  | .other, _ => ∅
  | _, l => if l < 3 then {0} else ∅

def payK (c : Dev nD) (l : ℕ) (d : Fin 31) : Kd → sProp 𝕄
  | .bar => barPay c d
  | .s1 r => s1Pay A c l r
  | .r1 r => r1Pay A c l r
  | .s2 r => s2Pay A c l r
  | .r2 r => r2Pay A c l r
  | .other => iprop(emp)

def Rd : Rounds.Schedule (GSem nD τ sig) (Fin 31) 𝕄 where
  duties g l := if g.1.2 = .tc then dut (kind g.2) l else ∅
  unitless _ := False
  amount g _ _ := if kind g.2 = .bar then 1 else N
  payload g l d := payK A g.1.1 l d (kind g.2)
  amount_pos g _ _ _ := by
    by_cases h : kind g.2 = .bar
    · rw [if_pos h]; exact Nat.one_pos
    · rw [if_neg h]; exact N_pos

instance Rd_payload_storable (g : GSem nD τ sig) (l : ℕ) (d : Fin 31) :
    BI.Storable (upEmb : UEmb _ 𝕄) ((Rd A).payload g l d) := by
  show BI.Storable upEmb (payK A g.1.1 l d (kind g.2))
  cases kind g.2 <;> (unfold payK; infer_instance)

theorem duties_def (g : GSem nD τ sig) (l : ℕ) : (Rd A).duties g l = if g.1.2 = .tc then dut (kind g.2) l else ∅ := rfl
theorem payload_def (g : GSem nD τ sig) (l : ℕ) (d : Fin 31) : (Rd A).payload g l d = payK A g.1.1 l d (kind g.2) := rfl
theorem amount_def (g : GSem nD τ sig) (l : ℕ) (d : Fin 31) : (Rd A).amount g l d = if kind g.2 = .bar then 1 else N := rfl

section Facts
variable (c : Dev nD) (r : Fin 31) (l : ℕ)

theorem duties_bar : (Rd A).duties (barC c) 0 = Finset.univ := by
  rw [duties_def, if_pos rfl, kind_bar]; rfl
theorem duties_dma {q : DmaSem sig} (h : kind (.dma q) = .s1 r ∨ kind (.dma q) = .r1 r ∨ kind (.dma q) = .s2 r ∨ kind (.dma q) = .r2 r)
    (hl : l < 3) : (Rd A).duties ((c : Thread nD τ), .dma q) l = {0} := by
  rw [duties_def, if_pos rfl]
  rcases h with h | h | h | h <;> (rw [h]; exact if_pos hl)
theorem amount_dma {q : DmaSem sig} (h : kind (.dma q) ≠ .bar) (d : Fin 31) : (Rd A).amount ((c : Thread nD τ), .dma q) l d = N := (amount_def A _ l d).trans (if_neg h)
theorem amount_bar (d : Fin 31) : (Rd A).amount (barC c) l d = 1 := (amount_def A _ l d).trans (if_pos kind_bar)

theorem duties_s1 (hl : l < 3) : (Rd A).duties (cs1 c r) l = {0} := duties_dma A c r l (.inl (kind_ss1 r)) hl
theorem duties_r1 (hl : l < 3) : (Rd A).duties (cr1 c r) l = {0} := duties_dma A c r l (.inr (.inl (kind_rs1 r))) hl
theorem duties_s2 (hl : l < 3) : (Rd A).duties (cs2 c r) l = {0} := duties_dma A c r l (.inr (.inr (.inl (kind_ss2 r)))) hl
theorem duties_r2 (hl : l < 3) : (Rd A).duties (cr2 c r) l = {0} := duties_dma A c r l (.inr (.inr (.inr (kind_rs2 r)))) hl
theorem amount_s1 (d : Fin 31) : (Rd A).amount (cs1 c r) l d = N := amount_dma A c l (by rw [kind_ss1]; exact fun h => by cases h) d
theorem amount_r1 (d : Fin 31) : (Rd A).amount (cr1 c r) l d = N := amount_dma A c l (by rw [kind_rs1]; exact fun h => by cases h) d
theorem amount_s2 (d : Fin 31) : (Rd A).amount (cs2 c r) l d = N := amount_dma A c l (by rw [kind_ss2]; exact fun h => by cases h) d
theorem amount_r2 (d : Fin 31) : (Rd A).amount (cr2 c r) l d = N := amount_dma A c l (by rw [kind_rs2]; exact fun h => by cases h) d
theorem payload_bar (d : Fin 31) : (Rd A).payload (barC c) l d = barPay c d := by
  rw [payload_def, kind_bar]; rfl
theorem payload_s1 (d : Fin 31) : (Rd A).payload (cs1 c r) l d = s1Pay A c l r := by
  rw [payload_def, kind_ss1]; rfl
theorem payload_r1 (d : Fin 31) : (Rd A).payload (cr1 c r) l d = r1Pay A c l r := by
  rw [payload_def, kind_rs1]; rfl
theorem payload_s2 (d : Fin 31) : (Rd A).payload (cs2 c r) l d = s2Pay A c l r := by
  rw [payload_def, kind_ss2]; rfl
theorem payload_r2 (d : Fin 31) : (Rd A).payload (cr2 c r) l d = r2Pay A c l r := by
  rw [payload_def, kind_rs2]; rfl

theorem expect_bar : (Rd A).expect (barC c) 0 = 31 := by
  unfold Schedule.expect Schedule.amountOf
  rw [duties_bar, Finset.sum_congr rfl fun d _ => amount_bar A c 0 d, Finset.sum_const, Finset.card_univ, Fintype.card_fin, smul_eq_mul]
theorem rest_bar : bigSep ((Rd A).duties (barC c) 0 \ ∅) (fun d => (Rd A).payload (barC c) 0 d) = bigSepL all (barPay (F := F) c) := by
  rw [Finset.sdiff_empty, duties_bar, bigSep_univ_eq_bigSepL all (by decide) (by decide)]
  exact congrArg (bigSepL all) (funext fun d => payload_bar A c 0 d)

/-- A cell with one duty in round `l`. -/
theorem expect_one {g : GSem nD τ sig} (h : (Rd A).duties g l = {0}) (ha : (Rd A).amount g l 0 = N) : (Rd A).expect g l = N := by
  unfold Schedule.expect Schedule.amountOf; rw [h, Finset.sum_singleton, ha]
theorem rest_one {g : GSem nD τ sig} {P : sProp 𝕄} (h : (Rd A).duties g l = {0}) (hp : (Rd A).payload g l 0 = P) :
    bigSep ((Rd A).duties g l \ ∅) (fun d => (Rd A).payload g l d) = P := by
  rw [Finset.sdiff_empty, h, bigSep_singleton, hp]

/-- After its last round a cell has no duties. -/
theorem duties_later (g : GSem nD τ sig) (k : ℕ) (hk : ∀ l, k ≤ l → dut (kind g.2) l = ∅) : ∀ l, k ≤ l → (Rd A).duties g l = ∅ :=
  fun l h => by rw [duties_def, hk l h, ite_self]

end Facts

/-! ## Levels and what is owed -/

/-- Copies and rounds in program order: the signals, the copies of the reduce-scatter and of the all-gather. -/
inductive Ev where
  | bar (r : Fin 31)
  | r1 (l : ℕ) (r : Fin 31)
  | r2 (l : ℕ) (r : Fin 31)
  deriving DecidableEq

def evC (c : Dev nD) : Ev → GSem nD τ sig
  | .bar r => barC (nb c r)
  | .r1 _ r => cr1 (nb c r) r.rev
  | .r2 _ r => cr2 (nb c r) r.rev
def evI : Ev → ℕ
  | .bar _ => 0
  | .r1 l _ => l
  | .r2 l _ => l
def evN : Ev → ℕ
  | .bar _ => 1
  | .r1 _ _ => N
  | .r2 _ _ => N
/-- The level of what an event raises. -/
def evL : Ev → ℕ
  | .bar _ => 1
  | .r1 l _ => 2 + 2 * l
  | .r2 l _ => 3 + 2 * l

/-- What a device owes that still has the events `es` before it. -/
def tal (c : Dev nD) (es : List Ev) : CellTallies nD τ sig ℕ := es.foldr (fun e acc => acc + tallyAt (evC c e) (evI e) (evN e)) 0

def lvK : Kd → ℕ → ℕ
  | .bar, _ => 1
  | .r1 _, l => 2 + 2 * l
  | .r2 _, l => 3 + 2 * l
  | _, _ => 0

def L (g : GSem nD τ sig) : Finset ℕ := if g.1.2 = .tc then Finset.range 3 else ∅
def lv (g : GSem nD τ sig) (l : ℕ) : ℕ := lvK (kind g.2) l

theorem L_of_ne (g : GSem nD τ sig) (h : g.1.2 ≠ .tc) : L g = ∅ := if_neg h
theorem L_tc (c : Dev nD) (sm : SemLoc sig) : L ((c : Thread nD τ), sm) = Finset.range 3 := if_pos rfl

theorem evC_tc (c : Dev nD) (e : Ev) : L (evC c e) = Finset.range 3 := by cases e <;> exact L_tc _ _
theorem lv_ev (c : Dev nD) (e : Ev) : lv (evC c e) (evI e) = evL e := by
  cases e
  · show lvK (kind (.reg barS)) _ = _; rw [kind_bar]; rfl
  · show lvK (kind (.dma (rs1 _))) _ = _; rw [kind_rs1]; rfl
  · show lvK (kind (.dma (rs2 _))) _ = _; rw [kind_rs2]; rfl

theorem tal_pos {c : Dev nD} {es : List Ev} {g : GSem nD τ sig} {u : ℕ} (h : 0 < tal c es g u) :
    ∃ e ∈ es, g = evC c e ∧ u = evI e := by
  induction es with
  | nil => exact absurd h (Nat.lt_irrefl 0)
  | cons e es ih =>
    unfold tal at h
    rw [List.foldr_cons, Pi.add_apply, Finsupp.add_apply, tallyAt_apply] at h
    by_cases he : g = evC c e ∧ u = evI e
    · exact ⟨e, List.mem_cons_self, he⟩
    · rw [if_neg he, Nat.add_zero] at h
      obtain ⟨e', h', h''⟩ := ih h
      exact ⟨e', List.mem_cons_of_mem _ h', h''⟩

/-- A device may wait on a cell below everything it still owes. -/
theorem mayWait (c : Dev nD) (sm : SemLoc sig) (l : ℕ) (hl : l < 3) (es : List Ev)
    (h : ∀ e ∈ es, lv ((c : Thread nD τ), sm) l < evL e ∧ evI e < 3) :
    (levAts L lv : sProp 𝕄) ⊢ MayWait (c : Thread nD τ) sm l (tal c es) :=
  MayOwe.of_cut (L := L) (lev := lv) (lv ((c : Thread nD τ), sm) l)
    (fun p hp => by rw [Finset.mem_singleton.mp hp, L_tc]; exact Finset.mem_range.mpr hl)
    (fun g u hg => by obtain ⟨e, he, rfl, rfl⟩ := tal_pos hg; rw [evC_tc]; exact Finset.mem_range.mpr (h e he).2)
    (fun p hp => by rw [Finset.mem_singleton.mp hp])
    (fun g u hg => by obtain ⟨e, he, rfl, rfl⟩ := tal_pos hg; rw [lv_ev]; exact (h e he).1)

end Cert.KernelIdeal.Net

end
-- ==== Proof.Steps.lean ====
/- One step of the exchange at a time, and loops of such steps. -/
module

public import proofs.«01_k».proof.Proof.Schedule

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

abbrev 𝒱₀ : Variants := Variants.none

/-- Running `p` on device `c` to the end with `Kt`. -/
abbrev Wp (c : Dev nD) (Kt : PUnit → sProp 𝕄) (p : Act F) : sProp 𝕄 :=
  wp frame (wpE (defs₀ (F := F)) 𝒱₀ (c : Thread nD τ) none) Set.univ p Kt

/-! ## What all devices know -/

/-- The semaphores of the exchange: the barrier, then the kernel's own. -/
def csem : Option (Fin 126) → SemLoc sig
  | none => .reg barS
  | some q => .dma ⟨8 + q.val, by have := q.isLt; show 8 + q.val < 134; omega⟩
def kcell (ck : Dev nD × Option (Fin 126)) : GSem nD τ sig := ((ck.1 : Thread nD τ), csem ck.2)

variable (A : Ops F)

/-- The levels, as all devices know them. -/
@[irreducible] def Lev : sProp 𝕄 := levAts L lv
instance Lev_persistent : BI.Persistent (Lev (F := F)) := by unfold Lev; infer_instance

@[irreducible] def inv (g : GSem nD τ sig) : sProp 𝕄 := iprop(∃ κ : ℕ, cellInv ER (Rd A) κ g)
instance inv_persistent (g : GSem nD τ sig) : BI.Persistent (inv A g) := by unfold inv; infer_instance

/-- The invariant of every cell, that each has come to round 0, and the levels. -/
@[irreducible] def Know : sProp 𝕄 :=
  iprop((bigSep Finset.univ fun ck : Dev nD × Option (Fin 126) => inv A (kcell ck))
    ∗ (bigSep Finset.univ fun ck : Dev nD × Option (Fin 126) => (reached ER (kcell ck) 0 : sProp 𝕄)) ∗ Lev (F := F))
instance know_persistent : BI.Persistent (Know A) := by unfold Know; infer_instance

theorem csem_of_kind {sm : SemLoc sig} (h : kind sm ≠ .other) : ∃ k, csem k = sm := by
  cases sm with
  | reg s =>
    refine ⟨none, ?_⟩
    by_cases hs : s = barS
    · rw [hs]; rfl
    · exact absurd (if_neg hs) h
  | dma q =>
    have hq : 8 ≤ q.val := by
      by_contra hc
      refine h ?_
      show kindN q.val = .other
      unfold kindN
      rw [dif_neg (by omega), dif_neg (by omega), dif_neg (by omega), dif_neg (by omega)]
    have hq' : q.val < 134 := q.isLt
    exact ⟨some ⟨q.val - 8, by omega⟩, congrArg SemLoc.dma (Fin.ext (show 8 + (q.val - 8) = q.val by omega))⟩

theorem know_inv (c : Dev nD) {sm : SemLoc sig} (h : kind sm ≠ .other) : Know A ⊢ inv A ((c : Thread nD τ), sm) := by
  obtain ⟨k, rfl⟩ := csem_of_kind h
  unfold Know
  iintro ⟨H, -, -⟩
  iapply (show (bigSep Finset.univ fun ck : Dev nD × Option (Fin 126) => inv A (kcell ck)) ⊢ inv A (kcell (c, k)) from
    bigSep_elim (Finset.mem_univ (c, k)))
  iexact H
theorem know_reached (c : Dev nD) {sm : SemLoc sig} (h : kind sm ≠ .other) : Know A ⊢ reached ER ((c : Thread nD τ), sm) 0 := by
  obtain ⟨k, rfl⟩ := csem_of_kind h
  unfold Know
  iintro ⟨-, H, -⟩
  iapply (show (bigSep Finset.univ fun ck : Dev nD × Option (Fin 126) => (reached ER (kcell ck) 0 : sProp 𝕄)) ⊢ reached ER (kcell (c, k)) 0 from
    bigSep_elim (Finset.mem_univ (c, k)))
  iexact H
theorem know_lev : Know A ⊢ Lev (F := F) := by unfold Know; iintro ⟨-, -, H⟩; iexact H

theorem ne_bar : kind (.reg barS) ≠ .other := by rw [kind_bar]; exact fun h => by cases h
theorem ne_s1 (r : Fin 31) : kind (.dma (ss1 r)) ≠ .other := by rw [kind_ss1]; exact fun h => by cases h
theorem ne_r1 (r : Fin 31) : kind (.dma (rs1 r)) ≠ .other := by rw [kind_rs1]; exact fun h => by cases h
theorem ne_s2 (r : Fin 31) : kind (.dma (ss2 r)) ≠ .other := by rw [kind_ss2]; exact fun h => by cases h
theorem ne_r2 (r : Fin 31) : kind (.dma (rs2 r)) ≠ .other := by rw [kind_rs2]; exact fun h => by cases h

/-! ## Loops -/

/-- What device `c` owes, whatever it has waited for. -/
@[irreducible] def ow (c : Dev nD) (es : List Ev) : sProp 𝕄 := iprop(∃ W, owes (c : Thread nD τ) (tal c es) W)

/-- A loop from its step: step `r` turns `P r` into `Z r`, and the state `T` of the steps still to do
    into that of the rest. -/
theorem chain_wp (c : Dev nD) (Kt : PUnit → sProp 𝕄) (R : sProp 𝕄) [BI.Persistent R] (P Z : Fin 31 → sProp 𝕄)
    (T : List (Fin 31) → sProp 𝕄) (f : Fin 31 → Act F → Act F)
    (step : ∀ r rs k, iprop(R ∗ P r ∗ T (r :: rs)) ⊢ iprop((Z r ∗ T rs -∗ Wp c Kt k) -∗ Wp c Kt (f r k))) :
    ∀ (ks : List (Fin 31)) (k : Act F),
      iprop(R ∗ bigSepL ks P ∗ T ks) ⊢ iprop((bigSepL ks Z ∗ T [] -∗ Wp c Kt k) -∗ Wp c Kt (chain ks f k))
  | [], k => by
    iintro ⟨-, -, HT⟩ Hk
    iapply Hk
    isplitr
    · rw [bigSepL_nil]; iempintro
    iexact HT
  | r :: rs, k => by
    show _ ⊢ iprop(_ -∗ Wp c Kt (f r (chain rs f k)))
    rw [bigSepL_cons', bigSepL_cons']
    iintro ⟨#HR, ⟨HP, HPs⟩, HT⟩ Hk
    iapply (step r rs (chain rs f k)) $$ [HP HT]
    · isplitr; · iexact HR
      isplitl [HP] <;> iassumption
    iintro ⟨HZ, HT⟩
    iapply (chain_wp c Kt R P Z T f step rs k) $$ [HPs HT]
    · isplitr; · iexact HR
      isplitl [HPs] <;> iassumption
    iintro ⟨HZs, HT⟩
    iapply Hk
    isplitr [HT]
    · isplitl [HZ] <;> iassumption
    iexact HT

/-! ## The signal and the waits -/

variable (c : Dev nD)
variable (Kt : PUnit → sProp (MT nD τ sig ℕ (Elt F) ℕ UU ℕ))

theorem sig_step (es : List Ev) (r : Fin 31) (rs : List (Fin 31)) (k : Act F) :
    iprop(Know A ∗ (dutyTok ER (barC (nb c r)) 0 r.rev ∗ free1 (F := F) c r ∗ free2 (F := F) c r) ∗ ow c ((r :: rs).map .bar ++ es))
      ⊢ iprop((iprop(emp) ∗ ow c (rs.map .bar ++ es) -∗ Wp c Kt k) -∗ Wp c Kt (sig1 c r k)) := by
  unfold sig1 ow Wp
  rw [peer_eq]
  iintro ⟨#HR, ⟨Ht, H1, H2⟩, ⟨%W, HO⟩⟩ Hk
  ihave Hi := (know_inv A (nb c r) ne_bar) $$ HR
  ihave Hr := (know_reached A (nb c r) ne_bar) $$ HR
  unfold inv
  icases Hi with ⟨%κ, #Hi⟩
  iapply (Rounds.wp_signal 𝒱₀ ER (Rd A) (c : Thread nD τ) none (dst := (nb c r : Thread nD τ)) (κ := κ) (r := 0) (d := r.rev)
    (by rw [duties_bar]; exact Finset.mem_univ _) ((amount_bar A (nb c r) 0 r.rev).trans (by decide)) 0
    (tal c (rs.map .bar ++ es)) rfl) $$ [HO Ht H1 H2 Hr]
  · isplitr; · iexact Hi
    isplitl [HO]; · iexact HO
    isplitl [Ht]; · iexact Ht
    isplitr [Hr]
    · rw [payload_bar]; unfold barPay; rw [nb_nb, Fin.rev_rev]
      isplitl [H1] <;> iassumption
    iexact Hr
  iintro HO
  iapply Hk
  isplitr; · iempintro
  iexists W; iexact HO

/-- A wait for the one copy of a round. -/
theorem wait_step {s : DmaSem sig} {a b : Memref sig .tc .vmem S16x512 .bf16} {ha : a.view.WordExact} {hb : b.view.WordExact}
    (l : ℕ) (hl : l < 3) (ι : ℕ) (hι : ι < 3) (es : List Ev) (hes : ∀ e ∈ es, lv ((c : Thread nD τ), .dma s) ι < evL e ∧ evI e < 3)
    (hk : kind (.dma s) ≠ .other) (hN : b.view.dmaCredit = N) {P : sProp 𝕄}
    (hd : (Rd A).duties ((c : Thread nD τ), .dma s) l = {0}) (hN' : (Rd A).amount ((c : Thread nD τ), .dma s) l 0 = N)
    (hp : (Rd A).payload ((c : Thread nD τ), .dma s) l 0 = P) (k : Act F) :
    iprop(Know A ∗ (atPos ER ((c : Thread nD τ), .dma s) l ∅ 0 ∗ cred (tallyAt ((c : Thread nD τ), .dma s) ι N)) ∗ ow c es)
      ⊢ iprop(((atPos ER ((c : Thread nD τ), .dma s) (l + 1) ∅ 0 ∗ reached ER ((c : Thread nD τ), .dma s) (l + 1) ∗ P) ∗ ow c es -∗ Wp c Kt k)
        -∗ Wp c Kt (await s a b ha hb k)) := by
  unfold await ow Wp
  iintro ⟨#HR, ⟨Hat, Hc⟩, ⟨%W, HO⟩⟩ Hk
  ihave #Hlev := (know_lev A) $$ HR
  ihave Hi := (know_inv A c hk) $$ HR
  unfold inv
  icases Hi with ⟨%κ, #Hi⟩
  iapply (Rounds.wp_wait_rest_token 𝒱₀ ER (Rd A) (c : Thread nD τ) none (κ := κ)
    (wpE_waitDma2_eq 𝒱₀ (c : Thread nD τ) none Set.univ) (Set.mem_univ _) ι (O := tal c es) (W := W) (R := l) (m := 0) (T := ∅)
    (by rw [Nat.zero_add, expect_one A l hd hN', hN])) $$ [Hat Hc HO]
  · isplitr; · iexact Hi
    isplitl [Hc]; · rw [hN]; iexact Hc
    isplitl [HO]; · iexact HO
    isplitr; · iapply (mayWait c (.dma s) ι hι es hes); unfold Lev; iexact Hlev
    iexact Hat
  iintro ⟨HO, Hat, Hr, Hpay⟩
  ihave Hp := (Entails.of_eq (rest_one A l hd hp)) $$ Hpay
  iapply Hk
  isplitr [HO]
  · isplitl [Hat]; · iexact Hat
    isplitl [Hr] <;> iassumption
  iexists _; iexact HO

theorem wait_bar (es : List Ev) (hes : ∀ e ∈ es, 1 < evL e ∧ evI e < 3) (k : Act F) :
    iprop(Know A ∗ (atPos ER (barC c) 0 ∅ 0 ∗ cred (tallyAt (barC c) 0 31)) ∗ ow c es)
      ⊢ iprop(((atPos ER (barC c) 1 ∅ 0 ∗ bigSepL all (barPay (F := F) c)) ∗ ow c es -∗ Wp c Kt k)
        -∗ Wp c Kt (.op (.semWait barS 31) fun _ => k)) := by
  unfold ow Wp
  iintro ⟨#HR, ⟨Hat, Hc⟩, ⟨%W, HO⟩⟩ Hk
  ihave #Hlev := (know_lev A) $$ HR
  ihave Hi := (know_inv A c ne_bar) $$ HR
  unfold inv
  icases Hi with ⟨%κ, #Hi⟩
  iapply (Rounds.wp_wait_rest_token 𝒱₀ ER (Rd A) (c : Thread nD τ) none (κ := κ)
    (wpE_semWait_eq 𝒱₀ (c : Thread nD τ) none Set.univ) (Set.mem_univ _) 0 (O := tal c es) (W := W) (R := 0) (m := 0) (T := ∅)
    (by rw [Nat.zero_add, expect_bar])) $$ [Hat Hc HO]
  · isplitr; · iexact Hi
    isplitl [Hc]; · iexact Hc
    isplitl [HO]; · iexact HO
    isplitr
    · iapply (mayWait c (.reg barS) 0 (by decide) es (by
        intro e he; refine ⟨?_, (hes e he).2⟩
        rw [show lv ((c : Thread nD τ), .reg barS) 0 = 1 from by unfold lv; rw [kind_bar]; rfl]; exact (hes e he).1))
      unfold Lev; iexact Hlev
    iexact Hat
  iintro ⟨HO, Hat, -, Hpay⟩
  ihave Hp := (Entails.of_eq (rest_bar A c)) $$ Hpay
  iapply Hk
  isplitr [HO]
  · isplitl [Hat] <;> iassumption
  iexists _; iexact HO

/-! ## The copies -/

/-- A copy to the peer numbered `r`: it pays the round `l` of its cell here and of its cell there. -/
theorem send_step {src dst : Memref sig .tc .vmem S16x512 .bf16} {sS sR : DmaSem sig} {h : src.view.WordExact} {h' : dst.view.WordExact}
    (l : ℕ) (r : Fin 31) (es : List Ev) (e : Ev) (hC : evC c e = ((nb c r : Thread nD τ), .dma sR)) (hEN : evN e = N)
    (hkS : kind (.dma sS) ≠ .other) (hkR : kind (.dma sR) ≠ .other) (hN : dst.view.dmaCredit = N)
    (hdS : (Rd A).duties ((c : Thread nD τ), .dma sS) l = {0}) (hdR : (Rd A).duties ((nb c r : Thread nD τ), .dma sR) l = {0})
    (hNS : (Rd A).amount ((c : Thread nD τ), .dma sS) l 0 = N) (hNR : (Rd A).amount ((nb c r : Thread nD τ), .dma sR) l 0 = N)
    {q : PosShare TreeShare} {fs : Buf (Elt F) (src.view.loc (c : Thread nD τ))} {fd : Buf (Elt F) (dst.view.loc (nb c r : Thread nD τ))}
    {Fr : sProp 𝕄}
    (hpS : (src.view.loc (c : Thread nD τ) ↦[src.view.set]{q} fs) ⊢ (Rd A).payload ((c : Thread nD τ), .dma sS) l 0)
    (hpR : iprop((dst.view.loc (nb c r : Thread nD τ) ↦[dst.view.set]{fullShare} (dst.view.write (Elt F) fd (src.view.read (Elt F) fs) Finset.univ)) ∗ Fr)
      ⊢ (Rd A).payload ((nb c r : Thread nD τ), .dma sR) l 0) (k : Act F) :
    iprop(Know A ∗ ((src.view.loc (c : Thread nD τ) ↦[src.view.set]{q} fs) ∗ ((dst.view.loc (nb c r : Thread nD τ) ↦[dst.view.set]{fullShare} fd) ∗ Fr)
        ∗ dutyTok ER ((c : Thread nD τ), .dma sS) l 0 ∗ reached ER ((c : Thread nD τ), .dma sS) l
        ∗ dutyTok ER ((nb c r : Thread nD τ), .dma sR) l 0 ∗ reached ER ((nb c r : Thread nD τ), .dma sR) l) ∗ ow c (e :: es))
      ⊢ iprop((cred (tallyAt ((c : Thread nD τ), .dma sS) 0 N) ∗ ow c es -∗ Wp c Kt k)
        -∗ Wp c Kt (send (nb c r) src dst sS sR h h' k)) := by
  unfold send ow Wp
  iintro ⟨#HR, ⟨Hs, Hd, HtS, HrS, HtR, HrR⟩, ⟨%W, HO⟩⟩ Hk
  ihave HiS := (know_inv A c hkS) $$ HR
  ihave HiR := (know_inv A (nb c r) hkR) $$ HR
  unfold inv
  icases HiS with ⟨%κ₁, #HiS⟩
  icases HiR with ⟨%κ₂, #HiR⟩
  iapply (Rounds.wp_send_pointsTo_with 𝒱₀ ER (Rd A) (c : Thread nD τ) none (κ₁ := κ₁) (κ₂ := κ₂) (c' := (nb c r : Thread nD τ))
    (sS := .dma sS) (sem := .dma sR) (r₁ := l) (r₂ := l) (d₁ := 0) (d₂ := 0) (fd := fd) (fs := fs) (F := Fr)
    (by rw [hdS]; exact Finset.mem_singleton_self _) (by rw [hdR]; exact Finset.mem_singleton_self _) (evI e) 0 N (show dst.view.dmaCredit = N from hN) hNS hNR
    (tal c es) (show tal c (e :: es) = _ from by rw [← hC, ← hEN]; rfl) (W := W) hpS hpR) $$ [Hs Hd HtS HrS HtR HrR HO]
  · isplitr; · iexact HiS
    isplitr; · iexact HiR
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitl [Hc]; · iexact Hc
  iexists W; iexact HO

end Cert.KernelIdeal.Net

end
-- ==== Proof.Copies.lean ====
/- The copies of the kernel and the waits for them, each with what it takes and what it leaves. -/
module

public import proofs.«01_k».proof.Proof.Steps

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig ℕ (Elt F) ℕ UU ℕ

/-! ## The ghost state of one peer -/

/-- A cell stands at round `l`, with nothing taken of that round. -/
def pos (g : GSem nD τ sig) (l : ℕ) : sProp 𝕄 := iprop(atPos ER g l ∅ 0 ∗ reached ER g l)
/-- The tokens of the copies to the peer numbered `r` in round `l`: for its end here and its end there. -/
def tk1 (c : Dev nD) (l : ℕ) (r : Fin 31) : sProp 𝕄 := iprop(dutyTok ER (cs1 c r) l 0 ∗ dutyTok ER (cr1 (nb c r) r.rev) l 0)
def tk2 (c : Dev nD) (l : ℕ) (r : Fin 31) : sProp 𝕄 := iprop(dutyTok ER (cs2 c r) l 0 ∗ dutyTok ER (cr2 (nb c r) r.rev) l 0)
/-- The credit of the copy that the peer numbered `r` owes in round `l`. -/
def cd1 (c : Dev nD) (l : ℕ) (r : Fin 31) : sProp 𝕄 := cred (tallyAt (cr1 c r) l N)
def cd2 (c : Dev nD) (l : ℕ) (r : Fin 31) : sProp 𝕄 := cred (tallyAt (cr2 c r) l N)
/-- The credit of a copy this device has started. -/
def go1 (c : Dev nD) (r : Fin 31) : sProp 𝕄 := cred (tallyAt (cs1 c r) 0 N)
def go2 (c : Dev nD) (r : Fin 31) : sProp 𝕄 := cred (tallyAt (cs2 c r) 0 N)
/-- What a copy hands over beyond its data: the sender's own landing slot for the copy back. -/
def back1 (c : Dev nD) (l : ℕ) (r : Fin 31) : sProp 𝕄 :=
  if l = 0 then iprop(emp) else iprop(free2 (F := F) c r ∗ reached ER (cr2 c r) l)
def back2 (c : Dev nD) (l : ℕ) (r : Fin 31) : sProp 𝕄 :=
  if l < 2 then iprop(free1 (F := F) c r ∗ reached ER (cr1 c r) (l + 1)) else iprop(emp)

variable [FloatOps F] (A : Ops F) (c : Dev nD) (r : Fin 31)

theorem back1_eq (l : ℕ) : back1 (F := F) c l r = if l = 0 then iprop(emp) else dst2 (nb c r) l r.rev := by
  unfold back1 dst2; rw [nb_nb, Fin.rev_rev]
theorem back2_eq (l : ℕ) : back2 (F := F) c l r = if l < 2 then dst1 (nb c r) (l + 1) r.rev else iprop(emp) := by
  unfold back2 dst1; rw [nb_nb, Fin.rev_rev]

theorem s1Pay_zero : s1Pay A c 0 r = pAt c (rb (nb c r).val) (Pc A c) := if_pos rfl
theorem s1Pay_succ (l : ℕ) : s1Pay A c (l + 1) r = qAt c (rb (1 + r.val)) (Q A (l + 1) c) := if_neg (Nat.succ_ne_zero l)

/-! ## What lands -/

theorem lands0 (a : Fin 16) (b : Fin 512) :
    R1 A 0 (nb c r) (ix3 (⟨1 + r.rev.val, by omega⟩ : Fin 32) a b) = Pc A c (ix2 (⟨16 * (nb c r).val + a.val, by have := (nb c r).isLt; have : nD = 32 := rfl; omega⟩ : Fin 512) b) := by
  show scat0 A (nb c r) _ = _
  unfold scat0
  rw [stack_peer, nb_nb]; rfl

theorem landsS (l : ℕ) (a : Fin 16) (b : Fin 512) :
    R1 A (l + 1) (nb c r) (ix3 (⟨1 + r.rev.val, by omega⟩ : Fin 32) a b) = Q A (l + 1) c (ix2 (⟨16 * (1 + r.val) + a.val, by omega⟩ : Fin 512) b) := by
  show scatS A l (S A l) (nb c r) _ = _
  unfold scatS
  rw [stack_peer]
  show blk (qOf A l (S A l) (nb (nb c r) r.rev)) _ _ _ = _
  rw [nb_nb]
  show qOf A l (S A l) c (ix2 (⟨16 * (1 + r.rev.rev.val) + a.val, _⟩ : Fin 512) b) = _
  simp only [Fin.rev_rev]; rfl

theorem landsG (l : ℕ) (a : Fin 16) (b : Fin 512) :
    G2 A l (nb c r) (ix3 (⟨1 + r.rev.val, by omega⟩ : Fin 32) a b) = G2 A l c (ix3 (⟨0, by omega⟩ : Fin 32) a b) := by
  unfold G2 gatherOf
  rw [stack_peer, stack_own _ _ _ rfl, nb_nb]; rfl

/-! ## Copies -/

theorem credit_eq (v v' : View sig .tc .vmem S16x512 .bf16) : v.dmaCredit = v'.dmaCredit := rfl

theorem send_congr {p p' : Dev nD} {src src' dst dst' : Memref sig .tc .vmem S16x512 .bf16} {sS sR sR' : DmaSem sig}
    {h : src.view.WordExact} {h' : dst.view.WordExact} (k : Act F) (e : p = p') (es : src = src') (ed : dst = dst') (er : sR = sR') :
    send p src dst sS sR h h' k = send p' src' dst' sS sR' (es ▸ h) (ed ▸ h') k := by
  subst e es ed er; rfl

theorem rowsM_congr (m : Memref sig .tc .vmem S512x512 .bf16) {off off' : Fin 2 → Nat} (e : off = off')
    (h : ∀ a, off a + S16x512.size a ≤ S512x512.size a) (h' : ∀ a, off' a + S16x512.size a ≤ S512x512.size a) :
    rowsM m off h = rowsM m off' h' := by subst e; rfl

theorem inbP : ∀ d : Dev nD, ∀ a, (![16 * d.val, 0] : Fin 2 → Nat) a + S16x512.size a ≤ S512x512.size a := by decide

theorem rowsP_eq : rowsP c r = rowsM mP ![16 * (nb c r).val, 0] (inbP (nb c r)) := rowsM_congr mP (off3_eq c r) _ _

variable (Kt : PUnit → sProp (MT nD τ sig ℕ (Elt F) ℕ UU ℕ))

/-- What a copy of the reduce-scatter takes in round `l`; the same of the all-gather. -/
def in1 (l : ℕ) (r : Fin 31) : sProp 𝕄 :=
  iprop(s1Pay A c l r ∗ dst1 c l r ∗ back1 c l r ∗ tk1 c l r ∗ reached ER (cs1 c r) l)
def in2 (l : ℕ) (r : Fin 31) : sProp 𝕄 :=
  iprop(s2Pay A c l r ∗ dst2 c l r ∗ back2 c l r ∗ tk2 c l r ∗ reached ER (cs2 c r) l)

theorem sendP_step (es : List Ev) (rs : List (Fin 31)) (k : Act F) :
    iprop(Know A ∗ in1 A c 0 r ∗ ow c ((r :: rs).map (.r1 0) ++ es))
      ⊢ iprop((go1 c r ∗ ow c (rs.map (.r1 0) ++ es) -∗ Wp c Kt k) -∗ Wp c Kt (sendP c r k)) := by
  unfold sendP
  rw [send_congr k (peer_eq c r) (rowsP_eq c r) (slotD_eq mR1 c r) (rd1_eq c r)]
  unfold in1 dst1 free1 tk1 r1At
  rw [s1Pay_zero]
  unfold pAt
  iintro ⟨#HR, ⟨Hs, ⟨⟨%fd, Hd⟩, Hrd⟩, -, ⟨HtS, HtR⟩, HrS⟩, HO⟩ Hk
  iapply (send_step A c Kt (src := rowsM mP ![16 * (nb c r).val, 0] (inbP (nb c r))) (dst := slotS mR1 r.rev) (sS := ss1 r) (sR := rs1 r.rev)
    0 r (rs.map (.r1 0) ++ es) (.r1 0 r) rfl rfl (ne_s1 r) (ne_r1 r.rev) (credit_eq _ _) (duties_s1 A c r 0 (by decide)) (duties_r1 A (nb c r) r.rev 0 (by decide))
    (amount_s1 A c r 0 0) (amount_r1 A (nb c r) r.rev 0 0) (q := fullShare) (fs := Pc A c) (fd := fd) (Fr := iprop(emp))
    (by rw [set_rowsP, payload_s1, s1Pay_zero]; exact .rfl)
    (by
      rw [payload_r1, set_slot1]; unfold r1Pay r1At
      rw [if_pos rfl]
      refine sep_mono (Entails.of_eq (pointsTo_congr (land1 (by omega) _ _ _ _ fun a b => ?_))) .rfl
      rw [lands0, read_rowsP (nb c r).isLt])
    k) $$ [Hs Hd HtS HtR HrS Hrd HO]
  · isplitr; · iexact HR
    isplitr [HO]
    · isplitl [Hs]
      · rw [set_rowsP]; iexact Hs
      isplitl [Hd]
      · isplitl [Hd]
        · rw [set_slot1]; iexact Hd
        iempintro
      isplitl [HtS]; · iexact HtS
      isplitl [HrS]; · iexact HrS
      isplitl [HtR]; · iexact HtR
      iexact Hrd
    iexact HO
  iexact Hk

theorem sendQ_step (l : ℕ) (hl : l + 1 < 3) (es : List Ev) (rs : List (Fin 31)) (k : Act F) :
    iprop(Know A ∗ in1 A c (l + 1) r ∗ ow c ((r :: rs).map (.r1 (l + 1)) ++ es))
      ⊢ iprop((go1 c r ∗ ow c (rs.map (.r1 (l + 1)) ++ es) -∗ Wp c Kt k) -∗ Wp c Kt (sendQ c r k)) := by
  unfold sendQ
  rw [send_congr k (peer_eq c r) rfl (slotD_eq mR1 c r) (rd1_eq c r)]
  unfold in1 dst1 free1 tk1 r1At
  rw [s1Pay_succ]
  unfold qAt
  iintro ⟨#HR, ⟨Hs, ⟨⟨%fd, Hd⟩, Hrd⟩, Hb, ⟨HtS, HtR⟩, HrS⟩, HO⟩ Hk
  iapply (send_step A c Kt (src := rowsQ r) (dst := slotS mR1 r.rev) (sS := ss1 r) (sR := rs1 r.rev)
    (l + 1) r (rs.map (.r1 (l + 1)) ++ es) (.r1 (l + 1) r) rfl rfl (ne_s1 r) (ne_r1 r.rev) (credit_eq _ _) (duties_s1 A c r _ hl) (duties_r1 A (nb c r) r.rev _ hl)
    (amount_s1 A c r _ 0) (amount_r1 A (nb c r) r.rev _ 0) (q := fullShare) (fs := Q A (l + 1) c) (fd := fd) (Fr := back1 c (l + 1) r)
    (by rw [set_rowsQ, payload_s1, s1Pay_succ]; exact .rfl)
    (by
      rw [payload_r1, set_slot1, back1_eq]; unfold r1Pay r1At
      refine sep_mono (Entails.of_eq (pointsTo_congr (land1 (by omega) _ _ _ _ fun a b => ?_))) .rfl
      rw [landsS, read_rowsQ (by omega)])
    k) $$ [Hs Hd Hb HtS HtR HrS Hrd HO]
  · isplitr; · iexact HR
    isplitr [HO]
    · isplitl [Hs]
      · rw [set_rowsQ]; iexact Hs
      isplitl [Hd Hb]
      · isplitl [Hd]
        · rw [set_slot1]; iexact Hd
        iexact Hb
      isplitl [HtS]; · iexact HtS
      isplitl [HrS]; · iexact HrS
      isplitl [HtR]; · iexact HtR
      iexact Hrd
    iexact HO
  iexact Hk

theorem sendG_step (l : ℕ) (hl : l < 3) (es : List Ev) (rs : List (Fin 31)) (k : Act F) :
    iprop(Know A ∗ in2 A c l r ∗ ow c ((r :: rs).map (.r2 l) ++ es))
      ⊢ iprop((go2 c r ∗ ow c (rs.map (.r2 l) ++ es) -∗ Wp c Kt k) -∗ Wp c Kt (sendG c r k)) := by
  unfold sendG
  rw [send_congr k (peer_eq c r) rfl (slotD_eq mR2 c r) (rd2_eq c r)]
  unfold in2 dst2 free2 tk2 s2Pay r2At
  iintro ⟨#HR, ⟨Hs, ⟨⟨%fd, Hd⟩, Hrd⟩, Hb, ⟨HtS, HtR⟩, HrS⟩, HO⟩ Hk
  iapply (send_step A c Kt (src := slot0 mR2) (dst := slotS mR2 r.rev) (sS := ss2 r) (sR := rs2 r.rev)
    l r (rs.map (.r2 l) ++ es) (.r2 l r) rfl rfl (ne_s2 r) (ne_r2 r.rev) (credit_eq _ _) (duties_s2 A c r _ hl) (duties_r2 A (nb c r) r.rev _ hl)
    (amount_s2 A c r _ 0) (amount_r2 A (nb c r) r.rev _ 0) (q := lf r) (fs := G2 A l c) (fd := fd) (Fr := back2 c l r)
    (by rw [set_slot2, payload_s2]; exact .rfl)
    (by
      rw [payload_r2, set_slot2, back2_eq]; unfold r2Pay r2At
      refine sep_mono (Entails.of_eq (pointsTo_congr (land2 (by omega) _ _ _ _ fun a b => ?_))) .rfl
      rw [landsG, read_slot2 (by omega)])
    k) $$ [Hs Hd Hb HtS HtR HrS Hrd HO]
  · isplitr; · iexact HR
    isplitr [HO]
    · isplitl [Hs]
      · rw [set_slot2]; iexact Hs
      isplitl [Hd Hb]
      · isplitl [Hd]
        · rw [set_slot2]; iexact Hd
        iexact Hb
      isplitl [HtS]; · iexact HtS
      isplitl [HrS]; · iexact HrS
      isplitl [HtR]; · iexact HtR
      iexact Hrd
    iexact HO
  iexact Hk

/-! ## Waits -/

theorem gotP_step (l : ℕ) (hl : l < 3) (es : List Ev) (hes : ∀ e ∈ es, 2 + 2 * l < evL e ∧ evI e < 3) (k : Act F) :
    iprop(Know A ∗ (pos (cr1 c r) l ∗ cd1 c l r) ∗ ow c es)
      ⊢ iprop(((pos (cr1 c r) (l + 1) ∗ r1Pay A c l r) ∗ ow c es -∗ Wp c Kt k) -∗ Wp c Kt (gotP r k)) := by
  unfold gotP pos cd1
  iintro ⟨#HR, ⟨⟨Hp, -⟩, Hc⟩, HO⟩ Hk
  iapply (wait_step A c Kt (a := slot0 mR1) (b := slotS mR1 r) (ha := we_slot0_1) (hb := we_slotS_1 r) l hl l hl es (by
      rw [show lv ((c : Thread nD τ), .dma (rs1 r)) l = 2 + 2 * l from by unfold lv; rw [kind_rs1]; rfl]; exact hes)
    (ne_r1 r) (credit_eq _ _) (duties_r1 A c r l hl) (amount_r1 A c r l 0) (payload_r1 A c r l 0) k) $$ [Hp Hc HO]
  · isplitr; · iexact HR
    isplitr [HO]; · isplitl [Hp] <;> iassumption
    iexact HO
  iintro ⟨⟨H1, H2, H3⟩, HO⟩
  iapply Hk
  isplitr [HO]
  · isplitr [H3]
    · isplitl [H1] <;> iassumption
    iexact H3
  iexact HO

theorem gotG_step (l : ℕ) (hl : l < 3) (es : List Ev) (hes : ∀ e ∈ es, 3 + 2 * l < evL e ∧ evI e < 3) (k : Act F) :
    iprop(Know A ∗ (pos (cr2 c r) l ∗ cd2 c l r) ∗ ow c es)
      ⊢ iprop(((pos (cr2 c r) (l + 1) ∗ r2Pay A c l r) ∗ ow c es -∗ Wp c Kt k) -∗ Wp c Kt (gotG r k)) := by
  unfold gotG pos cd2
  iintro ⟨#HR, ⟨⟨Hp, -⟩, Hc⟩, HO⟩ Hk
  iapply (wait_step A c Kt (a := slot0 mR2) (b := slotS mR2 r) (ha := we_slot0_2) (hb := we_slotS_2 r) l hl l hl es (by
      rw [show lv ((c : Thread nD τ), .dma (rs2 r)) l = 3 + 2 * l from by unfold lv; rw [kind_rs2]; rfl]; exact hes)
    (ne_r2 r) (credit_eq _ _) (duties_r2 A c r l hl) (amount_r2 A c r l 0) (payload_r2 A c r l 0) k) $$ [Hp Hc HO]
  · isplitr; · iexact HR
    isplitr [HO]; · isplitl [Hp] <;> iassumption
    iexact HO
  iintro ⟨⟨H1, H2, H3⟩, HO⟩
  iapply Hk
  isplitr [HO]
  · isplitr [H3]
    · isplitl [H1] <;> iassumption
    iexact H3
  iexact HO

theorem await_congr {s : DmaSem sig} {a a' b b' : Memref sig .tc .vmem S16x512 .bf16}
    {h : a.view.WordExact} {h' : b.view.WordExact} (k : Act F) (ea : a = a') (eb : b = b') :
    await s a b h h' k = await s a' b' (ea ▸ h) (eb ▸ h') k := by
  subst ea eb; rfl

theorem sent1 {a b : Memref sig .tc .vmem S16x512 .bf16} {ha : a.view.WordExact} {hb : b.view.WordExact} (hN : b.view.dmaCredit = N)
    (l : ℕ) (hl : l < 3) (es : List Ev) (hes : ∀ e ∈ es, 0 < evL e ∧ evI e < 3) (k : Act F) :
    iprop(Know A ∗ (pos (cs1 c r) l ∗ go1 c r) ∗ ow c es)
      ⊢ iprop(((pos (cs1 c r) (l + 1) ∗ s1Pay A c l r) ∗ ow c es -∗ Wp c Kt k) -∗ Wp c Kt (await (ss1 r) a b ha hb k)) := by
  unfold pos go1
  iintro ⟨#HR, ⟨⟨Hp, -⟩, Hc⟩, HO⟩ Hk
  iapply (wait_step A c Kt (a := a) (b := b) (ha := ha) (hb := hb) l hl 0 (by decide) es (by
      rw [show lv ((c : Thread nD τ), .dma (ss1 r)) 0 = 0 from by unfold lv; rw [kind_ss1]; rfl]; exact hes)
    (ne_s1 r) hN (duties_s1 A c r l hl) (amount_s1 A c r l 0) (payload_s1 A c r l 0) k) $$ [Hp Hc HO]
  · isplitr; · iexact HR
    isplitr [HO]; · isplitl [Hp] <;> iassumption
    iexact HO
  iintro ⟨⟨H1, H2, H3⟩, HO⟩
  iapply Hk
  isplitr [HO]
  · isplitr [H3]
    · isplitl [H1] <;> iassumption
    iexact H3
  iexact HO

theorem sentP_step (l : ℕ) (hl : l < 3) (es : List Ev) (hes : ∀ e ∈ es, 0 < evL e ∧ evI e < 3) (k : Act F) :
    iprop(Know A ∗ (pos (cs1 c r) l ∗ go1 c r) ∗ ow c es)
      ⊢ iprop(((pos (cs1 c r) (l + 1) ∗ s1Pay A c l r) ∗ ow c es -∗ Wp c Kt k) -∗ Wp c Kt (sentP c r k)) := by
  unfold sentP
  rw [await_congr k (slotD_eq mR1 c r) (rowsP_eq c r)]
  exact sent1 A c r Kt (credit_eq _ _) l hl es hes k

theorem sentQ_step (l : ℕ) (hl : l < 3) (es : List Ev) (hes : ∀ e ∈ es, 0 < evL e ∧ evI e < 3) (k : Act F) :
    iprop(Know A ∗ (pos (cs1 c r) l ∗ go1 c r) ∗ ow c es)
      ⊢ iprop(((pos (cs1 c r) (l + 1) ∗ s1Pay A c l r) ∗ ow c es -∗ Wp c Kt k) -∗ Wp c Kt (sentQ c r k)) :=
  sent1 A c r Kt (credit_eq _ _) l hl es hes k

theorem sentG_step (l : ℕ) (hl : l < 3) (es : List Ev) (hes : ∀ e ∈ es, 0 < evL e ∧ evI e < 3) (k : Act F) :
    iprop(Know A ∗ (pos (cs2 c r) l ∗ go2 c r) ∗ ow c es)
      ⊢ iprop(((pos (cs2 c r) (l + 1) ∗ s2Pay A c l r) ∗ ow c es -∗ Wp c Kt k) -∗ Wp c Kt (sentG c r k)) := by
  unfold sentG pos go2
  iintro ⟨#HR, ⟨⟨Hp, -⟩, Hc⟩, HO⟩ Hk
  iapply (wait_step A c Kt (a := slotD mR2 c r) (b := slot0 mR2) (ha := we_slotD_2 c r) (hb := we_slot0_2) l hl 0 (by decide) es (by
      rw [show lv ((c : Thread nD τ), .dma (ss2 r)) 0 = 0 from by unfold lv; rw [kind_ss2]; rfl]; exact hes)
    (ne_s2 r) (credit_eq _ _) (duties_s2 A c r l hl) (amount_s2 A c r l 0) (payload_s2 A c r l 0) k) $$ [Hp Hc HO]
  · isplitr; · iexact HR
    isplitr [HO]; · isplitl [Hp] <;> iassumption
    iexact HO
  iintro ⟨⟨H1, H2, H3⟩, HO⟩
  iapply Hk
  isplitr [HO]
  · isplitr [H3]
    · isplitl [H1] <;> iassumption
    iexact H3
  iexact HO

end Cert.KernelIdeal.Net

end
-- ==== Proof.Buffers.lean ====
/- The kernel's loads and stores, and the parts its buffers are held in. -/
module

public import proofs.«01_k».proof.Proof.Copies

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig ℕ (Elt F) ℕ UU ℕ

/-! ## Lists of parts -/

theorem sepL {l : List (Fin 31)} (hl : l.Nodup) (P Q : Fin 31 → sProp (MT nD τ sig ℕ (Elt F) ℕ UU ℕ)) :
    bigSepL l (fun r => iprop(P r ∗ Q r)) = iprop(bigSepL l P ∗ bigSepL l Q) := by
  rw [← bigSep_eq_bigSepL l hl, ← bigSep_eq_bigSepL l hl, ← bigSep_eq_bigSepL l hl]; exact bigSep_sep' _ _ _

theorem permL {l l' : List (Fin 31)} (h : l.Perm l') (hn : l.Nodup) (P : Fin 31 → sProp (MT nD τ sig ℕ (Elt F) ℕ UU ℕ)) :
    bigSepL l P = bigSepL l' P :=
  (bigSep_eq_bigSepL_of_eq l rfl hn P).symm.trans
    (bigSep_eq_bigSepL_of_eq l' (List.toFinset_eq_of_perm _ _ h) (h.nodup_iff.mp hn) P)

section Parts
variable {ℓ : Loc nD τ sig} {q : PosShare TreeShare} (K : Fin 31 → Finset (Idx ℓ))

theorem parts_eq (hK : ∀ r r', r ≠ r' → Disjoint (K r) (K r')) {l : List (Fin 31)} (hl : l.Nodup) (f : Buf (Elt F) ℓ) :
    (ℓ ↦[l.toFinset.biUnion K]{q} f : sProp 𝕄) = bigSepL l fun r => (ℓ ↦[K r]{q} f) := by
  rw [← bigSep_eq_bigSepL l hl]; exact pointsTo_biUnion _ _ fun r _ r' _ h => hK r r' h

theorem parts_join (hK : ∀ r r', r ≠ r' → Disjoint (K r) (K r')) (f₀ : Buf (Elt F) ℓ) : ∀ {l : List (Fin 31)} (hl : l.Nodup),
    bigSepL l (fun r => iprop(∃ f, ℓ ↦[K r]{q} f)) ⊢ (iprop(∃ f, ℓ ↦[l.toFinset.biUnion K]{q} f) : sProp 𝕄)
  | [], _ => by
    rw [bigSepL_nil]
    iintro -
    iexists f₀
    rw [show (([] : List (Fin 31)).toFinset.biUnion K) = ∅ from rfl, pointsTo_empty]
    iempintro
  | r :: l, hl => by
    have h := List.nodup_cons.mp hl
    rw [bigSepL_cons']
    iintro ⟨⟨%f, H⟩, Hs⟩
    ihave Hs := (parts_join hK f₀ h.2) $$ Hs
    icases Hs with ⟨%g, Hs⟩
    rw [List.toFinset_cons, Finset.biUnion_insert]
    iexists _
    iapply (pointsTo_join (f := f) (g := g) (show Disjoint (K r) (l.toFinset.biUnion K) from
      (Finset.disjoint_biUnion_right _ _ _).mpr fun r' hr' => hK r r' fun e => h.1 (e ▸ List.mem_toFinset.mp hr')))
    isplitl [H] <;> iassumption
end Parts

/-- The slots of the peers of a list, and their rows in the buffer of the later layers' partial products. -/
def un (ks : List (Fin 31)) : Finset S32x16x512.Idx := ks.toFinset.biUnion fun r => bl (1 + r.val)
def uq (ks : List (Fin 31)) : Finset S512x512.Idx := ks.toFinset.biUnion fun r => rb (1 + r.val)

theorem mem_un {ks : List (Fin 31)} {i : S32x16x512.Idx} : i ∈ un ks ↔ ∃ r ∈ ks, (i 0).val = 1 + r.val := by
  unfold un; simp only [Finset.mem_biUnion, List.mem_toFinset, mem_bl]
theorem mem_uq {ks : List (Fin 31)} {i : S512x512.Idx} : i ∈ uq ks ↔ ∃ r ∈ ks, (i 0).val / 16 = 1 + r.val := by
  unfold uq; simp only [Finset.mem_biUnion, List.mem_toFinset, mem_rb]

theorem bl_disjoint (r r' : Fin 31) (h : r ≠ r') : Disjoint (bl (1 + r.val)) (bl (1 + r'.val)) :=
  Finset.disjoint_left.mpr fun i hi hi' => h (Fin.ext (by rw [mem_bl] at hi hi'; omega))
theorem rb_disjoint (r r' : Fin 31) (h : r ≠ r') : Disjoint (rb (1 + r.val)) (rb (1 + r'.val)) :=
  Finset.disjoint_left.mpr fun i hi hi' => h (Fin.ext (by rw [mem_rb] at hi hi'; omega))
theorem rbn_disjoint (c : Dev nD) (r r' : Fin 31) (h : r ≠ r') : Disjoint (rb (nb c r).val) (rb (nb c r').val) :=
  Finset.disjoint_left.mpr fun i hi hi' => h (nb_injective c (Fin.ext (by rw [mem_rb] at hi hi'; omega)))

theorem univ_slots : (Finset.univ : Finset S32x16x512.Idx) = bl 0 ∪ un all := by
  refine (Finset.eq_univ_of_forall fun i => ?_).symm
  have hi : (i 0).val < 32 := (i 0).isLt
  rw [Finset.mem_union, mem_bl, mem_un]
  by_cases h : (i 0).val = 0
  · exact .inl h
  · exact .inr ⟨⟨(i 0).val - 1, by omega⟩, (by decide : ∀ r : Fin 31, r ∈ all) _, show (i 0).val = 1 + ((i 0).val - 1) by omega⟩
theorem univ_rowsQ : (Finset.univ : Finset S512x512.Idx) = rb 0 ∪ uq all := by
  refine (Finset.eq_univ_of_forall fun i => ?_).symm
  have hi : (i 0).val < 512 := (i 0).isLt
  rw [Finset.mem_union, mem_rb, mem_uq]
  by_cases h : (i 0).val / 16 = 0
  · exact .inl h
  · exact .inr ⟨⟨(i 0).val / 16 - 1, by omega⟩, (by decide : ∀ r : Fin 31, r ∈ all) _, show (i 0).val / 16 = 1 + ((i 0).val / 16 - 1) by omega⟩
theorem univ_rowsP (c : Dev nD) : (Finset.univ : Finset S512x512.Idx) = rb c.val ∪ all.toFinset.biUnion fun r => rb (nb c r).val := by
  refine (Finset.eq_univ_of_forall fun i => ?_).symm
  have hi : (i 0).val < 512 := (i 0).isLt
  simp only [Finset.mem_union, mem_rb, Finset.mem_biUnion, List.mem_toFinset]
  by_cases h : (i 0).val / 16 = c.val
  · exact .inl h
  · obtain ⟨r, hr⟩ := exists_nb c ⟨(i 0).val / 16, by show _ < 32; omega⟩ fun e => h (congrArg Fin.val e)
    exact .inr ⟨r, (by decide : ∀ r : Fin 31, r ∈ all) r, by rw [hr]⟩

theorem bl0_disjoint : Disjoint (bl 0) (un all) :=
  Finset.disjoint_left.mpr fun i hi hi' => by rw [mem_bl] at hi; rw [mem_un] at hi'; obtain ⟨r, -, h⟩ := hi'; omega
theorem rb0_disjoint : Disjoint (rb 0) (uq all) :=
  Finset.disjoint_left.mpr fun i hi hi' => by rw [mem_rb] at hi; rw [mem_uq] at hi'; obtain ⟨r, -, h⟩ := hi'; omega
theorem rbc_disjoint (c : Dev nD) : Disjoint (rb c.val) (all.toFinset.biUnion fun r => rb (nb c r).val) :=
  Finset.disjoint_left.mpr fun i hi hi' => by
    rw [mem_rb] at hi
    simp only [Finset.mem_biUnion, mem_rb] at hi'
    obtain ⟨r, -, h⟩ := hi'
    exact nb_ne c r (Fin.ext (h.symm.trans hi))

theorem list32 : (Finset.univ : Finset (Fin (2 ^ 5)))
    = ((all.map fun r : Fin 31 => (⟨r.val, by omega⟩ : Fin (2 ^ 5))) ++ [31]).toFinset := by decide

theorem shares_eq {ℓ : Loc nD τ sig} (I : Finset (Idx ℓ)) (f : Buf (Elt F) ℓ) :
    (ℓ ↦[I]{fullShare} f : sProp 𝕄) = iprop((bigSepL all fun r => ℓ ↦[I]{lf r} f) ∗ ℓ ↦[I]{ShareLeaves.leaf 5 fullShare 31} f) := by
  rw [ShareLeaves.pointsTo_leaves I f 5 fullShare, bigSep_univ_eq_bigSepL _ list32 (by decide), bigSepL_append, bigSepL_map, bigSepL_singleton]
  rfl

section Pieces
variable (c : Dev nD) {ks : List (Fin 31)}

theorem r1_parts (hl : ks.Nodup) (f : Sl F) : r1At c (un ks) f = bigSepL ks fun r => r1At c (bl (1 + r.val)) f := by
  unfold r1At; exact parts_eq _ bl_disjoint hl _
theorem r2_parts (hl : ks.Nodup) (q : PosShare TreeShare) (f : Sl F) : r2At c (un ks) q f = bigSepL ks fun r => r2At c (bl (1 + r.val)) q f := by
  unfold r2At; exact parts_eq _ bl_disjoint hl _
theorem q_parts (hl : ks.Nodup) (f : Sq F) : qAt c (uq ks) f = bigSepL ks fun r => qAt c (rb (1 + r.val)) f := by
  unfold qAt; exact parts_eq _ rb_disjoint hl _

/-- Rows for the peer numbered `r`, at some contents. -/
def freeQ (c : Dev nD) (r : Fin 31) : sProp 𝕄 := iprop(∃ f : Sq F, qAt c (rb (1 + r.val)) f)

theorem q_join (hl : ks.Nodup) (f₀ : Sq F) : bigSepL ks (freeQ (F := F) c) ⊢ iprop(∃ f : Sq F, qAt c (uq ks) f) := by
  unfold freeQ qAt; exact parts_join (ℓ := (c : Thread nD τ).loc cc0_scratch1) _ rb_disjoint f₀ hl

theorem r1_all (f : Sl F) : r1At c Finset.univ f = iprop(r1At c (bl 0) f ∗ bigSepL all fun r => r1At c (bl (1 + r.val)) f) := by
  rw [← r1_parts c (by decide), univ_slots]; unfold r1At
  exact (pointsTo_union bl0_disjoint).1.antisymm (pointsTo_union bl0_disjoint).2
theorem r2_all (f : Sl F) : r2At c Finset.univ fullShare f
    = iprop(r2At c (bl 0) fullShare f ∗ bigSepL all fun r => r2At c (bl (1 + r.val)) fullShare f) := by
  rw [← r2_parts c (by decide), univ_slots]; unfold r2At
  exact (pointsTo_union bl0_disjoint).1.antisymm (pointsTo_union bl0_disjoint).2
theorem q_all (f : Sq F) : qAt c Finset.univ f = iprop(qAt c (rb 0) f ∗ bigSepL all fun r => qAt c (rb (1 + r.val)) f) := by
  rw [← q_parts c (by decide), univ_rowsQ]; unfold qAt
  exact (pointsTo_union rb0_disjoint).1.antisymm (pointsTo_union rb0_disjoint).2
theorem p_all (f : Sq F) : pAt c Finset.univ f = iprop(pAt c (rb c.val) f ∗ bigSepL all fun r => pAt c (rb (nb c r).val) f) := by
  rw [show (bigSepL all fun r => pAt c (rb (nb c r).val) f) = pAt c (all.toFinset.biUnion fun r => rb (nb c r).val) f from by
    unfold pAt; exact (parts_eq _ (rbn_disjoint c) (by decide) _).symm, univ_rowsP c]
  unfold pAt
  exact (pointsTo_union (rbc_disjoint c)).1.antisymm (pointsTo_union (rbc_disjoint c)).2

/-- The own block of the all-gather in 32 equal shares, of which the copies take 31. -/
theorem own_shares (f : Sl F) : r2At c (bl 0) fullShare f
    = iprop((bigSepL all fun r => r2At c (bl 0) (lf r) f) ∗ r2At c (bl 0) (ShareLeaves.leaf 5 fullShare 31) f) := by
  unfold r2At
  exact shares_eq _ _

end Pieces

end Cert.KernelIdeal.Net

end
-- ==== Proof.Memory.lean ====
/- The kernel's loads and stores on the parts its buffers are held in. -/
module

public import proofs.«01_k».proof.Proof.Buffers

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig ℕ (Elt F) ℕ UU ℕ

/-! ## What a store of full slots or rows leaves -/

theorem setOn_whole (b : Ref sig .tc) (M : Finset b.ty.shape.Idx) : (View.whole b : View sig .tc _ _ _).setOn M = M :=
  Finset.map_refl

theorem of_mem3 {n o : Nat} {h : ∀ a, (![o, 0, 0] : Fin 3 → Nat) a + (Sh3 n).size a ≤ S32x16x512.size a} {i : S32x16x512.Idx}
    (hi : i ∈ (Rect.unit (s := S32x16x512) ![o, 0, 0] (Sh3 n).size h).set) :
    ∃ (k : Fin n) (a : Fin 16) (b : Fin 512), (Rect.unit (s := S32x16x512) ![o, 0, 0] (Sh3 n).size h).emb (ix3 k a b) = i := by
  rw [← Rect.map_emb_univ] at hi
  obtain ⟨x, -, hx⟩ := Finset.mem_map.mp hi
  have e : x = ix3 (n0 := n) (n1 := 16) (n2 := 512) (x 0) (x 1) (x 2) := eq_ix3 x
  exact ⟨x 0, x 1, x 2, e ▸ hx⟩

theorem of_mem2 {n o w : Nat} {h : ∀ a, (![o, 0] : Fin 2 → Nat) a + (⟨2, ![n, w]⟩ : Shape).size a ≤ (⟨2, ![512, w]⟩ : Shape).size a}
    {i : (⟨2, ![512, w]⟩ : Shape).Idx} (hi : i ∈ (Rect.unit (s := ⟨2, ![512, w]⟩) ![o, 0] (⟨2, ![n, w]⟩ : Shape).size h).set) :
    ∃ (a : Fin n) (b : Fin w), (Rect.unit (s := ⟨2, ![512, w]⟩) ![o, 0] (⟨2, ![n, w]⟩ : Shape).size h).emb (ix2 a b) = i := by
  rw [← Rect.map_emb_univ] at hi
  obtain ⟨x, -, hx⟩ := Finset.mem_map.mp hi
  have e : x = ix2 (n0 := n) (n1 := w) (x 0) (x 1) := eq_ix2 x
  exact ⟨x 0, x 1, e ▸ hx⟩

theorem stored1 {o n : Nat} {h : ∀ a, (![o, 0, 0] : Fin 3 → Nat) a + (Sh3 n).size a ≤ S32x16x512.size a}
    (f g : Sl F) (w : (Sh3 n).Idx → Elt F .bf16)
    (hg : ∀ (k : Fin n) (a : Fin 16) (b : Fin 512) (ho : o + k.val < 32), g (ix3 (⟨o + k.val, ho⟩ : Fin 32) a b) = w (ix3 k a b)) :
    ∀ i ∈ (Rect.unit (s := S32x16x512) ![o, 0, 0] (Sh3 n).size h).set,
      (mR1.access (Rect.unit (s := S32x16x512) ![o, 0, 0] (Sh3 n).size h)).write (Elt F) f w Finset.univ i = g i := fun i hi => by
  obtain ⟨k, a, b, rfl⟩ := of_mem3 hi
  have ho : o + k.val < 32 := Nat.lt_of_lt_of_le (Nat.add_lt_add_left k.isLt o) (h 0)
  refine (View.write_emb_of_mem (v := mR1.access (Rect.unit (s := S32x16x512) ![o, 0, 0] (Sh3 n).size h)) f w (Finset.mem_univ (ix3 k a b))).trans ?_
  exact (hg k a b ho).symm.trans (congrArg g (emb_slots h k a b ho).symm)

theorem stored2 {o n : Nat} {h : ∀ a, (![o, 0, 0] : Fin 3 → Nat) a + (Sh3 n).size a ≤ S32x16x512.size a}
    (f g : Sl F) (w : (Sh3 n).Idx → Elt F .bf16)
    (hg : ∀ (k : Fin n) (a : Fin 16) (b : Fin 512) (ho : o + k.val < 32), g (ix3 (⟨o + k.val, ho⟩ : Fin 32) a b) = w (ix3 k a b)) :
    ∀ i ∈ (Rect.unit (s := S32x16x512) ![o, 0, 0] (Sh3 n).size h).set,
      (mR2.access (Rect.unit (s := S32x16x512) ![o, 0, 0] (Sh3 n).size h)).write (Elt F) f w Finset.univ i = g i :=
  stored1 f g w hg

theorem storedQ {o n : Nat} {h : ∀ a, (![o, 0] : Fin 2 → Nat) a + (Sh2 n).size a ≤ S512x512.size a}
    (f g : Sq F) (w : (Sh2 n).Idx → Elt F .bf16)
    (hg : ∀ (a : Fin n) (b : Fin 512) (ho : o + a.val < 512), g (ix2 (⟨o + a.val, ho⟩ : Fin 512) b) = w (ix2 a b)) :
    ∀ i ∈ (Rect.unit (s := S512x512) ![o, 0] (Sh2 n).size h).set,
      (mQ.access (Rect.unit (s := S512x512) ![o, 0] (Sh2 n).size h)).write (Elt F) f w Finset.univ i = g i := fun i hi => by
  obtain ⟨a, b, rfl⟩ := of_mem2 (n := n) (w := 512) hi
  have ho : o + a.val < 512 := Nat.lt_of_lt_of_le (Nat.add_lt_add_left a.isLt o) (h 0)
  refine (View.write_emb_of_mem (v := mQ.access (Rect.unit (s := S512x512) ![o, 0] (Sh2 n).size h)) f w (Finset.mem_univ (ix2 a b))).trans ?_
  exact (hg a b ho).symm.trans (congrArg g (emb_rows h a b ho).symm)

theorem storedO {o : Nat} {h : ∀ a, (![o, 0] : Fin 2 → Nat) a + S16x256.size a ≤ S512x256.size a}
    (f g : Re F) (w : S16x256.Idx → Elt F .f32)
    (hg : ∀ (a : Fin 16) (b : Fin 256) (ho : o + a.val < 512), g (ix2 (⟨o + a.val, ho⟩ : Fin 512) b) = w (ix2 a b)) :
    ∀ i ∈ (Rect.unit (s := S512x256) ![o, 0] S16x256.size h).set,
      (mOut.access (Rect.unit (s := S512x256) ![o, 0] S16x256.size h)).write (Elt F) f w Finset.univ i = g i := fun i hi => by
  obtain ⟨a, b, rfl⟩ := of_mem2 (n := 16) (w := 256) hi
  have ho : o + a.val < 512 := Nat.lt_of_lt_of_le (Nat.add_lt_add_left a.isLt o) (h 0)
  refine (View.write_emb_of_mem (v := mOut.access (Rect.unit (s := S512x256) ![o, 0] S16x256.size h)) f w (Finset.mem_univ (ix2 a b))).trans ?_
  exact (hg a b ho).symm.trans (congrArg g (emb_rows h a b ho).symm)

/-! ## The steps -/

/-- The result block at row block `k`. -/
def oAt (c : Dev nD) (I : Finset S512x256.Idx) (f : Re F) : sProp 𝕄 :=
  ((c : Thread nD τ).loc cc0_stg7_0 ↦[I]{fullShare} (f : Buf (Elt F) ((c : Thread nD τ).loc cc0_stg7_0)))

variable [FloatOps F] (c : Dev nD)
variable (Kt : PUnit → sProp (MT nD τ sig ℕ (Elt F) ℕ UU ℕ))

theorem put0_1 {hm : mR1.IsWhole} (f g : Sl F) (v : FVec F S1x16x512 .bf16) (k : Act F)
    (hg : ∀ (a : Fin 16) (b : Fin 512), g (ix3 (0 : Fin 32) a b) = v (ix3 (0 : Fin 1) a b)) :
    r1At c (bl 0) f ⊢ iprop((r1At c (bl 0) g -∗ Wp c Kt k) -∗ Wp c Kt (put0 mR1 hm v k)) := by
  unfold put0 r1At Wp
  have hS : (Rect.unit (s := S32x16x512) ![0, 0, 0] S1x16x512.size inb_S32x16x512_S1x16x512_0_0_0).set = bl 0 := by
    ext i; refine (mem_unit3 (n := 1)).trans ?_; rw [mem_bl]; omega
  iintro H Hk
  iapply (wp_load 𝒱₀ (c : Thread nD τ) none Set.univ (m := mR1) (S := bl 0) (by rw [← hS]; exact (setOn_whole _ _).subset)) $$ H
  iintro H
  iapply (wp_store 𝒱₀ (c : Thread nD τ) none Set.univ (m := mR1) (r := Rect.unit (s := S32x16x512) ![0, 0, 0] S1x16x512.size inb_S32x16x512_S1x16x512_0_0_0)
    (Mk := Finset.univ) (S := bl 0) (by rw [← hS]; exact (View.set_slice_whole _ _).subset)) $$ H
  iintro H
  iapply Hk
  rw [← hS]
  iapply (Entails.of_eq (pointsTo_congr (ℓ := (c : Thread nD τ).loc cc0_scratch2) (stored1 (n := 1) f g v fun k a b ho => by
    obtain rfl : k = 0 := Subsingleton.elim _ _; exact hg a b)))
  iexact H

theorem put0_2 {hm : mR2.IsWhole} (f g : Sl F) (v : FVec F S1x16x512 .bf16) (k : Act F)
    (hg : ∀ (a : Fin 16) (b : Fin 512), g (ix3 (0 : Fin 32) a b) = v (ix3 (0 : Fin 1) a b)) :
    r2At c (bl 0) fullShare f ⊢ iprop((r2At c (bl 0) fullShare g -∗ Wp c Kt k) -∗ Wp c Kt (put0 mR2 hm v k)) := by
  unfold put0 r2At Wp
  have hS : (Rect.unit (s := S32x16x512) ![0, 0, 0] S1x16x512.size inb_S32x16x512_S1x16x512_0_0_0).set = bl 0 := by
    ext i; refine (mem_unit3 (n := 1)).trans ?_; rw [mem_bl]; omega
  iintro H Hk
  iapply (wp_load 𝒱₀ (c : Thread nD τ) none Set.univ (m := mR2) (S := bl 0) (by rw [← hS]; exact (setOn_whole _ _).subset)) $$ H
  iintro H
  iapply (wp_store 𝒱₀ (c : Thread nD τ) none Set.univ (m := mR2) (r := Rect.unit (s := S32x16x512) ![0, 0, 0] S1x16x512.size inb_S32x16x512_S1x16x512_0_0_0)
    (Mk := Finset.univ) (S := bl 0) (by rw [← hS]; exact (View.set_slice_whole _ _).subset)) $$ H
  iintro H
  iapply Hk
  rw [← hS]
  iapply (Entails.of_eq (pointsTo_congr (ℓ := (c : Thread nD τ).loc cc0_scratch3) (stored2 (n := 1) f g v fun k a b ho => by
    obtain rfl : k = 0 := Subsingleton.elim _ _; exact hg a b)))
  iexact H

theorem loadR1_step (f : Sl F) (k : Vec F S32x16x512 .bf16 → Act F) :
    r1At c Finset.univ f ⊢ iprop((r1At c Finset.univ f -∗ Wp c Kt (k f)) -∗ Wp c Kt (loadR1 k)) := by
  unfold loadR1 r1At Wp
  iintro H Hk
  iapply (wp_load 𝒱₀ (c : Thread nD τ) none Set.univ (m := mR1) (S := Finset.univ) (Finset.subset_univ _)) $$ H
  iintro H
  rw [show mR1.view.readAt (Elt F) (Rect.unit (s := S32x16x512) ![0, 0, 0] S32x16x512.size inb_S32x16x512_S32x16x512_0_0_0).toLoadRect f = f from
    Memref.readAt_unit_zero (Elt F) cc0_scratch2 (by funext a; fin_cases a <;> rfl) _ f]
  iapply Hk; iexact H

theorem putP_step (f : Sq F) (v : FVec F S512x512 .bf16) (k : Act F) :
    pAt c Finset.univ f ⊢ iprop((pAt c Finset.univ v -∗ Wp c Kt k) -∗ Wp c Kt (putP v k)) := by
  unfold putP pAt Wp
  iintro H Hk
  iapply (wp_load 𝒱₀ (c : Thread nD τ) none Set.univ (m := mP) (S := Finset.univ) (Finset.subset_univ _)) $$ H
  iintro H
  iapply (wp_store 𝒱₀ (c : Thread nD τ) none Set.univ (m := mP) (r := Rect.unit (s := S512x512) ![0, 0] S512x512.size inb_S512x512_S512x512_0_0)
    (Mk := Finset.univ) (S := Finset.univ) (Finset.subset_univ _)) $$ H
  iintro H
  rw [show (mP.access (Rect.unit (s := S512x512) ![0, 0] S512x512.size inb_S512x512_S512x512_0_0)).write (Elt F) f v Finset.univ = v from
    Memref.write_access_unit_zero_univ (Elt F) cc0_scratch0 (by funext a; fin_cases a <;> rfl) _ f v]
  iapply Hk; iexact H

theorem loadOwn_step (f : Sq F) (k : Vec F S16x512 .bf16 → Act F) :
    pAt c (rb c.val) f ⊢ iprop((pAt c (rb c.val) f -∗ Wp c Kt (k (ownRows c f))) -∗ Wp c Kt (loadOwn c k)) := by
  unfold loadOwn pAt Wp ownRows
  have hS : (Rect.unit (s := S512x512) (k0_off4 c) S16x512.size (k0_off4_inb c)).set = rb c.val := by
    rw [show Rect.unit (s := S512x512) (k0_off4 c) S16x512.size (k0_off4_inb c) = Rect.unit (s := S512x512) ![16 * c.val, 0] S16x512.size (inbP c) from by
      congr 1; exact k0_off4_eq c]
    ext i; refine (mem_unit2 (n := 16)).trans ?_; rw [mem_rb]; omega
  iintro H Hk
  iapply (wp_load 𝒱₀ (c : Thread nD τ) none Set.univ (m := mP) (S := rb c.val) (by rw [← hS]; exact (setOn_whole _ _).subset)) $$ H
  iintro H
  iapply Hk; iexact H

theorem loadG_step (ks : List (Fin 31)) (q : PosShare TreeShare) (n lo : Nat) (h : ∀ a, (![lo, 0, 0] : Fin 3 → Nat) a + (Sh3 n).size a ≤ S32x16x512.size a)
    (hp : 0 < (Sh3 n).numel) (hks : ∀ t, lo ≤ t → t < lo + n → ∃ r ∈ ks, t = 1 + r.val) (f : Sl F) (k : Vec F (Sh3 n) .bf16 → Act F) :
    r2At c (un ks) q f ⊢ iprop((r2At c (un ks) q f -∗ Wp c Kt (k (slots n lo h f))) -∗ Wp c Kt (loadG n lo h hp k)) := by
  unfold loadG r2At Wp slots
  iintro H Hk
  iapply (wp_load 𝒱₀ (c : Thread nD τ) none Set.univ (m := mR2) (S := un ks) ((setOn_whole _ _).subset.trans fun i hi => by
    have hi := mem_unit3.mp (show i ∈ (Rect.unit (s := S32x16x512) ![lo, 0, 0] (Sh3 n).size h).set from hi)
    exact mem_un.mpr (hks _ hi.1 hi.2))) $$ H
  iintro H
  iapply Hk; iexact H

theorem putQ_step (ks : List (Fin 31)) (m lo : Nat) (h : ∀ a, (![lo, 0] : Fin 2 → Nat) a + (Sh2 m).size a ≤ S512x512.size a) (hp : 0 < (Sh2 m).numel)
    (hk : (Rect.unit (s := S512x512) ![lo, 0] (Sh2 m).size h).PackedRows (EltTy.packing .bf16))
    (hks : ∀ t, (lo ≤ t ∧ t < lo + m) ↔ ∃ r ∈ ks, t / 16 = 1 + r.val) (f g : Sq F)
    (v : FVec F (Sh2 m) .bf16) (k : Act F)
    (hg : ∀ (a : Fin m) (b : Fin 512) (ho : lo + a.val < 512), g (ix2 (⟨lo + a.val, ho⟩ : Fin 512) b) = v (ix2 a b)) :
    qAt c (uq ks) f ⊢ iprop((qAt c (uq ks) g -∗ Wp c Kt k) -∗ Wp c Kt (putQ m lo h hp hk v k)) := by
  unfold putQ qAt Wp
  have hS : (Rect.unit (s := S512x512) ![lo, 0] (Sh2 m).size h).set = uq ks := by
    ext i; rw [mem_unit2, mem_uq]; exact hks _
  iintro H Hk
  iapply (wp_load 𝒱₀ (c : Thread nD τ) none Set.univ (m := mQ) (S := uq ks) (by rw [← hS]; exact (setOn_whole _ _).subset)) $$ H
  iintro H
  iapply (wp_store 𝒱₀ (c : Thread nD τ) none Set.univ (m := mQ) (r := Rect.unit (s := S512x512) ![lo, 0] (Sh2 m).size h)
    (Mk := Finset.univ) (S := uq ks) (by rw [← hS]; exact (View.set_slice_whole _ _).subset)) $$ H
  iintro H
  iapply Hk
  rw [← hS]
  iapply (Entails.of_eq (pointsTo_congr (ℓ := (c : Thread nD τ).loc cc0_scratch1) (storedQ f g v hg)))
  iexact H

theorem putO_congr {off off' : Fin 2 → Nat} (e : off = off') {h : ∀ a, off a + S16x256.size a ≤ S512x256.size a}
    (v : FVec F S16x256 .f32) (k : Act F) : putO off h v k = putO off' (e ▸ h) v k := by subst e; rfl

theorem putO_step (d : Dev nD) {off : Fin 2 → Nat} {h : ∀ a, off a + S16x256.size a ≤ S512x256.size a} (e : off = ![16 * d.val, 0])
    (f g : Re F) (v : FVec F S16x256 .f32) (k : Act F)
    (hg : ∀ (a : Fin 16) (b : Fin 256) (ho : 16 * d.val + a.val < 512), g (ix2 (⟨16 * d.val + a.val, ho⟩ : Fin 512) b) = v (ix2 a b)) :
    oAt c (ro d.val) f ⊢ iprop((oAt c (ro d.val) g -∗ Wp c Kt k) -∗ Wp c Kt (putO off h v k)) := by
  subst e
  unfold putO oAt Wp
  have hS : (Rect.unit (s := S512x256) ![16 * d.val, 0] S16x256.size h).set = ro d.val := by
    ext i; refine (mem_unit2 (n := 16)).trans ?_; rw [mem_ro]; omega
  iintro H Hk
  iapply (wp_load 𝒱₀ (c : Thread nD τ) none Set.univ (m := mOut) (S := ro d.val) (by rw [← hS]; exact (setOn_whole _ _).subset)) $$ H
  iintro H
  iapply (wp_store 𝒱₀ (c : Thread nD τ) none Set.univ (m := mOut) (r := Rect.unit (s := S512x256) ![16 * d.val, 0] S16x256.size h)
    (Mk := Finset.univ) (S := ro d.val) (by rw [← hS]; exact (View.set_slice_whole _ _).subset)) $$ H
  iintro H
  iapply Hk
  rw [← hS]
  iapply (Entails.of_eq (pointsTo_congr (ℓ := (c : Thread nD τ).loc cc0_stg7_0) (storedO f g v hg)))
  iexact H

end Cert.KernelIdeal.Net

end
-- ==== Proof.Groups.lean ====
/- Loops of copies and of waits, and one group of a middle layer. -/
module

public import proofs.«01_k».proof.Proof.Memory

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig ℕ (Elt F) ℕ UU ℕ

variable [FloatOps F] (A : Ops F) (c : Dev nD)
variable (Kt : PUnit → sProp (MT nD τ sig ℕ (Elt F) ℕ UU ℕ))

/-! ## Loops -/

/-- A loop of copies. -/
theorem sends_wp {P Z : Fin 31 → sProp (MT nD τ sig ℕ (Elt F) ℕ UU ℕ)} {f : Fin 31 → Act F → Act F} {ev : Fin 31 → Ev} {es : List Ev}
    (step : ∀ r rs k, iprop(Know A ∗ P r ∗ ow c ((r :: rs).map ev ++ es)) ⊢ iprop((Z r ∗ ow c (rs.map ev ++ es) -∗ Wp c Kt k) -∗ Wp c Kt (f r k)))
    (ks : List (Fin 31)) (k : Act F) :
    iprop(Know A ∗ bigSepL ks P ∗ ow c (ks.map ev ++ es)) ⊢ iprop((bigSepL ks Z ∗ ow c es -∗ Wp c Kt k) -∗ Wp c Kt (chain ks f k)) :=
  chain_wp c Kt (Know A) P Z (fun rs => ow c (rs.map ev ++ es)) f step ks k

/-- A loop of waits. -/
theorem waits_wp {P Z : Fin 31 → sProp (MT nD τ sig ℕ (Elt F) ℕ UU ℕ)} {f : Fin 31 → Act F → Act F} {es : List Ev}
    (step : ∀ r k, iprop(Know A ∗ P r ∗ ow c es) ⊢ iprop((Z r ∗ ow c es -∗ Wp c Kt k) -∗ Wp c Kt (f r k)))
    {ws ks : List (Fin 31)} (hp : ws.Perm ks) (hn : ws.Nodup) (k : Act F) :
    iprop(Know A ∗ bigSepL ks P ∗ ow c es) ⊢ iprop((bigSepL ks Z ∗ ow c es -∗ Wp c Kt k) -∗ Wp c Kt (chain ws f k)) := by
  rw [← permL hp hn, ← permL hp hn]
  exact chain_wp c Kt (Know A) P Z (fun _ => ow c es) f (fun r _ k => step r k) ws k

/-! ## A group of a middle layer -/

theorem r2Pay_lt {l : ℕ} (h : l < 2) (r : Fin 31) : r2Pay A c l r = iprop(r2At c (bl (1 + r.val)) fullShare (G2 A l c) ∗ dst1 c (l + 1) r) := by
  unfold r2Pay; rw [if_pos h]
theorem r1Pay_succ (l : ℕ) (r : Fin 31) : r1Pay A c (l + 1) r = iprop(r1At c (bl (1 + r.val)) (R1 A (l + 1) c) ∗ dst2 c (l + 1) r) := by
  unfold r1Pay; rw [if_neg (Nat.succ_ne_zero l)]

theorem pos_reached (g : GSem nD τ sig) (l : ℕ) : (pos g l : sProp 𝕄) ⊢ iprop(pos g l ∗ reached ER g l) := by
  unfold pos; iintro ⟨H, #Hr⟩
  isplitl [H]
  · isplitl [H]; · iexact H
    iexact Hr
  iexact Hr

/-- What one peer brings to its group, and what it leaves. -/
def gIn (l : ℕ) (r : Fin 31) : sProp 𝕄 :=
  iprop((pos (cr2 c r) l ∗ cd2 c l r) ∗ freeQ (F := F) c r ∗ tk1 c (l + 1) r ∗ reached ER (cs1 c r) (l + 1))
def gOut (l : ℕ) (r : Fin 31) : sProp 𝕄 := iprop(pos (cr2 c r) (l + 1) ∗ go1 c r)

theorem free2_of (I : Fin 31) (g : Sl F) : r2At c (bl (1 + I.val)) fullShare g ⊢ free2 (F := F) c I := by
  unfold free2; iintro H; iexists g; iexact H
theorem free1_of (I : Fin 31) (g : Sl F) : r1At c (bl (1 + I.val)) g ⊢ free1 (F := F) c I := by
  unfold free1; iintro H; iexists g; iexact H
theorem freeQ_of (I : Fin 31) (g : Sq F) : qAt c (rb (1 + I.val)) g ⊢ freeQ (F := F) c I := by
  unfold freeQ; iintro H; iexists g; iexact H

theorem gSend (l : ℕ) (r : Fin 31) :
    iprop(pos (cr2 c r) (l + 1) ∗ qAt c (rb (1 + r.val)) (Q A (l + 1) c) ∗ dst1 c (l + 1) r ∗ r2At c (bl (1 + r.val)) fullShare (G2 A l c)
        ∗ tk1 c (l + 1) r ∗ reached ER (cs1 c r) (l + 1))
      ⊢ iprop(pos (cr2 c r) (l + 1) ∗ in1 A c (l + 1) r) := by
  unfold in1 back1
  rw [if_neg (Nat.succ_ne_zero l), s1Pay_succ]
  iintro ⟨Hp, Hq, Hd, Hs, Ht, Hr⟩
  ihave Hp := (pos_reached (cr2 c r) (l + 1)) $$ Hp
  icases Hp with ⟨Hp, Hr2⟩
  isplitl [Hp]; · iexact Hp
  isplitl [Hq]; · iexact Hq
  isplitl [Hd]; · iexact Hd
  isplitl [Hs Hr2]
  · isplitl [Hs]
    · iapply (free2_of c r (G2 A l c)); iexact Hs
    iexact Hr2
  isplitl [Ht] <;> iassumption

theorem grp_wp (l : ℕ) (hl : l + 1 < 3) {ws ks : List (Fin 31)} (hp : ws.Perm ks) (hw : ws.Nodup) (hn : ks.Nodup)
    (n m lo lo' : Nat) (h3 : ∀ a, (![lo, 0, 0] : Fin 3 → Nat) a + (Sh3 n).size a ≤ S32x16x512.size a) (hp3 : 0 < (Sh3 n).numel)
    (h2 : ∀ a, (![lo', 0] : Fin 2 → Nat) a + (Sh2 m).size a ≤ S512x512.size a) (hp2 : 0 < (Sh2 m).numel)
    (hk : (Rect.unit (s := S512x512) ![lo', 0] (Sh2 m).size h2).PackedRows (EltTy.packing .bf16))
    (h3s : ∀ t, lo ≤ t → t < lo + n → ∃ r ∈ ks, t = 1 + r.val)
    (h2s : ∀ t, (lo' ≤ t ∧ t < lo' + m) ↔ ∃ r ∈ ks, t / 16 = 1 + r.val)
    (pay : Vec F (Sh3 n) .bf16 → FVec F (Sh2 m) .bf16)
    (hg : ∀ (a : Fin m) (b : Fin 512) (ho : lo' + a.val < 512),
      Q A (l + 1) c (ix2 (⟨lo' + a.val, ho⟩ : Fin 512) b) = pay (slots n lo h3 (G2 A l c)) (ix2 a b))
    (es : List Ev) (hes : ∀ e ∈ es, 4 + 2 * l ≤ evL e ∧ evI e < 3) (k : Act F) :
    iprop(Know A ∗ bigSepL ks (gIn (F := F) c l) ∗ ow c (ks.map (.r1 (l + 1)) ++ es))
      ⊢ iprop((bigSepL ks (gOut (F := F) c l) ∗ ow c es -∗ Wp c Kt k)
        -∗ Wp c Kt (grp c n m lo lo' ws ks h3 hp3 h2 hp2 hk pay k)) := by
  have hes' : ∀ e ∈ ks.map (.r1 (l + 1)) ++ es, 3 + 2 * l < evL e ∧ evI e < 3 := by
    intro e he
    rcases List.mem_append.mp he with he | he
    · obtain ⟨r, -, rfl⟩ := List.mem_map.mp he
      exact ⟨show 3 + 2 * l < 2 + 2 * (l + 1) by omega, hl⟩
    · exact ⟨by have := (hes e he).1; omega, (hes e he).2⟩
  unfold grp gIn
  rw [sepL hn (fun r => iprop(pos (cr2 c r) l ∗ cd2 c l r)) (fun r => iprop(freeQ (F := F) c r ∗ tk1 c (l + 1) r ∗ reached ER (cs1 c r) (l + 1))),
    sepL hn (freeQ (F := F) c) (fun r => iprop(tk1 c (l + 1) r ∗ reached ER (cs1 c r) (l + 1)))]
  iintro ⟨#HK, ⟨Hw, Hq, Ht⟩, HO⟩ Hk
  iapply (waits_wp A c Kt (P := fun r => iprop(pos (cr2 c r) l ∗ cd2 c l r)) (Z := fun r => iprop(pos (cr2 c r) (l + 1) ∗ r2Pay A c l r))
    (f := gotG) (fun r k => gotG_step A c r Kt l (by omega) _ hes' k) hp hw) $$ [Hw HO]
  · isplitr; · iexact HK
    isplitl [Hw] <;> iassumption
  rw [show (fun r => iprop(pos (cr2 c r) (l + 1) ∗ r2Pay A c l r)) = fun r => iprop(pos (cr2 c r) (l + 1) ∗ r2At c (bl (1 + r.val)) fullShare (G2 A l c) ∗ dst1 c (l + 1) r) from
      funext fun r => by rw [r2Pay_lt A c (by omega)],
    sepL hn (fun r => pos (cr2 c r) (l + 1)) (fun r => iprop(r2At c (bl (1 + r.val)) fullShare (G2 A l c) ∗ dst1 c (l + 1) r)),
    sepL hn (fun r => r2At c (bl (1 + r.val)) fullShare (G2 A l c)) (dst1 c (l + 1)), ← r2_parts c hn fullShare]
  iintro ⟨⟨Hp, Hs, Hd⟩, HO⟩
  iapply (loadG_step c Kt ks fullShare n lo h3 hp3 h3s (G2 A l c)) $$ Hs
  iintro Hs
  ihave Hq := (q_join c hn (Q A (l + 1) c)) $$ Hq
  icases Hq with ⟨%f, Hq⟩
  iapply (putQ_step c Kt ks m lo' h2 hp2 hk h2s f (Q A (l + 1) c) _ _ hg) $$ Hq
  iintro Hq
  ihave Hq := (Entails.of_eq (q_parts c hn (Q A (l + 1) c))) $$ Hq
  ihave Hs := (Entails.of_eq (r2_parts c hn fullShare (G2 A l c))) $$ Hs
  have hb : iprop(bigSepL ks (fun r => (pos (cr2 c r) (l + 1) : sProp 𝕄)) ∗ bigSepL ks (fun r => qAt c (rb (1 + r.val)) (Q A (l + 1) c)) ∗ bigSepL ks (dst1 c (l + 1))
      ∗ bigSepL ks (fun r => r2At c (bl (1 + r.val)) fullShare (G2 A l c)) ∗ bigSepL ks (fun r => iprop(tk1 c (l + 1) r ∗ reached ER (cs1 c r) (l + 1))))
      ⊢ iprop(bigSepL ks (fun r => (pos (cr2 c r) (l + 1) : sProp 𝕄)) ∗ bigSepL ks (in1 A c (l + 1))) := by
    rw [← sepL hn, ← sepL hn, ← sepL hn, ← sepL hn, ← sepL hn]
    exact bigSepL_mono fun r _ => gSend A c l r
  ihave H := hb $$ [Hp Hq Hd Hs Ht]
  · isplitl [Hp]; · iexact Hp
    isplitl [Hq]; · iexact Hq
    isplitl [Hd]; · iexact Hd
    isplitl [Hs] <;> iassumption
  icases H with ⟨Hp, H⟩
  iapply (sends_wp A c Kt (P := in1 A c (l + 1)) (Z := go1 c) (f := sendQ c) (ev := .r1 (l + 1)) (es := es)
    (fun r rs k => sendQ_step A c r Kt l hl es rs k) ks k) $$ [H HO]
  · isplitr; · iexact HK
    isplitl [H] <;> iassumption
  iintro ⟨Hg, HO⟩
  iapply Hk
  isplitr [HO]
  · unfold gOut
    rw [sepL hn (fun r => pos (cr2 c r) (l + 1)) (go1 c)]
    isplitl [Hp] <;> iassumption
  iexact HO

end Cert.KernelIdeal.Net

end
-- ==== Proof.Layers.lean ====
/- The entry handshake, the first layer and a middle layer. -/
module

public import proofs.«01_k».proof.Proof.Groups

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig ℕ (Elt F) ℕ UU ℕ

variable [FloatOps F] (A : Ops F) (c : Dev nD)
variable (Kt : PUnit → sProp (MT nD τ sig ℕ (Elt F) ℕ UU ℕ))

theorem all_nodup : all.Nodup := by decide

/-! ## The groups' products -/

theorem partQ_A (wo : Vec F S512x256 .bf16) (wi : Vec F S256x512 .bf16) (g : Sl F) (a : Fin 112) (b : Fin 512) (ho : 400 + a.val < 512) :
    partQ wo wi g (ix2 (⟨400 + a.val, ho⟩ : Fin 512) b)
      = k0_pay8 (k0_pay5 wo) (k0_pay6 wi) (slots 7 25 inb_S32x16x512_S7x16x512_25_0_0 g) (ix2 a b) :=
  (dif_pos (show 400 ≤ 400 + a.val by omega)).trans
    (congrArg (fun a : Fin 112 => k0_pay8 (k0_pay5 wo) (k0_pay6 wi) (slots 7 25 inb_S32x16x512_S7x16x512_25_0_0 g) (ix2 a b))
      (Fin.ext (show 400 + a.val - 400 = a.val by omega)))
theorem partQ_B (wo : Vec F S512x256 .bf16) (wi : Vec F S256x512 .bf16) (g : Sl F) (a : Fin 128) (b : Fin 512) (ho : 272 + a.val < 512) :
    partQ wo wi g (ix2 (⟨272 + a.val, ho⟩ : Fin 512) b)
      = k0_pay9 (k0_pay5 wo) (k0_pay6 wi) (slots 8 17 inb_S32x16x512_S8x16x512_17_0_0 g) (ix2 a b) :=
  ((dif_neg (show ¬ 400 ≤ 272 + a.val by omega)).trans (dif_pos (show 272 ≤ 272 + a.val by omega))).trans
    (congrArg (fun a : Fin 128 => k0_pay9 (k0_pay5 wo) (k0_pay6 wi) (slots 8 17 inb_S32x16x512_S8x16x512_17_0_0 g) (ix2 a b))
      (Fin.ext (show 272 + a.val - 272 = a.val by omega)))
theorem partQ_C (wo : Vec F S512x256 .bf16) (wi : Vec F S256x512 .bf16) (g : Sl F) (a : Fin 128) (b : Fin 512) (ho : 144 + a.val < 512) :
    partQ wo wi g (ix2 (⟨144 + a.val, ho⟩ : Fin 512) b)
      = k0_pay9 (k0_pay5 wo) (k0_pay6 wi) (slots 8 9 inb_S32x16x512_S8x16x512_9_0_0 g) (ix2 a b) :=
  ((dif_neg (show ¬ 400 ≤ 144 + a.val by omega)).trans ((dif_neg (show ¬ 272 ≤ 144 + a.val by omega)).trans
      (dif_pos (show 144 ≤ 144 + a.val by omega)))).trans
    (congrArg (fun a : Fin 128 => k0_pay9 (k0_pay5 wo) (k0_pay6 wi) (slots 8 9 inb_S32x16x512_S8x16x512_9_0_0 g) (ix2 a b))
      (Fin.ext (show 144 + a.val - 144 = a.val by omega)))
theorem partQ_D (wo : Vec F S512x256 .bf16) (wi : Vec F S256x512 .bf16) (g : Sl F) (a : Fin 128) (b : Fin 512) (ho : 16 + a.val < 512) :
    partQ wo wi g (ix2 (⟨16 + a.val, ho⟩ : Fin 512) b)
      = k0_pay9 (k0_pay5 wo) (k0_pay6 wi) (slots 8 1 inb_S32x16x512_S8x16x512_1_0_0 g) (ix2 a b) :=
  ((dif_neg (show ¬ 400 ≤ 16 + a.val by omega)).trans ((dif_neg (show ¬ 272 ≤ 16 + a.val by omega)).trans
      (dif_neg (show ¬ 144 ≤ 16 + a.val by omega)))).trans
    (congrArg (fun a : Fin 128 => k0_pay9 (k0_pay5 wo) (k0_pay6 wi) (slots 8 1 inb_S32x16x512_S8x16x512_1_0_0 g) (ix2 a b))
      (Fin.ext (show 16 + a.val - 16 = a.val by omega)))

/-- The slots and rows of a group of consecutive peers. -/
theorem slots_of {ks : List (Fin 31)} {lo n : ℕ} (h : ∀ r : Fin 31, lo ≤ 1 + r.val → 1 + r.val < lo + n → r ∈ ks) (h1 : 1 ≤ lo) (h2 : lo + n ≤ 32) :
    ∀ t, lo ≤ t → t < lo + n → ∃ r ∈ ks, t = 1 + r.val := fun t ht ht' =>
  ⟨⟨t - 1, by omega⟩, h _ (show lo ≤ 1 + (t - 1) by omega) (show 1 + (t - 1) < lo + n by omega), show t = 1 + (t - 1) by omega⟩
theorem rows_of {ks : List (Fin 31)} {lo n : ℕ} (h : ∀ r : Fin 31, (lo ≤ 1 + r.val ∧ 1 + r.val < lo + n) ↔ r ∈ ks) (h1 : 1 ≤ lo) (h2 : lo + n ≤ 32)
    {lo' m : ℕ} (e : lo' = 16 * lo) (e' : m = 16 * n) :
    ∀ t, (lo' ≤ t ∧ t < lo' + m) ↔ ∃ r ∈ ks, t / 16 = 1 + r.val := fun t => by
  constructor
  · intro ht
    exact ⟨⟨t / 16 - 1, by omega⟩, (h _).mp ⟨show lo ≤ 1 + (t / 16 - 1) by omega, show 1 + (t / 16 - 1) < lo + n by omega⟩,
      show t / 16 = 1 + (t / 16 - 1) by omega⟩
  · rintro ⟨r, hr, ht⟩
    have := (h r).mpr hr
    omega

/-! ## The entry handshake -/

theorem enter_wp (es : List Ev) (hes : ∀ e ∈ es, 1 < evL e ∧ evI e < 3) (k : Act F) :
    iprop(Know A ∗ bigSepL all (fun r => iprop(dutyTok ER (barC (nb c r)) 0 r.rev ∗ free1 (F := F) c r ∗ free2 (F := F) c r))
        ∗ (atPos ER (barC c) 0 ∅ 0 ∗ cred (tallyAt (barC c) 0 31)) ∗ ow c (all.map .bar ++ es))
      ⊢ iprop(((atPos ER (barC c) 1 ∅ 0 ∗ bigSepL all (barPay (F := F) c)) ∗ ow c es -∗ Wp c Kt k) -∗ Wp c Kt (enter c k)) := by
  unfold enter
  iintro ⟨#HK, Ht, Hb, HO⟩ Hk
  iapply (sends_wp A c Kt (P := fun r => iprop(dutyTok ER (barC (nb c r)) 0 r.rev ∗ free1 (F := F) c r ∗ free2 (F := F) c r)) (Z := fun _ => iprop(emp))
    (f := sig1 c) (ev := .bar) (es := es) (fun r rs k => sig_step A c Kt es r rs k) all) $$ [Ht HO]
  · isplitr; · iexact HK
    isplitl [Ht] <;> iassumption
  iintro ⟨-, HO⟩
  iapply (wait_bar A c Kt es hes k) $$ [Hb HO]
  · isplitr; · iexact HK
    isplitl [Hb] <;> iassumption
  iexact Hk

/-! ## The first layer -/

/-- What one peer brings to the first layer; what it brings to a later one. -/
def pre (r : Fin 31) : sProp 𝕄 :=
  iprop(dst1 (F := F) c 0 r ∗ dst2 (F := F) c 0 r ∗ freeQ (F := F) c r ∗ pos (cs1 c r) 0 ∗ pos (cr1 c r) 0 ∗ pos (cs2 c r) 0 ∗ pos (cr2 c r) 0)
def mid (l : ℕ) (r : Fin 31) : sProp 𝕄 :=
  iprop(free1 (F := F) c r ∗ dst2 (F := F) c l r ∗ freeQ (F := F) c r ∗ pos (cs1 c r) (l + 1) ∗ pos (cr1 c r) (l + 1) ∗ pos (cs2 c r) l ∗ pos (cr2 c r) l)

theorem first_send (r : Fin 31) :
    iprop(pAt c (rb (nb c r).val) (Pc A c) ∗ dst1 (F := F) c 0 r ∗ tk1 c 0 r ∗ pos (cs1 c r) 0) ⊢ iprop(pos (cs1 c r) 0 ∗ in1 A c 0 r) := by
  unfold in1 back1
  rw [if_pos rfl, s1Pay_zero]
  iintro ⟨Hq, Hd, Ht, Hp⟩
  ihave Hp := (pos_reached (cs1 c r) 0) $$ Hp
  icases Hp with ⟨Hp, Hr⟩
  isplitl [Hp]; · iexact Hp
  isplitl [Hq]; · iexact Hq
  isplitl [Hd]; · iexact Hd
  isplitr; · iempintro
  isplitl [Ht] <;> iassumption

theorem r1Pay_zero (r : Fin 31) : r1Pay A c 0 r = iprop(r1At c (bl (1 + r.val)) (R1 A 0 c) ∗ emp) := by
  unfold r1Pay; rw [if_pos rfl]

theorem first_wp (Wt : sProp (MT nD τ sig ℕ (Elt F) ℕ UU ℕ))
    (hx : ∀ k : Vec F S512x256 .bf16 → Act F, Wt ⊢ iprop((Wt -∗ Wp c Kt (k (A.x c))) -∗ Wp c Kt (load512 mX k)))
    (hw : ∀ k : Vec F S256x512 .bf16 → Act F, Wt ⊢ iprop((Wt -∗ Wp c Kt (k (A.wi 0 c))) -∗ Wp c Kt (load256 mWin0 k)))
    (es : List Ev) (hes : ∀ e ∈ es, 2 < evL e ∧ evI e < 3) (k : FVec F S16x512 .bf16 → Act F) :
    iprop(Know A ∗ bigSepL all (pre (F := F) c) ∗ bigSepL all (fun r => iprop(tk1 c 0 r ∗ cd1 c 0 r))
        ∗ (∃ f, pAt c Finset.univ f) ∗ (∃ f, r1At c (bl 0) f) ∗ Wt ∗ ow c (all.map (.r1 0) ++ es))
      ⊢ iprop((bigSepL all (mid (F := F) c 0) ∗ pAt c Finset.univ (Pc A c) ∗ (∃ f, r1At c (bl 0) f) ∗ Wt ∗ ow c es -∗ Wp c Kt (k (S A 0 c)))
        -∗ Wp c Kt (first c k)) := by
  unfold first
  iintro ⟨#HK, Hpre, Htk, ⟨%fp, HP⟩, ⟨%fr, HR⟩, HW, HO⟩ Hk
  iapply (hx _) $$ HW
  iintro HW
  iapply (hw _) $$ HW
  iintro HW
  iapply (putP_step c Kt fp (k0_pay1 (A.x c) (A.wi 0 c))) $$ HP
  iintro HP
  ihave HP := (show pAt c Finset.univ (k0_pay1 (A.x c) (A.wi 0 c)) ⊢ _ from Entails.of_eq (p_all c (Pc A c))) $$ HP
  icases HP with ⟨Hown, HP⟩
  ihave Hpre := (show bigSepL all (pre (F := F) c) ⊢ iprop(bigSepL all (dst1 (F := F) c 0) ∗ bigSepL all (dst2 (F := F) c 0) ∗ bigSepL all (freeQ (F := F) c)
      ∗ bigSepL all (fun r => pos (cs1 c r) 0) ∗ bigSepL all (fun r => pos (cr1 c r) 0) ∗ bigSepL all (fun r => pos (cs2 c r) 0) ∗ bigSepL all (fun r => pos (cr2 c r) 0)) from by
    unfold pre
    rw [← sepL all_nodup, ← sepL all_nodup, ← sepL all_nodup, ← sepL all_nodup, ← sepL all_nodup, ← sepL all_nodup]) $$ Hpre
  icases Hpre with ⟨Hd1, Hd2, HQ, Hs1, Hr1, Hs2, Hr2⟩
  ihave Htk := (Entails.of_eq (sepL all_nodup (tk1 (F := F) c 0) (cd1 c 0))) $$ Htk
  icases Htk with ⟨Ht, Hc⟩
  ihave H := (show iprop(bigSepL all (fun r => pAt c (rb (nb c r).val) (Pc A c)) ∗ bigSepL all (dst1 (F := F) c 0) ∗ bigSepL all (tk1 (F := F) c 0) ∗ bigSepL all (fun r => pos (cs1 c r) 0))
      ⊢ iprop(bigSepL all (fun r => pos (cs1 c r) 0) ∗ bigSepL all (in1 A c 0)) from by
    rw [← sepL all_nodup, ← sepL all_nodup, ← sepL all_nodup, ← sepL all_nodup]
    exact bigSepL_mono fun r _ => first_send A c r) $$ [HP Hd1 Ht Hs1]
  · isplitl [HP]; · iexact HP
    isplitl [Hd1]; · iexact Hd1
    isplitl [Ht] <;> iassumption
  icases H with ⟨Hs1, H⟩
  iapply (sends_wp A c Kt (P := in1 A c 0) (Z := go1 c) (f := sendP c) (ev := .r1 0) (es := es) (fun r rs k => sendP_step A c r Kt es rs k) all) $$ [H HO]
  · isplitr; · iexact HK
    isplitl [H] <;> iassumption
  iintro ⟨Hgo, HO⟩
  iapply (loadOwn_step c Kt (Pc A c)) $$ Hown
  iintro Hown
  iapply (put0_1 c Kt fr (R1 A 0 c) (k0_pay2 (ownRows c (Pc A c))) _
    (fun a b => stack_own (k0_pay2 (ownRows c (Pc A c))) (fun k => blk (Pc A (nb c k)) c.val c.isLt) 0 rfl a b)) $$ HR
  iintro HR
  iapply (waits_wp A c Kt (P := fun r => iprop(pos (cr1 c r) 0 ∗ cd1 c 0 r)) (Z := fun r => iprop(pos (cr1 c r) 1 ∗ r1Pay A c 0 r))
    (f := gotP) (es := es) (fun r k => gotP_step A c r Kt 0 (by decide) es hes k) (List.Perm.refl all) all_nodup) $$ [Hr1 Hc HO]
  · isplitr; · iexact HK
    isplitr [HO]
    · rw [sepL all_nodup (fun r => pos (cr1 c r) 0) (cd1 c 0)]
      isplitl [Hr1] <;> iassumption
    iexact HO
  rw [show (fun r => iprop(pos (cr1 c r) 1 ∗ r1Pay A c 0 r)) = fun r => iprop(pos (cr1 c r) 1 ∗ r1At c (bl (1 + r.val)) (R1 A 0 c) ∗ emp) from
      funext fun r => by rw [r1Pay_zero],
    sepL all_nodup (fun r => pos (cr1 c r) 1) (fun r => iprop(r1At c (bl (1 + r.val)) (R1 A 0 c) ∗ emp)),
    sepL all_nodup (fun r => r1At c (bl (1 + r.val)) (R1 A 0 c)) (fun _ => iprop(emp))]
  iintro ⟨⟨Hr1, Hsl, -⟩, HO⟩
  ihave HR := (Entails.of_eq (r1_all c (R1 A 0 c)).symm) $$ [HR Hsl]
  · isplitl [HR] <;> iassumption
  iapply (loadR1_step c Kt (R1 A 0 c)) $$ HR
  iintro HR
  ihave HR := (Entails.of_eq (r1_all c (R1 A 0 c))) $$ HR
  icases HR with ⟨HR, Hsl⟩
  iapply (waits_wp A c Kt (P := fun r => iprop(pos (cs1 c r) 0 ∗ go1 c r)) (Z := fun r => iprop(pos (cs1 c r) 1 ∗ s1Pay A c 0 r))
    (f := sentP c) (es := es) (fun r k => sentP_step A c r Kt 0 (by decide) es (fun e he => ⟨by have := (hes e he).1; omega, (hes e he).2⟩) k)
    (List.Perm.refl all) all_nodup) $$ [Hs1 Hgo HO]
  · isplitr; · iexact HK
    isplitr [HO]
    · rw [sepL all_nodup (fun r => pos (cs1 c r) 0) (go1 c)]
      isplitl [Hs1] <;> iassumption
    iexact HO
  rw [show (fun r => iprop(pos (cs1 c r) 1 ∗ s1Pay A c 0 r)) = fun r => iprop(pos (cs1 c r) 1 ∗ pAt c (rb (nb c r).val) (Pc A c)) from
      funext fun r => by rw [s1Pay_zero],
    sepL all_nodup (fun r => pos (cs1 c r) 1) (fun r => pAt c (rb (nb c r).val) (Pc A c))]
  iintro ⟨⟨Hs1, HP⟩, HO⟩
  iapply Hk
  isplitl [Hsl Hd2 HQ Hs1 Hr1 Hs2 Hr2]
  · unfold mid
    rw [sepL all_nodup (free1 (F := F) c), sepL all_nodup (dst2 (F := F) c 0), sepL all_nodup (freeQ (F := F) c), sepL all_nodup (fun r => pos (cs1 c r) (0 + 1)),
      sepL all_nodup (fun r => pos (cr1 c r) (0 + 1)), sepL all_nodup (fun r => pos (cs2 c r) 0)]
    isplitl [Hsl]
    · iapply (show (bigSepL all fun r => r1At c (bl (1 + r.val)) (R1 A 0 c)) ⊢ bigSepL all (free1 (F := F) c) from bigSepL_mono fun r _ => free1_of c r _)
      iexact Hsl
    isplitl [Hd2]; · iexact Hd2
    isplitl [HQ]; · iexact HQ
    isplitl [Hs1]; · iexact Hs1
    isplitl [Hr1]; · iexact Hr1
    isplitl [Hs2] <;> iassumption
  isplitl [Hown HP]
  · iapply (Entails.of_eq (p_all c (Pc A c)).symm)
    isplitl [Hown] <;> iassumption
  isplitl [HR]; · iexists _; iexact HR
  isplitl [HW] <;> iassumption

/-! ## A middle layer -/

def tks (l : ℕ) (r : Fin 31) : sProp 𝕄 :=
  iprop(tk1 (F := F) c (l + 1) r ∗ cd1 (F := F) c (l + 1) r ∗ tk2 (F := F) c l r ∗ cd2 (F := F) c l r)

/-- What one peer's copy of the gather takes, and what is left for the rest of the layer. -/
theorem layer_send (l : ℕ) (hl : l < 2) (r : Fin 31) :
    iprop(r2At c (bl 0) (lf r) (G2 A l c) ∗ mid (F := F) c l r ∗ tks (F := F) c l r)
      ⊢ iprop(in2 A c l r ∗ gIn (F := F) c l r ∗ (pos (cr1 c r) (l + 1) ∗ cd1 c (l + 1) r) ∗ pos (cs1 c r) (l + 1) ∗ pos (cs2 c r) l) := by
  unfold in2 back2 gIn s2Pay mid tks
  rw [if_pos hl]
  iintro ⟨Hs, ⟨Hf, Hd, HQ, Hs1, Hr1, Hs2, Hr2⟩, Ht1, Hc1, Ht2, Hc2⟩
  ihave Hs1 := (pos_reached (cs1 c r) (l + 1)) $$ Hs1
  icases Hs1 with ⟨Hs1, HR1⟩
  ihave Hr1 := (pos_reached (cr1 c r) (l + 1)) $$ Hr1
  icases Hr1 with ⟨Hr1, HR2⟩
  ihave Hs2 := (pos_reached (cs2 c r) l) $$ Hs2
  icases Hs2 with ⟨Hs2, HR3⟩
  isplitl [Hs Hd Hf HR2 Ht2 HR3]
  · isplitl [Hs]; · iexact Hs
    isplitl [Hd]; · iexact Hd
    isplitl [Hf HR2]; · isplitl [Hf] <;> iassumption
    isplitl [Ht2] <;> iassumption
  isplitl [Hr2 Hc2 HQ Ht1 HR1]
  · isplitl [Hr2 Hc2]; · isplitl [Hr2] <;> iassumption
    isplitl [HQ]; · iexact HQ
    isplitl [Ht1] <;> iassumption
  isplitl [Hr1 Hc1]; · isplitl [Hr1] <;> iassumption
  isplitl [Hs1] <;> iassumption

/-- What is left of one peer at the layer's end. -/
theorem layer_end (l : ℕ) (r : Fin 31) :
    iprop(r1At c (bl (1 + r.val)) (R1 A (l + 1) c) ∗ dst2 (F := F) c (l + 1) r ∗ (pos (cs1 c r) (l + 2) ∗ s1Pay A c (l + 1) r) ∗ pos (cr1 c r) (l + 2)
        ∗ pos (cs2 c r) (l + 1) ∗ pos (cr2 c r) (l + 1))
      ⊢ mid (F := F) c (l + 1) r := by
  unfold mid
  rw [s1Pay_succ]
  iintro ⟨H1, Hd, ⟨Hs1, HQ⟩, Hr1, Hs2, Hr2⟩
  isplitl [H1]; · iapply (free1_of c r _); iexact H1
  isplitl [Hd]; · iexact Hd
  isplitl [HQ]; · iapply (freeQ_of c r _); iexact HQ
  isplitl [Hs1]; · iexact Hs1
  isplitl [Hr1]; · iexact Hr1
  isplitl [Hs2] <;> iassumption

theorem chain_append (xs ys : List (Fin 31)) (f : Fin 31 → Act F → Act F) (k : Act F) :
    chain (xs ++ ys) f k = chain xs f (chain ys f k) := List.foldr_append ..

/-- The peers group by group. -/
theorem groups_perm : (gA ++ (gB ++ (gC ++ gD))).Perm all := by decide

theorem groups_sep (P : Fin 31 → sProp (MT nD τ sig ℕ (Elt F) ℕ UU ℕ)) :
    bigSepL all P = iprop(bigSepL gA P ∗ bigSepL gB P ∗ bigSepL gC P ∗ bigSepL gD P) := by
  rw [← permL groups_perm (by decide), bigSepL_append, bigSepL_append, bigSepL_append]

theorem layer_wp (l : ℕ) (hl : l < 2) {mWo : Memref sig .tc .vmem S512x256 .bf16} {mWi : Memref sig .tc .vmem S256x512 .bf16}
    (Wt : sProp (MT nD τ sig ℕ (Elt F) ℕ UU ℕ))
    (ho : ∀ k : Vec F S512x256 .bf16 → Act F, Wt ⊢ iprop((Wt -∗ Wp c Kt (k (A.wo l c))) -∗ Wp c Kt (load512 mWo k)))
    (hi : ∀ k : Vec F S256x512 .bf16 → Act F, Wt ⊢ iprop((Wt -∗ Wp c Kt (k (A.wi (l + 1) c))) -∗ Wp c Kt (load256 mWi k)))
    (es : List Ev) (hes : ∀ e ∈ es, 4 + 2 * l < evL e ∧ evI e < 3) (k : FVec F S16x512 .bf16 → Act F) :
    iprop(Know A ∗ bigSepL all (mid (F := F) c l) ∗ bigSepL all (tks (F := F) c l) ∗ (∃ f, r1At c (bl 0) f) ∗ (∃ f, r2At c (bl 0) fullShare f) ∗ Wt
        ∗ ow c (all.map (.r2 l) ++ (gA.map (.r1 (l + 1)) ++ (gB.map (.r1 (l + 1)) ++ (gC.map (.r1 (l + 1)) ++ (gD.map (.r1 (l + 1)) ++ es))))))
      ⊢ iprop((bigSepL all (mid (F := F) c (l + 1)) ∗ (∃ f, r1At c (bl 0) f) ∗ (∃ f, r2At c (bl 0) fullShare f) ∗ Wt ∗ ow c es
          -∗ Wp c Kt (k (S A (l + 1) c)))
        -∗ Wp c Kt (layer c mWo mWi (S A l c) k)) := by
  have hr1 : ∀ (g : List (Fin 31)) (es : List Ev), (∀ e ∈ es, 4 + 2 * l ≤ evL e ∧ evI e < 3) →
      ∀ e ∈ g.map (Ev.r1 (l + 1)) ++ es, 4 + 2 * l ≤ evL e ∧ evI e < 3 := by
    intro g es h e he
    rcases List.mem_append.mp he with he | he
    · obtain ⟨r, -, rfl⟩ := List.mem_map.mp he
      exact ⟨show 4 + 2 * l ≤ 2 + 2 * (l + 1) by omega, show l + 1 < 3 by omega⟩
    · exact h e he
  have h0 : ∀ e ∈ es, 4 + 2 * l ≤ evL e ∧ evI e < 3 := fun e he => ⟨(hes e he).1.le, (hes e he).2⟩
  have hD := hr1 gD es h0
  have hC := hr1 gC _ hD
  have hB := hr1 gB _ hC
  have h1 : ∀ e ∈ es, 0 < evL e ∧ evI e < 3 := fun e he => ⟨by have := (hes e he).1; omega, (hes e he).2⟩
  unfold layer
  iintro ⟨#HK, Hmid, Htk, ⟨%fr, HR1⟩, ⟨%fg, HR2⟩, HW, HO⟩ Hk
  iapply (put0_2 c Kt fg (G2 A l c) (k0_pay4 (S A l c)) _
    (fun a b => stack_own (k0_pay4 (S A l c)) (fun k => flat (k0_pay4 (S A l (nb c k)))) 0 rfl a b)) $$ HR2
  iintro HR2
  ihave HR2 := (Entails.of_eq (own_shares c (G2 A l c))) $$ HR2
  icases HR2 with ⟨HL, HR2⟩
  ihave H := (show iprop(bigSepL all (fun r => r2At c (bl 0) (lf r) (G2 A l c)) ∗ bigSepL all (mid (F := F) c l) ∗ bigSepL all (tks (F := F) c l))
      ⊢ iprop(bigSepL all (in2 A c l) ∗ bigSepL all (gIn (F := F) c l) ∗ bigSepL all (fun r => iprop(pos (cr1 c r) (l + 1) ∗ cd1 c (l + 1) r))
        ∗ bigSepL all (fun r => pos (cs1 c r) (l + 1)) ∗ bigSepL all (fun r => pos (cs2 c r) l)) from by
    rw [← sepL all_nodup, ← sepL all_nodup, ← sepL all_nodup, ← sepL all_nodup, ← sepL all_nodup, ← sepL all_nodup]
    exact bigSepL_mono fun r _ => layer_send A c l hl r) $$ [HL Hmid Htk]
  · isplitl [HL]; · iexact HL
    isplitl [Hmid] <;> iassumption
  icases H with ⟨Hin, Hg, Hr1, Hs1, Hs2⟩
  iapply (sends_wp A c Kt (P := in2 A c l) (Z := go2 c) (f := sendG c) (ev := .r2 l) (fun r rs k => sendG_step A c r Kt l (by omega) _ rs k) all) $$ [Hin HO]
  · isplitr; · iexact HK
    isplitl [Hin] <;> iassumption
  iintro ⟨Hgo2, HO⟩
  iapply (ho _) $$ HW
  iintro HW
  iapply (hi _) $$ HW
  iintro HW
  iapply (put0_1 c Kt fr (R1 A (l + 1) c) (k0_pay7 (S A l c) (A.wo l c) (A.wi (l + 1) c)) _
    (fun a b => stack_own (k0_pay7 (S A l c) (A.wo l c) (A.wi (l + 1) c))
      (fun k => blk (qOf A l (S A l) (nb c k)) (1 + k.rev.val) (by rw [rev_val]; omega)) 0 rfl a b)) $$ HR1
  iintro HR1
  ihave Hg := (Entails.of_eq (groups_sep (gIn (F := F) c l))) $$ Hg
  icases Hg with ⟨HgA, HgB, HgC, HgD⟩
  iapply (grp_wp A c Kt l (by omega) (ws := gA') (ks := gA) (by decide) (by decide) (by decide) 7 112 25 400 _ _ _ _ _ (slots_of (by decide) (by decide) (by decide))
    (rows_of (lo := 25) (n := 7) (by decide) (by decide) (by decide) rfl rfl) _ (fun a b ho => partQ_A _ _ _ a b ho) _ hB) $$ [HgA HO]
  · isplitr; · iexact HK
    isplitl [HgA] <;> iassumption
  iintro ⟨HgA, HO⟩
  iapply (grp_wp A c Kt l (by omega) (ws := gB') (ks := gB) (by decide) (by decide) (by decide) 8 128 17 272 _ _ _ _ _ (slots_of (by decide) (by decide) (by decide))
    (rows_of (lo := 17) (n := 8) (by decide) (by decide) (by decide) rfl rfl) _ (fun a b ho => partQ_B _ _ _ a b ho) _ hC) $$ [HgB HO]
  · isplitr; · iexact HK
    isplitl [HgB] <;> iassumption
  iintro ⟨HgB, HO⟩
  iapply (grp_wp A c Kt l (by omega) (ws := gC') (ks := gC) (by decide) (by decide) (by decide) 8 128 9 144 _ _ _ _ _ (slots_of (by decide) (by decide) (by decide))
    (rows_of (lo := 9) (n := 8) (by decide) (by decide) (by decide) rfl rfl) _ (fun a b ho => partQ_C _ _ _ a b ho) _ hD) $$ [HgC HO]
  · isplitr; · iexact HK
    isplitl [HgC] <;> iassumption
  iintro ⟨HgC, HO⟩
  iapply (grp_wp A c Kt l (by omega) (ws := gD') (ks := gD) (by decide) (by decide) (by decide) 8 128 1 16 _ _ _ _ _ (slots_of (by decide) (by decide) (by decide))
    (rows_of (lo := 1) (n := 8) (by decide) (by decide) (by decide) rfl rfl) _ (fun a b ho => partQ_D _ _ _ a b ho) _ h0) $$ [HgD HO]
  · isplitr; · iexact HK
    isplitl [HgD] <;> iassumption
  iintro ⟨HgD, HO⟩
  ihave Hg := (show iprop(bigSepL gA (gOut (F := F) c l) ∗ bigSepL gB (gOut (F := F) c l) ∗ bigSepL gC (gOut (F := F) c l) ∗ bigSepL gD (gOut (F := F) c l))
      ⊢ iprop(bigSepL all (fun r => pos (cr2 c r) (l + 1)) ∗ bigSepL all (go1 (F := F) c)) from by
    rw [← groups_sep, ← sepL all_nodup]; unfold gOut; exact .rfl) $$ [HgA HgB HgC HgD]
  · isplitl [HgA]; · iexact HgA
    isplitl [HgB]; · iexact HgB
    isplitl [HgC] <;> iassumption
  icases Hg with ⟨Hr2, Hgo1⟩
  iapply (waits_wp A c Kt (P := fun r => iprop(pos (cr1 c r) (l + 1) ∗ cd1 c (l + 1) r)) (Z := fun r => iprop(pos (cr1 c r) (l + 2) ∗ r1Pay A c (l + 1) r))
    (f := gotP) (es := es) (fun r k => gotP_step A c r Kt (l + 1) (by omega) es (fun e he => ⟨by have := (hes e he).1; omega, (hes e he).2⟩) k)
    (List.Perm.refl all) all_nodup) $$ [Hr1 HO]
  · isplitr; · iexact HK
    isplitl [Hr1] <;> iassumption
  rw [show (fun r => iprop(pos (cr1 c r) (l + 2) ∗ r1Pay A c (l + 1) r))
      = fun r => iprop(pos (cr1 c r) (l + 2) ∗ r1At c (bl (1 + r.val)) (R1 A (l + 1) c) ∗ dst2 c (l + 1) r) from funext fun r => by rw [r1Pay_succ],
    sepL all_nodup (fun r => pos (cr1 c r) (l + 2)) (fun r => iprop(r1At c (bl (1 + r.val)) (R1 A (l + 1) c) ∗ dst2 c (l + 1) r)),
    sepL all_nodup (fun r => r1At c (bl (1 + r.val)) (R1 A (l + 1) c)) (dst2 (F := F) c (l + 1))]
  iintro ⟨⟨Hr1, Hsl, Hd2⟩, HO⟩
  ihave HR1 := (Entails.of_eq (r1_all c (R1 A (l + 1) c)).symm) $$ [HR1 Hsl]
  · isplitl [HR1] <;> iassumption
  iapply (loadR1_step c Kt (R1 A (l + 1) c)) $$ HR1
  iintro HR1
  ihave HR1 := (Entails.of_eq (r1_all c (R1 A (l + 1) c))) $$ HR1
  icases HR1 with ⟨HR1, Hsl⟩
  iapply (waits_wp A c Kt (P := fun r => iprop(pos (cs2 c r) l ∗ go2 c r)) (Z := fun r => iprop(pos (cs2 c r) (l + 1) ∗ s2Pay A c l r))
    (f := sentG c) (es := es) (fun r k => sentG_step A c r Kt l (by omega) es h1 k) (List.Perm.refl all) all_nodup) $$ [Hs2 Hgo2 HO]
  · isplitr; · iexact HK
    isplitr [HO]
    · rw [sepL all_nodup (fun r => pos (cs2 c r) l) (go2 c)]
      isplitl [Hs2] <;> iassumption
    iexact HO
  rw [sepL all_nodup (fun r => pos (cs2 c r) (l + 1)) (s2Pay A c l)]
  iintro ⟨⟨Hs2, HL⟩, HO⟩
  ihave HR2 := (show iprop(bigSepL all (s2Pay A c l) ∗ r2At c (bl 0) (ShareLeaves.leaf 5 fullShare 31) (G2 A l c)) ⊢ _ from
    Entails.of_eq (own_shares c (G2 A l c)).symm) $$ [HL HR2]
  · isplitl [HL] <;> iassumption
  rw [← chain_append, ← chain_append, ← chain_append]
  iapply (waits_wp A c Kt (P := fun r => iprop(pos (cs1 c r) (l + 1) ∗ go1 c r)) (Z := fun r => iprop(pos (cs1 c r) (l + 2) ∗ s1Pay A c (l + 1) r))
    (f := sentQ c) (es := es) (fun r k => sentQ_step A c r Kt (l + 1) (by omega) es h1 k)
    (ws := gA ++ (gB ++ (gC ++ gD))) (ks := all) groups_perm (by decide)) $$ [Hs1 Hgo1 HO]
  · isplitr; · iexact HK
    isplitr [HO]
    · rw [sepL all_nodup (fun r => pos (cs1 c r) (l + 1)) (go1 c)]
      isplitl [Hs1] <;> iassumption
    iexact HO
  iintro ⟨Hs1, HO⟩
  iapply Hk
  isplitl [Hsl Hd2 Hs1 Hr1 Hs2 Hr2]
  · iapply (show iprop(bigSepL all (fun r => r1At c (bl (1 + r.val)) (R1 A (l + 1) c)) ∗ bigSepL all (dst2 (F := F) c (l + 1))
        ∗ bigSepL all (fun r => iprop(pos (cs1 c r) (l + 2) ∗ s1Pay A c (l + 1) r)) ∗ bigSepL all (fun r => pos (cr1 c r) (l + 2))
        ∗ bigSepL all (fun r => pos (cs2 c r) (l + 1)) ∗ bigSepL all (fun r => pos (cr2 c r) (l + 1))) ⊢ bigSepL all (mid (F := F) c (l + 1)) from by
      rw [← sepL all_nodup, ← sepL all_nodup, ← sepL all_nodup, ← sepL all_nodup, ← sepL all_nodup]
      exact bigSepL_mono fun r _ => layer_end A c l r)
    isplitl [Hsl]; · iexact Hsl
    isplitl [Hd2]; · iexact Hd2
    isplitl [Hs1]; · iexact Hs1
    isplitl [Hr1]; · iexact Hr1
    isplitl [Hs2] <;> iassumption
  isplitl [HR1]; · iexists _; iexact HR1
  isplitl [HR2]; · iexists _; iexact HR2
  isplitl [HW] <;> iassumption

end Cert.KernelIdeal.Net

end
-- ==== Proof.Last.lean ====
/- The last layer: each block of the gathered activations is multiplied into its rows of the result. -/
module

public import proofs.«01_k».proof.Proof.Layers

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig ℕ (Elt F) ℕ UU ℕ

/-! ## The result by blocks of sixteen rows -/

theorem ron_disjoint (c : Dev nD) (r r' : Fin 31) (h : r ≠ r') : Disjoint (ro (nb c r).val) (ro (nb c r').val) :=
  Finset.disjoint_left.mpr fun i hi hi' => h (nb_injective c (Fin.ext (by rw [mem_ro] at hi hi'; omega)))

theorem univ_rowsO (c : Dev nD) : (Finset.univ : Finset S512x256.Idx) = ro c.val ∪ all.toFinset.biUnion fun r => ro (nb c r).val := by
  refine (Finset.eq_univ_of_forall fun i => ?_).symm
  have hi : (i 0).val < 512 := (i 0).isLt
  have hc : c.val < 32 := c.isLt
  simp only [Finset.mem_union, mem_ro, Finset.mem_biUnion, List.mem_toFinset]
  by_cases h : (i 0).val / 16 = c.val
  · exact .inl h
  · exact .inr ⟨⟨((i 0).val / 16 + 31 - c.val) % 32, by omega⟩, (by decide : ∀ r : Fin 31, r ∈ all) _,
      show (i 0).val / 16 = (c.val + ((i 0).val / 16 + 31 - c.val) % 32 + 1) % 32 by omega⟩

theorem roc_disjoint (c : Dev nD) : Disjoint (ro c.val) (all.toFinset.biUnion fun r => ro (nb c r).val) :=
  Finset.disjoint_left.mpr fun i hi hi' => by
    rw [mem_ro] at hi
    simp only [Finset.mem_biUnion, mem_ro] at hi'
    obtain ⟨r, -, h⟩ := hi'
    exact nb_ne c r (Fin.ext (h.symm.trans hi))

theorem o_all (c : Dev nD) (f : Re F) : oAt c Finset.univ f = iprop(oAt c (ro c.val) f ∗ bigSepL all fun r => oAt c (ro (nb c r).val) f) := by
  rw [show (bigSepL all fun r => oAt c (ro (nb c r).val) f) = oAt c (all.toFinset.biUnion fun r => ro (nb c r).val) f from by
    unfold oAt; exact (parts_eq _ (ron_disjoint c) all_nodup _).symm, univ_rowsO c]
  unfold oAt
  exact (pointsTo_union (roc_disjoint c)).1.antisymm (pointsTo_union (roc_disjoint c)).2

variable [FloatOps F] (A : Ops F) (c : Dev nD)
variable (Kt : PUnit → sProp (MT nD τ sig ℕ (Elt F) ℕ UU ℕ))

section Result
variable (s : FVec F S16x512 .bf16) (wo : Vec F S512x256 .bf16) (g : Sl F)

theorem dist_of (r : ℕ) (hr : r < 31) (c' : ℕ) (hc : c' < 32) (a : ℕ) (ha : a < 16) :
    ((16 * ((c' + r + 1) % 32) + a) / 16 + 31 - c') % 32 = r := by omega

theorem result_own (a : Fin 16) (b : Fin 256) (ho : 16 * c.val + a.val < 512) :
    result c s wo g (ix2 (⟨16 * c.val + a.val, ho⟩ : Fin 512) b) = k0_pay26 s wo (ix2 a b) := by
  have hc : c.val < 32 := c.isLt
  exact (dif_pos (show ((16 * c.val + a.val) / 16 + 31 - c.val) % 32 = 31 by omega)).trans
    (congrArg (fun a : Fin 16 => k0_pay26 s wo (ix2 a b)) (Fin.ext (show (16 * c.val + a.val) % 16 = a.val by omega)))

theorem result_A (i : Fin 7) (a : Fin 16) (b : Fin 256) (hr : 24 + i.val < 31) (ho : 16 * (nb c ⟨24 + i.val, hr⟩).val + a.val < 512) (ha : 16 * i.val + a.val < 112) :
    result c s wo g (ix2 (⟨16 * (nb c ⟨24 + i.val, hr⟩).val + a.val, ho⟩ : Fin 512) b)
      = k0_pay27 (k0_pay25 wo) (slots 7 25 inb_S32x16x512_S7x16x512_25_0_0 g) (ix2 (⟨16 * i.val + a.val, ha⟩ : Fin 112) b) := by
  have e : ((16 * (nb c ⟨24 + i.val, hr⟩).val + a.val) / 16 + 31 - c.val) % 32 = 24 + i.val := dist_of _ hr c.val c.isLt _ a.isLt
  exact (dif_neg (show ¬ ((16 * (nb c ⟨24 + i.val, hr⟩).val + a.val) / 16 + 31 - c.val) % 32 = 31 by omega)).trans
    ((dif_pos (show 24 ≤ ((16 * (nb c ⟨24 + i.val, hr⟩).val + a.val) / 16 + 31 - c.val) % 32 by omega)).trans
    (congrArg (fun a : Fin 112 => k0_pay27 (k0_pay25 wo) (slots 7 25 inb_S32x16x512_S7x16x512_25_0_0 g) (ix2 a b))
      (Fin.ext (show 16 * (((16 * (nb c ⟨24 + i.val, hr⟩).val + a.val) / 16 + 31 - c.val) % 32 - 24)
        + (16 * (nb c ⟨24 + i.val, hr⟩).val + a.val) % 16 = 16 * i.val + a.val by rw [e]; omega))))
theorem result_B (i : Fin 8) (a : Fin 16) (b : Fin 256) (hr : 16 + i.val < 31) (ho : 16 * (nb c ⟨16 + i.val, hr⟩).val + a.val < 512) (ha : 16 * i.val + a.val < 128) :
    result c s wo g (ix2 (⟨16 * (nb c ⟨16 + i.val, hr⟩).val + a.val, ho⟩ : Fin 512) b)
      = k0_pay35 (k0_pay25 wo) (slots 8 17 inb_S32x16x512_S8x16x512_17_0_0 g) (ix2 (⟨16 * i.val + a.val, ha⟩ : Fin 128) b) := by
  have e : ((16 * (nb c ⟨16 + i.val, hr⟩).val + a.val) / 16 + 31 - c.val) % 32 = 16 + i.val := dist_of _ hr c.val c.isLt _ a.isLt
  exact (dif_neg (show ¬ ((16 * (nb c ⟨16 + i.val, hr⟩).val + a.val) / 16 + 31 - c.val) % 32 = 31 by omega)).trans
    ((dif_neg (show ¬ 24 ≤ ((16 * (nb c ⟨16 + i.val, hr⟩).val + a.val) / 16 + 31 - c.val) % 32 by omega)).trans
    ((dif_pos (show 16 ≤ ((16 * (nb c ⟨16 + i.val, hr⟩).val + a.val) / 16 + 31 - c.val) % 32 by omega)).trans
    (congrArg (fun a : Fin 128 => k0_pay35 (k0_pay25 wo) (slots 8 17 inb_S32x16x512_S8x16x512_17_0_0 g) (ix2 a b))
      (Fin.ext (show 16 * (((16 * (nb c ⟨16 + i.val, hr⟩).val + a.val) / 16 + 31 - c.val) % 32 - 16)
        + (16 * (nb c ⟨16 + i.val, hr⟩).val + a.val) % 16 = 16 * i.val + a.val by rw [e]; omega)))))
theorem result_C (i : Fin 8) (a : Fin 16) (b : Fin 256) (hr : 8 + i.val < 31) (ho : 16 * (nb c ⟨8 + i.val, hr⟩).val + a.val < 512) (ha : 16 * i.val + a.val < 128) :
    result c s wo g (ix2 (⟨16 * (nb c ⟨8 + i.val, hr⟩).val + a.val, ho⟩ : Fin 512) b)
      = k0_pay35 (k0_pay25 wo) (slots 8 9 inb_S32x16x512_S8x16x512_9_0_0 g) (ix2 (⟨16 * i.val + a.val, ha⟩ : Fin 128) b) := by
  have e : ((16 * (nb c ⟨8 + i.val, hr⟩).val + a.val) / 16 + 31 - c.val) % 32 = 8 + i.val := dist_of _ hr c.val c.isLt _ a.isLt
  exact (dif_neg (show ¬ ((16 * (nb c ⟨8 + i.val, hr⟩).val + a.val) / 16 + 31 - c.val) % 32 = 31 by omega)).trans
    ((dif_neg (show ¬ 24 ≤ ((16 * (nb c ⟨8 + i.val, hr⟩).val + a.val) / 16 + 31 - c.val) % 32 by omega)).trans
    ((dif_neg (show ¬ 16 ≤ ((16 * (nb c ⟨8 + i.val, hr⟩).val + a.val) / 16 + 31 - c.val) % 32 by omega)).trans
    ((dif_pos (show 8 ≤ ((16 * (nb c ⟨8 + i.val, hr⟩).val + a.val) / 16 + 31 - c.val) % 32 by omega)).trans
    (congrArg (fun a : Fin 128 => k0_pay35 (k0_pay25 wo) (slots 8 9 inb_S32x16x512_S8x16x512_9_0_0 g) (ix2 a b))
      (Fin.ext (show 16 * (((16 * (nb c ⟨8 + i.val, hr⟩).val + a.val) / 16 + 31 - c.val) % 32 - 8)
        + (16 * (nb c ⟨8 + i.val, hr⟩).val + a.val) % 16 = 16 * i.val + a.val by rw [e]; omega))))))
theorem result_D (i : Fin 8) (a : Fin 16) (b : Fin 256) (hr : 0 + i.val < 31) (ho : 16 * (nb c ⟨0 + i.val, hr⟩).val + a.val < 512) (ha : 16 * i.val + a.val < 128) :
    result c s wo g (ix2 (⟨16 * (nb c ⟨0 + i.val, hr⟩).val + a.val, ho⟩ : Fin 512) b)
      = k0_pay35 (k0_pay25 wo) (slots 8 1 inb_S32x16x512_S8x16x512_1_0_0 g) (ix2 (⟨16 * i.val + a.val, ha⟩ : Fin 128) b) := by
  have e : ((16 * (nb c ⟨0 + i.val, hr⟩).val + a.val) / 16 + 31 - c.val) % 32 = 0 + i.val := dist_of _ hr c.val c.isLt _ a.isLt
  exact (dif_neg (show ¬ ((16 * (nb c ⟨0 + i.val, hr⟩).val + a.val) / 16 + 31 - c.val) % 32 = 31 by omega)).trans
    ((dif_neg (show ¬ 24 ≤ ((16 * (nb c ⟨0 + i.val, hr⟩).val + a.val) / 16 + 31 - c.val) % 32 by omega)).trans
    ((dif_neg (show ¬ 16 ≤ ((16 * (nb c ⟨0 + i.val, hr⟩).val + a.val) / 16 + 31 - c.val) % 32 by omega)).trans
    ((dif_neg (show ¬ 8 ≤ ((16 * (nb c ⟨0 + i.val, hr⟩).val + a.val) / 16 + 31 - c.val) % 32 by omega)).trans
    (congrArg (fun a : Fin 128 => k0_pay35 (k0_pay25 wo) (slots 8 1 inb_S32x16x512_S8x16x512_1_0_0 g) (ix2 a b))
      (Fin.ext (show 16 * (((16 * (nb c ⟨0 + i.val, hr⟩).val + a.val) / 16 + 31 - c.val) % 32)
        + (16 * (nb c ⟨0 + i.val, hr⟩).val + a.val) % 16 = 16 * i.val + a.val by rw [e]; omega))))))
end Result

/-! ## A group of the last layer -/

/-- The rows of the result for the peer numbered `r`, at some contents. -/
def freeO (r : Fin 31) : sProp 𝕄 := iprop(∃ f : Re F, oAt c (ro (nb c r).val) f)

theorem puts_wp (n m lo : Nat) (hlo : lo + n ≤ 31) (hs : ∀ i : Fin n, (⟨2, ![m, 256]⟩ : Shape).Slices ![16 * i.val, 0] S16x256)
    (Y : FVec F ⟨2, ![m, 256]⟩ .f32) (g : Re F) (hm : m = 16 * n)
    (hg : ∀ (i : Fin n) (a : Fin 16) (b : Fin 256) (hr : lo + i.val < 31) (ho : 16 * (nb c ⟨lo + i.val, hr⟩).val + a.val < 512) (ha : 16 * i.val + a.val < m),
      g (ix2 (⟨16 * (nb c ⟨lo + i.val, hr⟩).val + a.val, ho⟩ : Fin 512) b) = Y (ix2 (⟨16 * i.val + a.val, ha⟩ : Fin m) b)) (k : Act F) :
    ∀ is : List (Fin n),
      bigSepL (is.map fun i => (⟨lo + i.val, by omega⟩ : Fin 31)) (freeO (F := F) c)
        ⊢ iprop((bigSepL (is.map fun i => (⟨lo + i.val, by omega⟩ : Fin 31)) (fun r => oAt c (ro (nb c r).val) g) -∗ Wp c Kt k)
          -∗ Wp c Kt (puts c n m lo is hlo hs Y k))
  | [] => by
    show bigSepL [] _ ⊢ iprop((bigSepL [] _ -∗ Wp c Kt k) -∗ Wp c Kt k)
    rw [bigSepL_nil]
    iintro H Hk
    iapply Hk
    rw [bigSepL_nil]
    iexact H
  | i :: is => by
    show bigSepL (_ :: is.map _) _ ⊢ iprop((bigSepL (_ :: is.map _) _ -∗ Wp c Kt k) -∗ Wp c Kt (putF c ⟨lo + i.val, _⟩ _ (puts c n m lo is hlo hs Y k)))
    rw [bigSepL_cons', bigSepL_cons']
    unfold putF freeO
    iintro ⟨⟨%f, H⟩, Hs⟩ Hk
    iapply (putO_step c Kt (nb c ⟨lo + i.val, _⟩) (off6_eq c _) f g _ _ (fun a b ho => by
      have ha : 16 * i.val + a.val < m := by have := i.isLt; have := a.isLt; omega
      exact (hg i a b (by omega) ho ha).trans (slice2_axis0_apply (16 * i.val) Y (hs i) a b ⟨16 * i.val + a.val, ha⟩ rfl).symm)) $$ H
    iintro H
    iapply (puts_wp n m lo hlo hs Y g hm hg k is) $$ [Hs]
    · unfold freeO; iexact Hs
    iintro Hs
    iapply Hk
    isplitl [H] <;> iassumption

/-- What one peer brings to its group of the last layer, and what it leaves. -/
def lIn (r : Fin 31) : sProp 𝕄 := iprop((pos (cr2 c r) 2 ∗ cd2 c 2 r) ∗ freeO (F := F) c r)
def lOut (r : Fin 31) : sProp 𝕄 :=
  iprop((pos (cr2 c r) 3 ∗ r2At c (bl (1 + r.val)) fullShare (G2 A 2 c)) ∗ oAt c (ro (nb c r).val) (Ov A c))

theorem r2Pay_two (r : Fin 31) : r2Pay A c 2 r = iprop(r2At c (bl (1 + r.val)) fullShare (G2 A 2 c) ∗ emp) := by
  unfold r2Pay; rw [if_neg (by decide)]

theorem fin_wp (n m lo : Nat) {ws ks : List (Fin 31)} {is : List (Fin n)} (hlo : lo + n ≤ 31) (hp : ws.Perm ks) (hw : ws.Nodup) (hn : ks.Nodup)
    (hk : (is.map fun i => (⟨lo + i.val, by omega⟩ : Fin 31)) = ks)
    (h3 : ∀ a, (![1 + lo, 0, 0] : Fin 3 → Nat) a + (Sh3 n).size a ≤ S32x16x512.size a) (hp3 : 0 < (Sh3 n).numel)
    (hs : ∀ i : Fin n, (⟨2, ![m, 256]⟩ : Shape).Slices ![16 * i.val, 0] S16x256)
    (h3s : ∀ t, 1 + lo ≤ t → t < 1 + lo + n → ∃ r ∈ ks, t = 1 + r.val)
    (pay : Vec F (Sh3 n) .bf16 → FVec F ⟨2, ![m, 256]⟩ .f32) (hm : m = 16 * n)
    (hg : ∀ (i : Fin n) (a : Fin 16) (b : Fin 256) (hr : lo + i.val < 31) (ho : 16 * (nb c ⟨lo + i.val, hr⟩).val + a.val < 512) (ha : 16 * i.val + a.val < m),
      Ov A c (ix2 (⟨16 * (nb c ⟨lo + i.val, hr⟩).val + a.val, ho⟩ : Fin 512) b)
        = pay (slots n (1 + lo) h3 (G2 A 2 c)) (ix2 (⟨16 * i.val + a.val, ha⟩ : Fin m) b)) (k : Act F) :
    iprop(Know A ∗ bigSepL ks (lIn (F := F) c) ∗ ow c [])
      ⊢ iprop((bigSepL ks (lOut A c) ∗ ow c [] -∗ Wp c Kt k) -∗ Wp c Kt (fin c n m lo ws is hlo h3 hp3 hs pay k)) := by
  subst hk
  unfold fin lIn lOut
  rw [sepL hn (fun r => iprop(pos (cr2 c r) 2 ∗ cd2 c 2 r)) (freeO (F := F) c),
    sepL hn (fun r => iprop(pos (cr2 c r) 3 ∗ r2At c (bl (1 + r.val)) fullShare (G2 A 2 c))) (fun r => oAt c (ro (nb c r).val) (Ov A c)),
    sepL hn (fun r => pos (cr2 c r) 3) (fun r => r2At c (bl (1 + r.val)) fullShare (G2 A 2 c))]
  iintro ⟨#HK, ⟨Hp, Hf⟩, HO⟩ Hk
  iapply (waits_wp A c Kt (P := fun r => iprop(pos (cr2 c r) 2 ∗ cd2 c 2 r)) (Z := fun r => iprop(pos (cr2 c r) 3 ∗ r2Pay A c 2 r))
    (f := gotG) (es := []) (fun r k => gotG_step A c r Kt 2 (by decide) [] (by simp) k) hp hw) $$ [Hp HO]
  · isplitr; · iexact HK
    isplitl [Hp] <;> iassumption
  rw [show (fun r => iprop(pos (cr2 c r) 3 ∗ r2Pay A c 2 r)) = fun r => iprop(pos (cr2 c r) 3 ∗ r2At c (bl (1 + r.val)) fullShare (G2 A 2 c) ∗ emp) from
      funext fun r => by rw [r2Pay_two],
    sepL hn (fun r => pos (cr2 c r) 3) (fun r => iprop(r2At c (bl (1 + r.val)) fullShare (G2 A 2 c) ∗ emp)),
    sepL hn (fun r => r2At c (bl (1 + r.val)) fullShare (G2 A 2 c)) (fun _ => iprop(emp))]
  iintro ⟨⟨Hp, Hg, -⟩, HO⟩
  ihave Hg := (Entails.of_eq (r2_parts c hn fullShare (G2 A 2 c)).symm) $$ Hg
  iapply (loadG_step c Kt _ fullShare n (1 + lo) h3 hp3 h3s (G2 A 2 c)) $$ Hg
  iintro Hg
  ihave Hg := (Entails.of_eq (r2_parts c hn fullShare (G2 A 2 c))) $$ Hg
  iapply (puts_wp c Kt n m lo hlo hs (pay (slots n (1 + lo) h3 (G2 A 2 c))) (Ov A c) hm hg k is) $$ Hf
  iintro Hf
  iapply Hk
  isplitr [HO]
  · isplitr [Hf]
    · isplitl [Hp] <;> iassumption
    iexact Hf
  iexact HO

/-! ## The last layer -/

/-- What is left of one peer at the end. -/
def done (r : Fin 31) : sProp 𝕄 :=
  iprop(free1 (F := F) c r ∗ free2 (F := F) c r ∗ freeQ (F := F) c r ∗ pos (cs1 c r) 3 ∗ pos (cr1 c r) 3 ∗ pos (cs2 c r) 3 ∗ pos (cr2 c r) 3)

theorem last_send (r : Fin 31) :
    iprop(r2At c (bl 0) (lf r) (G2 A 2 c) ∗ mid (F := F) c 2 r ∗ (tk2 c 2 r ∗ cd2 c 2 r) ∗ freeO (F := F) c r)
      ⊢ iprop(in2 A c 2 r ∗ lIn (F := F) c r ∗ pos (cs2 c r) 2 ∗ free1 (F := F) c r ∗ freeQ (F := F) c r ∗ pos (cs1 c r) 3 ∗ pos (cr1 c r) 3) := by
  unfold in2 back2 lIn s2Pay mid
  rw [if_neg (by decide)]
  iintro ⟨Hs, ⟨Hf, Hd, HQ, Hs1, Hr1, Hs2, Hr2⟩, ⟨Ht2, Hc2⟩, Ho⟩
  ihave Hs2 := (pos_reached (cs2 c r) 2) $$ Hs2
  icases Hs2 with ⟨Hs2, HR3⟩
  isplitl [Hs Hd Ht2 HR3]
  · isplitl [Hs]; · iexact Hs
    isplitl [Hd]; · iexact Hd
    isplitr; · iempintro
    isplitl [Ht2] <;> iassumption
  isplitl [Hr2 Hc2 Ho]
  · isplitr [Ho]; · isplitl [Hr2] <;> iassumption
    iexact Ho
  isplitl [Hs2]; · iexact Hs2
  isplitl [Hf]; · iexact Hf
  isplitl [HQ]; · iexact HQ
  isplitl [Hs1] <;> iassumption

theorem last_end (r : Fin 31) :
    iprop((pos (cr2 c r) 3 ∗ r2At c (bl (1 + r.val)) fullShare (G2 A 2 c)) ∗ pos (cs2 c r) 3 ∗ free1 (F := F) c r ∗ freeQ (F := F) c r ∗ pos (cs1 c r) 3 ∗ pos (cr1 c r) 3)
      ⊢ done (F := F) c r := by
  unfold done
  iintro ⟨⟨Hr2, Hg⟩, Hs2, Hf, HQ, Hs1, Hr1⟩
  isplitl [Hf]; · iexact Hf
  isplitl [Hg]; · iapply (free2_of c r _); iexact Hg
  isplitl [HQ]; · iexact HQ
  isplitl [Hs1]; · iexact Hs1
  isplitl [Hr1]; · iexact Hr1
  isplitl [Hs2] <;> iassumption

theorem last_wp (Wt : sProp (MT nD τ sig ℕ (Elt F) ℕ UU ℕ))
    (ho : ∀ k : Vec F S512x256 .bf16 → Act F, Wt ⊢ iprop((Wt -∗ Wp c Kt (k (A.wo 2 c))) -∗ Wp c Kt (load512 mWout2 k))) (k : Act F) :
    iprop(Know A ∗ bigSepL all (mid (F := F) c 2) ∗ bigSepL all (fun r => iprop(tk2 c 2 r ∗ cd2 c 2 r)) ∗ (∃ f, r2At c (bl 0) fullShare f)
        ∗ (∃ f, oAt c Finset.univ f) ∗ Wt ∗ ow c (all.map (.r2 2) ++ []))
      ⊢ iprop((bigSepL all (done (F := F) c) ∗ (∃ f, r2At c (bl 0) fullShare f) ∗ oAt c Finset.univ (Ov A c) ∗ Wt ∗ ow c [] -∗ Wp c Kt k)
        -∗ Wp c Kt (last c (S A 2 c) k)) := by
  unfold last
  iintro ⟨#HK, Hmid, Htk, ⟨%fg, HR2⟩, ⟨%fo, HOut⟩, HW, HO⟩ Hk
  iapply (put0_2 c Kt fg (G2 A 2 c) (k0_pay24 (S A 2 c)) _
    (fun a b => stack_own (k0_pay4 (S A 2 c)) (fun k => flat (k0_pay4 (S A 2 (nb c k)))) 0 rfl a b)) $$ HR2
  iintro HR2
  ihave HR2 := (Entails.of_eq (own_shares c (G2 A 2 c))) $$ HR2
  icases HR2 with ⟨HL, HR2⟩
  ihave HOut := (Entails.of_eq (o_all c fo)) $$ HOut
  icases HOut with ⟨HOwn, HOut⟩
  ihave H := (show iprop(bigSepL all (fun r => r2At c (bl 0) (lf r) (G2 A 2 c)) ∗ bigSepL all (mid (F := F) c 2) ∗ bigSepL all (fun r => iprop(tk2 c 2 r ∗ cd2 c 2 r))
        ∗ bigSepL all (fun r => oAt c (ro (nb c r).val) fo))
      ⊢ iprop(bigSepL all (in2 A c 2) ∗ bigSepL all (lIn (F := F) c) ∗ bigSepL all (fun r => pos (cs2 c r) 2)
        ∗ bigSepL all (fun r => iprop(free1 (F := F) c r ∗ freeQ (F := F) c r ∗ pos (cs1 c r) 3 ∗ pos (cr1 c r) 3))) from by
    rw [← sepL all_nodup, ← sepL all_nodup, ← sepL all_nodup, ← sepL all_nodup, ← sepL all_nodup, ← sepL all_nodup]
    exact bigSepL_mono fun r _ => BIBase.Entails.trans (by
      unfold freeO
      iintro ⟨H1, H2, H3, H4⟩
      isplitl [H1]; · iexact H1
      isplitl [H2]; · iexact H2
      isplitl [H3]; · iexact H3
      iexists fo; iexact H4) (last_send A c r)) $$ [HL Hmid Htk HOut]
  · isplitl [HL]; · iexact HL
    isplitl [Hmid]; · iexact Hmid
    isplitl [Htk] <;> iassumption
  icases H with ⟨Hin, Hg, Hs2, Hrest⟩
  iapply (sends_wp A c Kt (P := in2 A c 2) (Z := go2 c) (f := sendG c) (ev := .r2 2) (fun r rs k => sendG_step A c r Kt 2 (by decide) [] rs k) all) $$ [Hin HO]
  · isplitr; · iexact HK
    isplitl [Hin] <;> iassumption
  iintro ⟨Hgo2, HO⟩
  iapply (ho _) $$ HW
  iintro HW
  iapply (putO_step c Kt c (k0_off5_eq c) fo (Ov A c) _ _ (fun a b ho => result_own c (S A 2 c) (A.wo 2 c) (G2 A 2 c) a b ho)) $$ HOwn
  iintro HOwn
  ihave Hg := (Entails.of_eq (groups_sep (lIn (F := F) c))) $$ Hg
  icases Hg with ⟨HgA, HgB, HgC, HgD⟩
  iapply (fin_wp A c Kt 7 112 24 (ws := gA') (ks := gA) (is := [0, 1, 2, 3, 4, 5, 6]) _ (by decide) (by decide) (by decide) (by decide) _ _ _
    (slots_of (by decide) (by decide) (by decide)) (k0_pay27 (k0_pay25 (A.wo 2 c))) rfl
    (fun i a b hr ho ha => result_A c (S A 2 c) (A.wo 2 c) (G2 A 2 c) i a b hr ho ha)) $$ [HgA HO]
  · isplitr; · iexact HK
    isplitl [HgA] <;> iassumption
  iintro ⟨HgA, HO⟩
  iapply (fin_wp A c Kt 8 128 16 (ws := gB') (ks := gB) (is := [0, 1, 2, 3, 4, 5, 6, 7]) _ (by decide) (by decide) (by decide) (by decide) _ _ _
    (slots_of (by decide) (by decide) (by decide)) (k0_pay35 (k0_pay25 (A.wo 2 c))) rfl
    (fun i a b hr ho ha => result_B c (S A 2 c) (A.wo 2 c) (G2 A 2 c) i a b hr ho ha)) $$ [HgB HO]
  · isplitr; · iexact HK
    isplitl [HgB] <;> iassumption
  iintro ⟨HgB, HO⟩
  iapply (fin_wp A c Kt 8 128 8 (ws := gC') (ks := gC) (is := [0, 1, 2, 3, 4, 5, 6, 7]) _ (by decide) (by decide) (by decide) (by decide) _ _ _
    (slots_of (by decide) (by decide) (by decide)) (k0_pay35 (k0_pay25 (A.wo 2 c))) rfl
    (fun i a b hr ho ha => result_C c (S A 2 c) (A.wo 2 c) (G2 A 2 c) i a b hr ho ha)) $$ [HgC HO]
  · isplitr; · iexact HK
    isplitl [HgC] <;> iassumption
  iintro ⟨HgC, HO⟩
  iapply (fin_wp A c Kt 8 128 0 (ws := gD') (ks := gD) (is := [0, 1, 2, 3, 4, 5, 6, 7]) _ (by decide) (by decide) (by decide) (by decide) _ _ _
    (slots_of (by decide) (by decide) (by decide)) (k0_pay35 (k0_pay25 (A.wo 2 c))) rfl
    (fun i a b hr ho ha => result_D c (S A 2 c) (A.wo 2 c) (G2 A 2 c) i a b hr ho ha)) $$ [HgD HO]
  · isplitr; · iexact HK
    isplitl [HgD] <;> iassumption
  iintro ⟨HgD, HO⟩
  ihave Hg := (show iprop(bigSepL gA (lOut A c) ∗ bigSepL gB (lOut A c) ∗ bigSepL gC (lOut A c) ∗ bigSepL gD (lOut A c))
      ⊢ iprop(bigSepL all (fun r => iprop(pos (cr2 c r) 3 ∗ r2At c (bl (1 + r.val)) fullShare (G2 A 2 c))) ∗ bigSepL all (fun r => oAt c (ro (nb c r).val) (Ov A c))) from by
    rw [← groups_sep, ← sepL all_nodup]; unfold lOut; exact .rfl) $$ [HgA HgB HgC HgD]
  · isplitl [HgA]; · iexact HgA
    isplitl [HgB]; · iexact HgB
    isplitl [HgC] <;> iassumption
  icases Hg with ⟨Hr2, HOut⟩
  iapply (waits_wp A c Kt (P := fun r => iprop(pos (cs2 c r) 2 ∗ go2 c r)) (Z := fun r => iprop(pos (cs2 c r) 3 ∗ s2Pay A c 2 r))
    (f := sentG c) (es := []) (fun r k => sentG_step A c r Kt 2 (by decide) [] (by simp) k) (List.Perm.refl all) all_nodup) $$ [Hs2 Hgo2 HO]
  · isplitr; · iexact HK
    isplitr [HO]
    · rw [sepL all_nodup (fun r => pos (cs2 c r) 2) (go2 c)]
      isplitl [Hs2] <;> iassumption
    iexact HO
  rw [sepL all_nodup (fun r => pos (cs2 c r) 3) (s2Pay A c 2)]
  iintro ⟨⟨Hs2, HL⟩, HO⟩
  ihave HR2 := (show iprop(bigSepL all (s2Pay A c 2) ∗ r2At c (bl 0) (ShareLeaves.leaf 5 fullShare 31) (G2 A 2 c)) ⊢ _ from
    Entails.of_eq (own_shares c (G2 A 2 c)).symm) $$ [HL HR2]
  · isplitl [HL] <;> iassumption
  iapply Hk
  isplitl [Hr2 Hs2 Hrest]
  · iapply (show iprop(bigSepL all (fun r => iprop(pos (cr2 c r) 3 ∗ r2At c (bl (1 + r.val)) fullShare (G2 A 2 c))) ∗ bigSepL all (fun r => pos (cs2 c r) 3)
        ∗ bigSepL all (fun r => iprop(free1 (F := F) c r ∗ freeQ (F := F) c r ∗ pos (cs1 c r) 3 ∗ pos (cr1 c r) 3))) ⊢ bigSepL all (done (F := F) c) from by
      rw [← sepL all_nodup, ← sepL all_nodup]
      exact bigSepL_mono fun r _ => last_end A c r)
    isplitl [Hr2]; · iexact Hr2
    isplitl [Hs2] <;> iassumption
  isplitl [HR2]; · iexists _; iexact HR2
  isplitl [HOwn HOut]
  · iapply (Entails.of_eq (o_all c (Ov A c)).symm)
    isplitl [HOwn] <;> iassumption
  isplitl [HW] <;> iassumption

end Cert.KernelIdeal.Net

end
-- ==== Proof.Body.lean ====
/- The whole body of the kernel on one device, from what the launch deals it. -/
module

public import proofs.«01_k».proof.Proof.Last

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] (A : Ops F) (c : Dev nD)

local notation "𝕄" => MT nD τ sig ℕ (Elt F) ℕ UU ℕ

variable (Kt : PUnit → sProp (MT nD τ sig ℕ (Elt F) ℕ UU ℕ))

/-! ## The operands -/

/-- A staged operand. -/
abbrev held (b : Ref sig .tc) (X : b.ty.Contents (Elt F)) : sProp 𝕄 :=
  iprop(((c : Thread nD τ).loc b) ↦{fullShare} (X : Buf (Elt F) ((c : Thread nD τ).loc b)))

def Wt : sProp 𝕄 :=
  iprop(held c cc0_stg0_0 (A.x c) ∗ held c cc0_stg1_0 (A.wi 0 c) ∗ held c cc0_stg2_0 (A.wo 0 c) ∗ held c cc0_stg3_0 (A.wi 1 c)
    ∗ held c cc0_stg4_0 (A.wo 1 c) ∗ held c cc0_stg5_0 (A.wi 2 c) ∗ held c cc0_stg6_0 (A.wo 2 c))

theorem zero2 : (![0, 0] : Fin 2 → Nat) = fun _ => 0 := funext fun a => by fin_cases a <;> rfl

theorem load_x (k : Vec F S512x256 .bf16 → Act F) : Wt A c ⊢ iprop((Wt A c -∗ Wp c Kt (k (A.x c))) -∗ Wp c Kt (load512 mX k)) := by
  unfold Wt load512 Wp held
  iintro ⟨H0, H1, H2, H3, H4, H5, H6⟩ Hk
  iapply (wp_load 𝒱₀ (c : Thread nD τ) none Set.univ (m := mX) (S := Finset.univ) (Finset.subset_univ _)) $$ H0
  iintro H0
  rw [show mX.view.readAt (Elt F) (Rect.unit (s := S512x256) ![0, 0] S512x256.size inb_S512x256_S512x256_0_0).toLoadRect (A.x c) = A.x c from
    Memref.readAt_unit_zero (Elt F) cc0_stg0_0 zero2 _ _]
  iapply Hk
  isplitl [H0]; · iexact H0
  isplitl [H1]; · iexact H1
  isplitl [H2]; · iexact H2
  isplitl [H3]; · iexact H3
  isplitl [H4]; · iexact H4
  isplitl [H5]; · iexact H5
  iexact H6

theorem load_wi0 (k : Vec F S256x512 .bf16 → Act F) : Wt A c ⊢ iprop((Wt A c -∗ Wp c Kt (k (A.wi 0 c))) -∗ Wp c Kt (load256 mWin0 k)) := by
  unfold Wt load256 Wp held
  iintro ⟨H0, H1, H2, H3, H4, H5, H6⟩ Hk
  iapply (wp_load 𝒱₀ (c : Thread nD τ) none Set.univ (m := mWin0) (S := Finset.univ) (Finset.subset_univ _)) $$ H1
  iintro H1
  rw [show mWin0.view.readAt (Elt F) (Rect.unit (s := S256x512) ![0, 0] S256x512.size inb_S256x512_S256x512_0_0).toLoadRect (A.wi 0 c) = A.wi 0 c from
    Memref.readAt_unit_zero (Elt F) cc0_stg1_0 zero2 _ _]
  iapply Hk
  isplitl [H0]; · iexact H0
  isplitl [H1]; · iexact H1
  isplitl [H2]; · iexact H2
  isplitl [H3]; · iexact H3
  isplitl [H4]; · iexact H4
  isplitl [H5]; · iexact H5
  iexact H6

theorem load_wo0 (k : Vec F S512x256 .bf16 → Act F) : Wt A c ⊢ iprop((Wt A c -∗ Wp c Kt (k (A.wo 0 c))) -∗ Wp c Kt (load512 mWout0 k)) := by
  unfold Wt load512 Wp held
  iintro ⟨H0, H1, H2, H3, H4, H5, H6⟩ Hk
  iapply (wp_load 𝒱₀ (c : Thread nD τ) none Set.univ (m := mWout0) (S := Finset.univ) (Finset.subset_univ _)) $$ H2
  iintro H2
  rw [show mWout0.view.readAt (Elt F) (Rect.unit (s := S512x256) ![0, 0] S512x256.size inb_S512x256_S512x256_0_0).toLoadRect (A.wo 0 c) = A.wo 0 c from
    Memref.readAt_unit_zero (Elt F) cc0_stg2_0 zero2 _ _]
  iapply Hk
  isplitl [H0]; · iexact H0
  isplitl [H1]; · iexact H1
  isplitl [H2]; · iexact H2
  isplitl [H3]; · iexact H3
  isplitl [H4]; · iexact H4
  isplitl [H5]; · iexact H5
  iexact H6

theorem load_wi1 (k : Vec F S256x512 .bf16 → Act F) : Wt A c ⊢ iprop((Wt A c -∗ Wp c Kt (k (A.wi 1 c))) -∗ Wp c Kt (load256 mWin1 k)) := by
  unfold Wt load256 Wp held
  iintro ⟨H0, H1, H2, H3, H4, H5, H6⟩ Hk
  iapply (wp_load 𝒱₀ (c : Thread nD τ) none Set.univ (m := mWin1) (S := Finset.univ) (Finset.subset_univ _)) $$ H3
  iintro H3
  rw [show mWin1.view.readAt (Elt F) (Rect.unit (s := S256x512) ![0, 0] S256x512.size inb_S256x512_S256x512_0_0).toLoadRect (A.wi 1 c) = A.wi 1 c from
    Memref.readAt_unit_zero (Elt F) cc0_stg3_0 zero2 _ _]
  iapply Hk
  isplitl [H0]; · iexact H0
  isplitl [H1]; · iexact H1
  isplitl [H2]; · iexact H2
  isplitl [H3]; · iexact H3
  isplitl [H4]; · iexact H4
  isplitl [H5]; · iexact H5
  iexact H6

theorem load_wo1 (k : Vec F S512x256 .bf16 → Act F) : Wt A c ⊢ iprop((Wt A c -∗ Wp c Kt (k (A.wo 1 c))) -∗ Wp c Kt (load512 mWout1 k)) := by
  unfold Wt load512 Wp held
  iintro ⟨H0, H1, H2, H3, H4, H5, H6⟩ Hk
  iapply (wp_load 𝒱₀ (c : Thread nD τ) none Set.univ (m := mWout1) (S := Finset.univ) (Finset.subset_univ _)) $$ H4
  iintro H4
  rw [show mWout1.view.readAt (Elt F) (Rect.unit (s := S512x256) ![0, 0] S512x256.size inb_S512x256_S512x256_0_0).toLoadRect (A.wo 1 c) = A.wo 1 c from
    Memref.readAt_unit_zero (Elt F) cc0_stg4_0 zero2 _ _]
  iapply Hk
  isplitl [H0]; · iexact H0
  isplitl [H1]; · iexact H1
  isplitl [H2]; · iexact H2
  isplitl [H3]; · iexact H3
  isplitl [H4]; · iexact H4
  isplitl [H5]; · iexact H5
  iexact H6

theorem load_wi2 (k : Vec F S256x512 .bf16 → Act F) : Wt A c ⊢ iprop((Wt A c -∗ Wp c Kt (k (A.wi 2 c))) -∗ Wp c Kt (load256 mWin2 k)) := by
  unfold Wt load256 Wp held
  iintro ⟨H0, H1, H2, H3, H4, H5, H6⟩ Hk
  iapply (wp_load 𝒱₀ (c : Thread nD τ) none Set.univ (m := mWin2) (S := Finset.univ) (Finset.subset_univ _)) $$ H5
  iintro H5
  rw [show mWin2.view.readAt (Elt F) (Rect.unit (s := S256x512) ![0, 0] S256x512.size inb_S256x512_S256x512_0_0).toLoadRect (A.wi 2 c) = A.wi 2 c from
    Memref.readAt_unit_zero (Elt F) cc0_stg5_0 zero2 _ _]
  iapply Hk
  isplitl [H0]; · iexact H0
  isplitl [H1]; · iexact H1
  isplitl [H2]; · iexact H2
  isplitl [H3]; · iexact H3
  isplitl [H4]; · iexact H4
  isplitl [H5]; · iexact H5
  iexact H6

theorem load_wo2 (k : Vec F S512x256 .bf16 → Act F) : Wt A c ⊢ iprop((Wt A c -∗ Wp c Kt (k (A.wo 2 c))) -∗ Wp c Kt (load512 mWout2 k)) := by
  unfold Wt load512 Wp held
  iintro ⟨H0, H1, H2, H3, H4, H5, H6⟩ Hk
  iapply (wp_load 𝒱₀ (c : Thread nD τ) none Set.univ (m := mWout2) (S := Finset.univ) (Finset.subset_univ _)) $$ H6
  iintro H6
  rw [show mWout2.view.readAt (Elt F) (Rect.unit (s := S512x256) ![0, 0] S512x256.size inb_S512x256_S512x256_0_0).toLoadRect (A.wo 2 c) = A.wo 2 c from
    Memref.readAt_unit_zero (Elt F) cc0_stg6_0 zero2 _ _]
  iapply Hk
  isplitl [H0]; · iexact H0
  isplitl [H1]; · iexact H1
  isplitl [H2]; · iexact H2
  isplitl [H3]; · iexact H3
  isplitl [H4]; · iexact H4
  isplitl [H5]; · iexact H5
  iexact H6

/-! ## Owing, in program order -/

def es2 : List Ev := all.map (.r2 2) ++ []
def es1 : List Ev := all.map (.r2 1) ++ (gA.map (.r1 2) ++ (gB.map (.r1 2) ++ (gC.map (.r1 2) ++ (gD.map (.r1 2) ++ es2))))
def es0 : List Ev := all.map (.r2 0) ++ (gA.map (.r1 1) ++ (gB.map (.r1 1) ++ (gC.map (.r1 1) ++ (gD.map (.r1 1) ++ es1))))
def esR : List Ev := all.map (.r1 0) ++ es0
def esS : List Ev := all.map .bar ++ esR

theorem es2_hi : ∀ e ∈ es2, 6 < evL e ∧ evI e < 3 := by decide +kernel
theorem es1_hi : ∀ e ∈ es1, 4 < evL e ∧ evI e < 3 := by decide +kernel
theorem es0_hi : ∀ e ∈ es0, 2 < evL e ∧ evI e < 3 := by decide +kernel
theorem esR_hi : ∀ e ∈ esR, 1 < evL e ∧ evI e < 3 := by decide +kernel
theorem esS_hi : ∀ e ∈ esS, 0 < evL e ∧ evI e < 3 := by decide +kernel

/-! ## The start and the end -/

/-- What one peer brings at the start: its barrier token, the tokens and credits of all copies, the positions. -/
def mine (r : Fin 31) : sProp 𝕄 :=
  iprop(dutyTok ER (barC (nb c r)) 0 r.rev ∗ (tk1 (F := F) c 0 r ∗ cd1 (F := F) c 0 r) ∗ tks (F := F) c 0 r ∗ tks (F := F) c 1 r
    ∗ (tk2 (F := F) c 2 r ∗ cd2 (F := F) c 2 r) ∗ pos (cs1 c r) 0 ∗ pos (cr1 c r) 0 ∗ pos (cs2 c r) 0 ∗ pos (cr2 c r) 0)

/-- The two semaphores no copy uses. -/
def idle : sProp 𝕄 := iprop(atPos ER (kcell (c, some 31)) 0 ∅ 0 ∗ atPos ER (kcell (c, some 94)) 0 ∅ 0)

def startC : sProp 𝕄 :=
  iprop(Know A ∗ bigSepL all (mine (F := F) c) ∗ (atPos ER (barC c) 0 ∅ 0 ∗ cred (tallyAt (barC c) 0 31)) ∗ idle (F := F) c)

/-- The scratch buffers. -/
def scratch : sProp 𝕄 :=
  iprop((∃ f, pAt (F := F) c Finset.univ f) ∗ (∃ f, qAt (F := F) c Finset.univ f) ∗ (∃ f, r1At (F := F) c Finset.univ f)
    ∗ (∃ f, r2At (F := F) c Finset.univ fullShare f))

def zeros : sProp 𝕄 := iprop(semVal (barC c) 0 ∗ bigSep Finset.univ fun q : Fin 126 => semVal (kcell (c, some q)) 0)

/-- A cell past its last round closes, its counter at zero. -/
theorem close_cell {k : Option (Fin 126)} (R : ℕ) (h : ∀ l, R ≤ l → dut (kind (csem k)) l = ∅) :
    iprop(Know A ∗ atPos ER (kcell (c, k)) R ∅ 0) ⊢ |={Set.univ}=> semVal (kcell (c, k)) 0 := by
  unfold Know
  iintro ⟨⟨H, -, -⟩, Hp⟩
  ihave Hi := (show (bigSep Finset.univ fun ck : Dev nD × Option (Fin 126) => inv A (kcell ck)) ⊢ inv A (kcell (c, k)) from
    bigSep_elim (Finset.mem_univ (c, k))) $$ H
  unfold inv
  icases Hi with ⟨%κ, #Hi⟩
  iapply (Rounds.cell_close ER (Rd A) (Set.mem_univ κ) (fun h => h) (R := R) (duties_later A (kcell (c, k)) R h))
  isplitr; · iexact Hi
  iexact Hp

/-- The numbers of a device's own semaphores. -/
def i1 (r : Fin 31) : Fin 126 := ⟨r.val, by omega⟩
def i2 (r : Fin 31) : Fin 126 := ⟨32 + r.val, by omega⟩
def i3 (r : Fin 31) : Fin 126 := ⟨63 + r.val, by omega⟩
def i4 (r : Fin 31) : Fin 126 := ⟨95 + r.val, by omega⟩

theorem kcell_i1 (r : Fin 31) : kcell (c, some (i1 r)) = cs1 c r :=
  congrArg (fun q : DmaSem sig => ((c : Thread nD τ), SemLoc.dma q)) (Fin.ext (by rw [ss1_val]; rfl))
theorem kcell_i2 (r : Fin 31) : kcell (c, some (i2 r)) = cr1 c r :=
  congrArg (fun q : DmaSem sig => ((c : Thread nD τ), SemLoc.dma q)) (Fin.ext (by rw [rs1_val]; show 8 + (32 + r.val) = _; omega))
theorem kcell_i3 (r : Fin 31) : kcell (c, some (i3 r)) = cs2 c r :=
  congrArg (fun q : DmaSem sig => ((c : Thread nD τ), SemLoc.dma q)) (Fin.ext (by rw [ss2_val]; show 8 + (63 + r.val) = _; omega))
theorem kcell_i4 (r : Fin 31) : kcell (c, some (i4 r)) = cr2 c r :=
  congrArg (fun q : DmaSem sig => ((c : Thread nD τ), SemLoc.dma q)) (Fin.ext (by rw [rs2_val]; show 8 + (95 + r.val) = _; omega))

def own126 : List (Fin 126) := all.map i1 ++ (all.map i2 ++ (all.map i3 ++ (all.map i4 ++ [31, 94])))
theorem own126_nodup : own126.Nodup := by decide +kernel
theorem own126_all : (Finset.univ : Finset (Fin 126)) = own126.toFinset := by decide +kernel

/-- A device's own semaphores, peer by peer. -/
theorem own_split (Φ : GSem nD τ sig → sProp (MT nD τ sig ℕ (Elt F) ℕ UU ℕ)) :
    (bigSep Finset.univ fun q : Fin 126 => Φ (kcell (c, some q)))
      = iprop(bigSepL all (fun r => iprop(Φ (cs1 c r) ∗ Φ (cr1 c r) ∗ Φ (cs2 c r) ∗ Φ (cr2 c r))) ∗ Φ (kcell (c, some 31)) ∗ Φ (kcell (c, some 94))) := by
  rw [bigSep_univ_eq_bigSepL own126 own126_all own126_nodup]
  unfold own126
  rw [bigSepL_append, bigSepL_append, bigSepL_append, bigSepL_append, bigSepL_map, bigSepL_map, bigSepL_map, bigSepL_map]
  simp only [kcell_i1, kcell_i2, kcell_i3, kcell_i4]
  rw [sepL all_nodup, sepL all_nodup, sepL all_nodup, bigSepL_cons_cons (31 : Fin 126) 94 [], bigSepL_singleton]
  refine equiv_iff.mp ⟨(?_ : (_ : sProp 𝕄) ⊢ _), (?_ : (_ : sProp 𝕄) ⊢ _)⟩
  · iintro ⟨H1, H2, H3, H4, H5⟩
    isplitr [H5]
    · isplitl [H1]; · iexact H1
      isplitl [H2]; · iexact H2
      isplitl [H3] <;> iassumption
    iexact H5
  · iintro ⟨⟨H1, H2, H3, H4⟩, H5⟩
    isplitl [H1]; · iexact H1
    isplitl [H2]; · iexact H2
    isplitl [H3]; · iexact H3
    isplitl [H4] <;> iassumption

/-- All cells close at the end. -/
theorem close_all :
    iprop(Know A ∗ atPos ER (barC c) 1 ∅ 0 ∗ bigSepL all (fun r => iprop(pos (cs1 c r) 3 ∗ pos (cr1 c r) 3 ∗ pos (cs2 c r) 3 ∗ pos (cr2 c r) 3)) ∗ idle (F := F) c)
      ⊢ |={Set.univ}=> zeros (F := F) c := by
  have h3 : ∀ (q : Fin 126) (l : ℕ), 3 ≤ l → dut (kind (csem (some q))) l = ∅ := by
    intro q l hl
    have hn : ¬ l < 3 := by omega
    generalize hk : kind (csem (some q)) = K
    cases K with
    | bar =>
      have h : kindN (8 + q.val) = .bar := hk
      unfold kindN at h
      split at h; · cases h
      split at h; · cases h
      split at h; · cases h
      split at h; · cases h
      cases h
    | other => rfl
    | s1 r => exact if_neg hn
    | r1 r => exact if_neg hn
    | s2 r => exact if_neg hn
    | r2 r => exact if_neg hn
  have hd : ∀ (q : Fin 126) (R : ℕ), (R = 3 ∨ kind (csem (some q)) = .other) → ∀ l, R ≤ l → dut (kind (csem (some q))) l = ∅ := by
    rintro q R (rfl | h) l hl
    · exact h3 q l hl
    · rw [h]; rfl
  unfold idle zeros
  have hall : iprop(Know A ∗ bigSep Finset.univ (fun q : Fin 126 => iprop(∃ R, ⌜R = 3 ∨ kind (csem (some q)) = .other⌝ ∗ atPos ER (kcell (c, some q)) R ∅ 0)))
      ⊢ |={Set.univ}=> bigSep Finset.univ fun q : Fin 126 => (semVal (kcell (c, some q)) 0 : sProp 𝕄) :=
    ((sep_mono_left (BI.bigSep_of_persistent Finset.univ (Know A))).trans (by
      rw [← bigSep_sep']
      exact bigSep_mono fun q _ => by
        show iprop(Know A ∗ ∃ R, ⌜R = 3 ∨ kind (csem (some q)) = .other⌝ ∗ atPos ER (kcell (c, some q)) R ∅ 0) ⊢ |={Set.univ}=> semVal (kcell (c, some q)) 0
        iintro ⟨HK, ⟨%R, %hR, Hp⟩⟩
        iapply (close_cell A c (k := some q) R (hd q R hR))
        isplitl [HK] <;> iassumption)).trans (bigSep_fupd _ _)
  have hsplit := own_split (F := F) c fun g => iprop(∃ R, ⌜R = 3 ∨ kind g.2 = .other⌝ ∗ atPos ER g R ∅ 0)
  have e1 : kind (csem (some 31)) = .other := by decide
  have e2 : kind (csem (some 94)) = .other := by decide
  iintro ⟨#HK, Hb, Hp, H31, H94⟩
  imod (close_cell A c (k := none) 1 (fun l hl => by rw [show csem none = .reg barS from rfl, kind_bar]; exact if_neg (by omega))) $$ [Hb] with Hb
  · isplitr; · iexact HK
    iexact Hb
  imod hall $$ [Hp H31 H94] with H
  · isplitr; · iexact HK
    iapply (Entails.of_eq hsplit.symm)
    isplitl [Hp]
    · iapply (show bigSepL all (fun r => iprop(pos (cs1 c r) 3 ∗ pos (cr1 c r) 3 ∗ pos (cs2 c r) 3 ∗ pos (cr2 c r) 3)) ⊢ _ from
        bigSepL_mono fun r _ => by
          unfold pos
          iintro ⟨⟨H1, -⟩, ⟨H2, -⟩, ⟨H3, -⟩, ⟨H4, -⟩⟩
          isplitl [H1]; · iexists 3; isplitr; · ipureintro; exact .inl rfl
                          iexact H1
          isplitl [H2]; · iexists 3; isplitr; · ipureintro; exact .inl rfl
                          iexact H2
          isplitl [H3]; · iexists 3; isplitr; · ipureintro; exact .inl rfl
                          iexact H3
          iexists 3; isplitr; · ipureintro; exact .inl rfl
          iexact H4)
      iexact Hp
    isplitl [H31]
    · iexists 0; isplitr; · ipureintro; exact .inr e1
      iexact H31
    iexists 0; isplitr; · ipureintro; exact .inr e2
    iexact H94
  imodintro
  isplitl [Hb]; · iexact Hb
  iexact H

/-! ## Putting the scratch buffers back together -/

theorem r1_back : iprop((∃ f, r1At (F := F) c (bl 0) f) ∗ bigSepL all (free1 (F := F) c)) ⊢ iprop(∃ f, r1At (F := F) c Finset.univ f) := by
  iintro ⟨⟨%f, H⟩, Hs⟩
  ihave Hs := (show bigSepL all (free1 (F := F) c) ⊢ iprop(∃ g, r1At (F := F) c (un all) g) from by
    unfold free1 r1At; exact parts_join (ℓ := (c : Thread nD τ).loc cc0_scratch2) _ bl_disjoint f all_nodup) $$ Hs
  icases Hs with ⟨%g, Hs⟩
  iexists _
  rw [univ_slots]
  unfold r1At
  iapply (pointsTo_join (ℓ := (c : Thread nD τ).loc cc0_scratch2) (f := f) (g := g) bl0_disjoint)
  isplitl [H] <;> iassumption
theorem r2_back : iprop((∃ f, r2At (F := F) c (bl 0) fullShare f) ∗ bigSepL all (free2 (F := F) c)) ⊢ iprop(∃ f, r2At (F := F) c Finset.univ fullShare f) := by
  iintro ⟨⟨%f, H⟩, Hs⟩
  ihave Hs := (show bigSepL all (free2 (F := F) c) ⊢ iprop(∃ g, r2At (F := F) c (un all) fullShare g) from by
    unfold free2 r2At; exact parts_join (ℓ := (c : Thread nD τ).loc cc0_scratch3) _ bl_disjoint f all_nodup) $$ Hs
  icases Hs with ⟨%g, Hs⟩
  iexists _
  rw [univ_slots]
  unfold r2At
  iapply (pointsTo_join (ℓ := (c : Thread nD τ).loc cc0_scratch3) (f := f) (g := g) bl0_disjoint)
  isplitl [H] <;> iassumption
theorem q_back : iprop((∃ f, qAt (F := F) c (rb 0) f) ∗ bigSepL all (freeQ (F := F) c)) ⊢ iprop(∃ f, qAt (F := F) c Finset.univ f) := by
  iintro ⟨⟨%f, H⟩, Hs⟩
  ihave Hs := (q_join (F := F) c all_nodup f) $$ Hs
  icases Hs with ⟨%g, Hs⟩
  iexists _
  rw [univ_rowsQ]
  unfold qAt
  iapply (pointsTo_join (ℓ := (c : Thread nD τ).loc cc0_scratch1) (f := f) (g := g) rb0_disjoint)
  isplitl [H] <;> iassumption

/-! ## The body -/

/-- After the handshake each peer's slots for this device are at hand. -/
theorem know_dst (r : Fin 31) : iprop(Know A ∗ barPay (F := F) c r) ⊢ iprop(dst1 (F := F) c 0 r ∗ dst2 (F := F) c 0 r) := by
  unfold barPay dst1 dst2
  iintro ⟨#HK, H1, H2⟩
  ihave Hr1 := (know_reached A (nb c r) (ne_r1 r.rev)) $$ HK
  ihave Hr2 := (know_reached A (nb c r) (ne_r2 r.rev)) $$ HK
  isplitl [H1 Hr1]
  · isplitl [H1] <;> iassumption
  isplitl [H2] <;> iassumption

theorem body_wp :
    iprop(startC A c ∗ scratch (F := F) c ∗ Wt A c ∗ (∃ f, oAt (F := F) c Finset.univ f) ∗ ow c esS)
      ⊢ iprop((scratch (F := F) c ∗ zeros (F := F) c ∗ Wt A c ∗ oAt c Finset.univ (Ov A c) ∗ ow c [] -∗ Kt ⟨⟩) -∗ Wp c Kt (body c)) := by
  unfold body startC scratch
  iintro ⟨⟨#HK, Hm, Hb, Hidle⟩, ⟨HP, ⟨%fq, HQ⟩, ⟨%f1, H1⟩, ⟨%f2, H2⟩⟩, HW, HOut, HO⟩ Hk
  ihave HQ := (Entails.of_eq (q_all c fq)) $$ HQ
  icases HQ with ⟨HQ0, HQ⟩
  ihave H1 := (Entails.of_eq (r1_all c f1)) $$ H1
  icases H1 with ⟨H10, H1⟩
  ihave H2 := (Entails.of_eq (r2_all c f2)) $$ H2
  icases H2 with ⟨H20, H2⟩
  ihave Hm := (show bigSepL all (mine (F := F) c) ⊢ iprop(bigSepL all (fun r => dutyTok ER (barC (nb c r)) 0 r.rev) ∗ bigSepL all (fun r => iprop(tk1 (F := F) c 0 r ∗ cd1 (F := F) c 0 r))
      ∗ bigSepL all (tks (F := F) c 0) ∗ bigSepL all (tks (F := F) c 1) ∗ bigSepL all (fun r => iprop(tk2 (F := F) c 2 r ∗ cd2 (F := F) c 2 r))
      ∗ bigSepL all (fun r => iprop(pos (cs1 c r) 0 ∗ pos (cr1 c r) 0 ∗ pos (cs2 c r) 0 ∗ pos (cr2 c r) 0))) from by
    unfold mine
    rw [← sepL all_nodup, ← sepL all_nodup, ← sepL all_nodup, ← sepL all_nodup, ← sepL all_nodup]) $$ Hm
  icases Hm with ⟨Ht, Hr0, Ht0, Ht1, Ht2, Hp⟩
  iapply (enter_wp A c Kt esR esR_hi) $$ [Ht H1 H2 Hb HO]
  · isplitr; · iexact HK
    isplitl [Ht H1 H2]
    · rw [sepL all_nodup (fun r => dutyTok ER (barC (nb c r)) 0 r.rev) (fun r => iprop(free1 (F := F) c r ∗ free2 (F := F) c r)),
        sepL all_nodup (free1 (F := F) c) (free2 (F := F) c)]
      isplitl [Ht]; · iexact Ht
      isplitl [H1]
      · iapply (show (bigSepL all fun r => r1At c (bl (1 + r.val)) f1) ⊢ bigSepL all (free1 (F := F) c) from bigSepL_mono fun r _ => free1_of c r _)
        iexact H1
      iapply (show (bigSepL all fun r => r2At c (bl (1 + r.val)) fullShare f2) ⊢ bigSepL all (free2 (F := F) c) from bigSepL_mono fun r _ => free2_of c r _)
      iexact H2
    isplitl [Hb]; · iexact Hb
    iexact HO
  iintro ⟨⟨Hb, Hbp⟩, HO⟩
  ihave Hpre := (show iprop(Know A ∗ bigSepL all (barPay (F := F) c) ∗ bigSepL all (fun r => qAt c (rb (1 + r.val)) fq)
        ∗ bigSepL all (fun r => iprop(pos (cs1 c r) 0 ∗ pos (cr1 c r) 0 ∗ pos (cs2 c r) 0 ∗ pos (cr2 c r) 0)))
      ⊢ bigSepL all (pre (F := F) c) from by
    rw [← bigSep_eq_bigSepL all all_nodup, ← bigSep_eq_bigSepL all all_nodup, ← bigSep_eq_bigSepL all all_nodup, ← bigSep_eq_bigSepL all all_nodup]
    refine (sep_mono_left (BI.bigSep_of_persistent all.toFinset (Know A))).trans ?_
    rw [← bigSep_sep', ← bigSep_sep', ← bigSep_sep']
    refine bigSep_mono fun r _ => ?_
    show iprop(Know A ∗ barPay (F := F) c r ∗ qAt c (rb (1 + r.val)) fq ∗ pos (cs1 c r) 0 ∗ pos (cr1 c r) 0 ∗ pos (cs2 c r) 0 ∗ pos (cr2 c r) 0) ⊢ pre (F := F) c r
    unfold pre
    iintro ⟨#HK, Hb, Hq, Hp⟩
    ihave Hd := (know_dst A c r) $$ [Hb]
    · isplitr; · iexact HK
      iexact Hb
    icases Hd with ⟨Hd1, Hd2⟩
    isplitl [Hd1]; · iexact Hd1
    isplitl [Hd2]; · iexact Hd2
    isplitl [Hq]; · iapply (freeQ_of c r fq); iexact Hq
    iexact Hp) $$ [Hbp HQ Hp]
  · isplitr; · iexact HK
    isplitl [Hbp]; · iexact Hbp
    isplitl [HQ] <;> iassumption
  iapply (first_wp A c Kt (Wt A c) (load_x A c Kt) (load_wi0 A c Kt) es0 es0_hi) $$ [Hpre Hr0 HP H10 HW HO]
  · isplitr; · iexact HK
    isplitl [Hpre]; · iexact Hpre
    isplitl [Hr0]; · iexact Hr0
    isplitl [HP]; · iexact HP
    isplitl [H10]; · iexists f1; iexact H10
    isplitl [HW]; · iexact HW
    iexact HO
  iintro ⟨Hm, HP, H10, HW, HO⟩
  iapply (layer_wp A c Kt 0 (by decide) (Wt A c) (load_wo0 A c Kt) (load_wi1 A c Kt) es1 es1_hi) $$ [Hm Ht0 H10 H20 HW HO]
  · isplitr; · iexact HK
    isplitl [Hm]; · iexact Hm
    isplitl [Ht0]; · iexact Ht0
    isplitl [H10]; · iexact H10
    isplitl [H20]; · iexists f2; iexact H20
    isplitl [HW]; · iexact HW
    iexact HO
  iintro ⟨Hm, H10, H20, HW, HO⟩
  iapply (layer_wp A c Kt 1 (by decide) (Wt A c) (load_wo1 A c Kt) (load_wi2 A c Kt) es2 es2_hi) $$ [Hm Ht1 H10 H20 HW HO]
  · isplitr; · iexact HK
    isplitl [Hm]; · iexact Hm
    isplitl [Ht1]; · iexact Ht1
    isplitl [H10]; · iexact H10
    isplitl [H20]; · iexact H20
    isplitl [HW]; · iexact HW
    iexact HO
  iintro ⟨Hm, H10, H20, HW, HO⟩
  iapply (last_wp A c Kt (Wt A c) (load_wo2 A c Kt)) $$ [Hm Ht2 H20 HOut HW HO]
  · isplitr; · iexact HK
    isplitl [Hm]; · iexact Hm
    isplitl [Ht2]; · iexact Ht2
    isplitl [H20]; · iexact H20
    isplitl [HOut]; · iexact HOut
    isplitl [HW]; · iexact HW
    iexact HO
  iintro ⟨Hd, H20, HOut, HW, HO⟩
  ihave Hd := (show bigSepL all (done (F := F) c) ⊢ iprop(bigSepL all (free1 (F := F) c) ∗ bigSepL all (free2 (F := F) c) ∗ bigSepL all (freeQ (F := F) c)
      ∗ bigSepL all (fun r => iprop(pos (cs1 c r) 3 ∗ pos (cr1 c r) 3 ∗ pos (cs2 c r) 3 ∗ pos (cr2 c r) 3))) from by
    unfold done
    rw [← sepL all_nodup, ← sepL all_nodup, ← sepL all_nodup]) $$ Hd
  icases Hd with ⟨Hf1, Hf2, HfQ, Hp⟩
  unfold Wp
  rw [wp_ret]
  imod (close_all A c) $$ [Hb Hp Hidle] with Hz
  · isplitr; · iexact HK
    isplitl [Hb]; · iexact Hb
    isplitl [Hp]; · iexact Hp
    iexact Hidle
  imodintro
  iapply Hk
  isplitl [HP HQ0 HfQ H10 Hf1 H20 Hf2]
  · isplitl [HP]; · iexists _; iexact HP
    isplitl [HQ0 HfQ]
    · iapply (q_back (F := F) c)
      isplitl [HQ0]; · iexists fq; iexact HQ0
      iexact HfQ
    isplitl [H10 Hf1]
    · iapply (r1_back (F := F) c)
      isplitl [H10] <;> iassumption
    iapply (r2_back (F := F) c)
    isplitl [H20] <;> iassumption
  isplitl [Hz]; · iexact Hz
  isplitl [HW]; · iexact HW
  isplitl [HOut] <;> iassumption

end Cert.KernelIdeal.Net

end
-- ==== Proof.Ghost.lean ====
/- What the launch deals the devices: tokens, positions and credits, each brought to the device that uses it. -/
module

public import proofs.«01_k».proof.Proof.Body

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

local notation "𝕄" => MT nD τ sig ℕ (Elt F) ℕ UU ℕ

/-! ## Tokens -/

/-- A family of copies' cells by its number. -/
def fam (j : Fin 4) (c : Dev nD) (r : Fin 31) : GSem nD τ sig :=
  match j with | 0 => cs1 c r | 1 => cr1 c r | 2 => cs2 c r | 3 => cr2 c r

/-- The tokens of a device's own cells that belong to its peer numbered `r`: its barrier signal, and each copy in each round. -/
def tokOf (x : (Dev nD × Fin 31) × Option (Fin 4 × Fin 3)) : GSem nD τ sig × ℕ × Fin 31 :=
  match x.2 with
  | none => (barC x.1.1, 0, x.1.2)
  | some jl => (fam jl.1 x.1.1 x.1.2, jl.2.val, 0)

/-- Reading a token's index back. -/
def unTok (y : GSem nD τ sig × ℕ × Fin 31) : (Dev nD × Fin 31) × Option (Fin 4 × Fin 3) :=
  match kind y.1.2 with
  | .bar => ((y.1.1.1, y.2.2), none)
  | .s1 r => ((y.1.1.1, r), some (0, Fin.ofNat 3 y.2.1))
  | .r1 r => ((y.1.1.1, r), some (1, Fin.ofNat 3 y.2.1))
  | .s2 r => ((y.1.1.1, r), some (2, Fin.ofNat 3 y.2.1))
  | .r2 r => ((y.1.1.1, r), some (3, Fin.ofNat 3 y.2.1))
  | .other => ((y.1.1.1, 0), none)

theorem ofNat3 (l : Fin 3) : Fin.ofNat 3 l.val = l := Fin.ext (Nat.mod_eq_of_lt l.isLt)

theorem unTok_tokOf (x : (Dev nD × Fin 31) × Option (Fin 4 × Fin 3)) : unTok (tokOf x) = x := by
  obtain ⟨⟨c, r⟩, _ | ⟨j, l⟩⟩ := x
  · unfold unTok tokOf
    rw [show kind (barC c).2 = .bar from kind_bar]
  · unfold unTok tokOf fam
    match j with
    | 0 => rw [show kind (cs1 c r).2 = .s1 r from kind_ss1 r]; simp only [ofNat3]
    | 1 => rw [show kind (cr1 c r).2 = .r1 r from kind_rs1 r]; simp only [ofNat3]
    | 2 => rw [show kind (cs2 c r).2 = .s2 r from kind_ss2 r]; simp only [ofNat3]
    | 3 => rw [show kind (cr2 c r).2 = .r2 r from kind_rs2 r]; simp only [ofNat3]

theorem tokOf_injective : Function.Injective tokOf := Function.LeftInverse.injective unTok_tokOf

theorem csem_injective : Function.Injective csem := fun k k' h => by
  cases k with
  | none => cases k' with
    | none => rfl
    | some q => cases h
  | some q => cases k' with
    | none => cases h
    | some q' =>
      have := congrArg (fun s : SemLoc sig => match s with | .dma q => q.val | _ => 0) h
      exact congrArg some (Fin.ext (by simp only [csem] at this; omega))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def netCells : Finset (GSem nD τ sig) := Finset.univ.map ⟨kcell, kcell_injective⟩
def netToks : Finset (GSem nD τ sig × ℕ × Fin 31) := Finset.univ.map ⟨tokOf, tokOf_injective⟩

/-- The tokens of device `c`'s own cells that belong to its peer numbered `r`, one by one. -/
def toksAt (p : Dev nD × Fin 31) : sProp 𝕄 :=
  bigSep Finset.univ fun k : Option (Fin 4 × Fin 3) => dutyTok ER (tokOf (p, k)).1 (tokOf (p, k)).2.1 (tokOf (p, k)).2.2

/-- The tokens that a device pays with at its peer numbered `r`. -/
def payToks (c : Dev nD) (r : Fin 31) : sProp 𝕄 :=
  iprop(dutyTok ER (barC (nb c r)) 0 r.rev ∗ tk1 (F := F) c 0 r ∗ tk1 (F := F) c 1 r ∗ tk1 (F := F) c 2 r
    ∗ tk2 (F := F) c 0 r ∗ tk2 (F := F) c 1 r ∗ tk2 (F := F) c 2 r)

/-- Seen from the other end: the device and the peer exchanged. -/
def swp : Dev nD × Fin 31 ≃ Dev nD × Fin 31 where
  toFun p := (nb p.1 p.2, p.2.rev)
  invFun p := (nb p.1 p.2, p.2.rev)
  left_inv p := by simp only [nb_nb, Fin.rev_rev]
  right_inv p := by simp only [nb_nb, Fin.rev_rev]

def tokList : List (Option (Fin 4 × Fin 3)) :=
  [none, some (0, 0), some (0, 1), some (0, 2), some (1, 0), some (1, 1), some (1, 2), some (2, 0), some (2, 1), some (2, 2),
    some (3, 0), some (3, 1), some (3, 2)]

theorem toksAt_eq (p : Dev nD × Fin 31) : toksAt (F := F) p =
    iprop(dutyTok ER (barC p.1) 0 p.2 ∗ dutyTok ER (cs1 p.1 p.2) 0 0 ∗ dutyTok ER (cs1 p.1 p.2) 1 0 ∗ dutyTok ER (cs1 p.1 p.2) 2 0
      ∗ dutyTok ER (cr1 p.1 p.2) 0 0 ∗ dutyTok ER (cr1 p.1 p.2) 1 0 ∗ dutyTok ER (cr1 p.1 p.2) 2 0
      ∗ dutyTok ER (cs2 p.1 p.2) 0 0 ∗ dutyTok ER (cs2 p.1 p.2) 1 0 ∗ dutyTok ER (cs2 p.1 p.2) 2 0
      ∗ dutyTok ER (cr2 p.1 p.2) 0 0 ∗ dutyTok ER (cr2 p.1 p.2) 1 0 ∗ dutyTok ER (cr2 p.1 p.2) 2 0) := by
  unfold toksAt
  rw [bigSep_univ_eq_bigSepL tokList (by decide) (by decide)]
  rfl

/-- Every token to the device that pays with it. -/
theorem toks_around : (bigSep Finset.univ fun p : Dev nD × Fin 31 => toksAt (F := F) p)
    ⊢ bigSep Finset.univ fun p : Dev nD × Fin 31 => payToks (F := F) p.1 p.2 := by
  simp only [toksAt_eq, payToks, tk1, tk2]
  simp only [bigSep_sep']
  rw [bigSep_univ_equiv swp (fun p : Dev nD × Fin 31 => (dutyTok ER (barC p.1) 0 p.2 : sProp 𝕄)),
    bigSep_univ_equiv swp (fun p : Dev nD × Fin 31 => (dutyTok ER (cr1 p.1 p.2) 0 0 : sProp 𝕄)),
    bigSep_univ_equiv swp (fun p : Dev nD × Fin 31 => (dutyTok ER (cr1 p.1 p.2) 1 0 : sProp 𝕄)),
    bigSep_univ_equiv swp (fun p : Dev nD × Fin 31 => (dutyTok ER (cr1 p.1 p.2) 2 0 : sProp 𝕄)),
    bigSep_univ_equiv swp (fun p : Dev nD × Fin 31 => (dutyTok ER (cr2 p.1 p.2) 0 0 : sProp 𝕄)),
    bigSep_univ_equiv swp (fun p : Dev nD × Fin 31 => (dutyTok ER (cr2 p.1 p.2) 1 0 : sProp 𝕄)),
    bigSep_univ_equiv swp (fun p : Dev nD × Fin 31 => (dutyTok ER (cr2 p.1 p.2) 2 0 : sProp 𝕄))]
  iintro ⟨B, A0, A1, A2, B0, B1, B2, C0, C1, C2, D0, D1, D2⟩
  isplitl [B]; · iexact B
  isplitl [A0 B0]
  · isplitl [A0]; · iexact A0
    iexact B0
  isplitl [A1 B1]
  · isplitl [A1]; · iexact A1
    iexact B1
  isplitl [A2 B2]
  · isplitl [A2]; · iexact A2
    iexact B2
  isplitl [C0 D0]
  · isplitl [C0]; · iexact C0
    iexact D0
  isplitl [C1 D1]
  · isplitl [C1]; · iexact C1
    iexact D1
  isplitl [C2]; · iexact C2
  iexact D2

/-! ## Credits -/

/-- Which cell of the peer an event raises, and whose peer number it has. -/
def evK : Ev → Kd
  | .bar _ => .bar
  | .r1 _ r => .r1 r.rev
  | .r2 _ r => .r2 r.rev
def evR : Ev → Fin 31
  | .bar r => r
  | .r1 _ r => r
  | .r2 _ r => r

theorem evC_dev (d : Dev nD) (e : Ev) : (evC d e).1.1 = nb d (evR e) := by cases e <;> rfl
theorem evC_kind (d : Dev nD) (e : Ev) : kind (evC d e).2 = evK e := by
  cases e with
  | bar r => exact kind_bar
  | r1 l r => exact kind_rs1 _
  | r2 l r => exact kind_rs2 _

theorem nb_iff (d c : Dev nD) (r : Fin 31) : nb d r = c ↔ d = nb c r.rev :=
  ⟨fun h => by rw [← h, nb_nb], fun h => by rw [h, nb_rev]⟩

/-- The cells that are raised by others. -/
inductive Raised (c : Dev nD) : GSem nD τ sig → Kd → Prop
  | bar : Raised c (barC c) .bar
  | r1 (r : Fin 31) : Raised c (cr1 c r) (.r1 r)
  | r2 (r : Fin 31) : Raised c (cr2 c r) (.r2 r)

theorem raised_kind {c : Dev nD} {g : GSem nD τ sig} {K : Kd} (h : Raised c g K) : kind g.2 = K := by
  cases h with
  | bar => exact kind_bar
  | r1 r => exact kind_rs1 r
  | r2 r => exact kind_rs2 r
theorem raised_dev {c : Dev nD} {g : GSem nD τ sig} {K : Kd} (h : Raised c g K) : g.1.1 = c := by cases h <;> rfl

theorem raised_iff {c : Dev nD} {g : GSem nD τ sig} {K : Kd} (h : Raised c g K) (d : Dev nD) (e : Ev) :
    g = evC d e ↔ evK e = K ∧ d = nb c (evR e).rev := by
  rw [← nb_iff]
  constructor
  · intro hg
    exact ⟨by rw [← raised_kind h, hg, evC_kind], by rw [← raised_dev h, hg, evC_dev]⟩
  · rintro ⟨hk, hd⟩
    cases e with
    | bar r => cases h <;> cases hk; rw [← hd]; rfl
    | r1 l r => cases h <;> cases hk; rw [← hd]; rfl
    | r2 l r => cases h <;> cases hk; rw [← hd]; rfl

theorem tal_apply (c : Dev nD) (es : List Ev) (g : GSem nD τ sig) (u : ℕ) :
    tal c es g u = (es.map fun e => if g = evC c e ∧ u = evI e then evN e else 0).sum := by
  induction es with
  | nil => rfl
  | cons e es ih =>
    unfold tal at ih ⊢
    rw [List.foldr_cons, Pi.add_apply, Finsupp.add_apply, tallyAt_apply, ih, List.map_cons, List.sum_cons, Nat.add_comm]

theorem sum_list (es : List Ev) (f : Dev nD → Ev → ℕ) : (∑ d : Dev nD, (es.map (f d)).sum) = (es.map fun e => ∑ d : Dev nD, f d e).sum := by
  induction es with
  | nil => simp
  | cons e es ih => simp only [List.map_cons, List.sum_cons, Finset.sum_add_distrib, ih]

theorem sum_count (es : List Ev) (p : Ev → Bool) (n : ℕ) (h : ∀ e, p e = true → evN e = n) :
    (es.map fun e => if p e = true then evN e else 0).sum = es.countP p * n := by
  induction es with
  | nil => simp
  | cons e es ih =>
    rw [List.map_cons, List.sum_cons, ih]
    by_cases hp : p e = true
    · rw [if_pos hp, h e hp, List.countP_cons_of_pos hp, Nat.add_mul, Nat.one_mul, Nat.add_comm]
    · rw [if_neg hp, List.countP_cons_of_neg hp, Nat.zero_add]

/-- The events that raise a cell of kind `K` with index `u`. -/
def hit (K : Kd) (u : ℕ) (e : Ev) : Bool := decide (evK e = K) && decide (u = evI e)

theorem owed_all {c : Dev nD} {g : GSem nD τ sig} {K : Kd} (h : Raised c g K) (u n : ℕ) (hn : ∀ e, evK e = K → evN e = n) :
    (∑ d : Dev nD, tal d esS g u) = esS.countP (hit K u) * n := by
  simp only [tal_apply]
  rw [sum_list, ← sum_count esS (hit K u) n (fun e he => hn e (by unfold hit at he; simp at he; exact he.1))]
  refine congrArg List.sum (List.map_congr_left fun e _ => ?_)
  by_cases hk : evK e = K ∧ u = evI e
  · rw [if_pos (by unfold hit; simp [hk]), Finset.sum_eq_single (nb c (evR e).rev) (fun d _ hd => if_neg fun h' => hd ((raised_iff h d e).mp h'.1).2)
      (fun h' => absurd (Finset.mem_univ _) h'), if_pos ⟨(raised_iff h _ e).mpr ⟨hk.1, rfl⟩, hk.2⟩]
  · rw [if_neg (by unfold hit; simpa using hk)]
    exact Finset.sum_eq_zero fun d _ => if_neg fun h' => hk ⟨((raised_iff h d e).mp h'.1).1, h'.2⟩

theorem count_bar0 : esS.countP (hit .bar 0) = 31 := by decide +kernel
theorem count_bar : ∀ u : ℕ, u ≠ 0 → esS.countP (hit .bar u) = 0 := fun u hu =>
  List.countP_eq_zero.mpr fun e _ he => by
    unfold hit at he; simp at he
    cases e with
    | bar r => exact hu he.2
    | r1 l r => cases he.1
    | r2 l r => cases he.1
theorem count_r1 : ∀ (r : Fin 31) (u : Fin 3), esS.countP (hit (.r1 r) u.val) = 1 := by decide +kernel
theorem count_r2 : ∀ (r : Fin 31) (u : Fin 3), esS.countP (hit (.r2 r) u.val) = 1 := by decide +kernel
theorem count_hi (K : Kd) (u : ℕ) (hu : 3 ≤ u) : esS.countP (hit K u) = 0 :=
  List.countP_eq_zero.mpr fun e h he => by
    unfold hit at he; simp at he
    have := (esS_hi e h).2
    omega

theorem launch_bar (c : Dev nD) :
    tallyOn (barC c) (launchCredit (Pipeline.owing fun d => tal d esS) 0 (barC c)) = (tallyAt (barC c) 0 31 : CellTallies nD τ sig ℕ) := by
  unfold tallyAt
  refine congrArg _ (Finsupp.ext fun u => ?_)
  rw [Pipeline.launchCredit_owing, owed_all (Raised.bar (c := c)) u 1 (fun e h => by cases e with | bar r => rfl | r1 l r => cases h | r2 l r => cases h)]
  by_cases hu : u = 0
  · subst hu; rw [count_bar0, Finsupp.single_eq_same]
  · rw [count_bar u hu, Finsupp.single_apply, if_neg (fun h => hu h.symm), Nat.zero_mul]

/-- One copy's credit in each of the three rounds. -/
theorem launch_three {c : Dev nD} {g : GSem nD τ sig} {K : Kd} (h : Raised c g K) (hn : ∀ e, evK e = K → evN e = N)
    (hc : ∀ u : Fin 3, esS.countP (hit K u.val) = 1) :
    tallyOn g (launchCredit (Pipeline.owing fun d => tal d esS) 0 g) = (tallyAt g 0 N + (tallyAt g 1 N + tallyAt g 2 N) : CellTallies nD τ sig ℕ) := by
  unfold tallyAt
  rw [← tallyOn_add, ← tallyOn_add]
  refine congrArg _ (Finsupp.ext fun u => ?_)
  rw [Pipeline.launchCredit_owing, owed_all h u N hn, Finsupp.add_apply, Finsupp.add_apply, Finsupp.single_apply, Finsupp.single_apply, Finsupp.single_apply]
  by_cases hu : u < 3
  · have h1 := hc ⟨u, hu⟩
    rw [show esS.countP (hit K u) = 1 from h1]
    have : u = 0 ∨ u = 1 ∨ u = 2 := by omega
    rcases this with rfl | rfl | rfl <;> simp
  · rw [count_hi K u (by omega), if_neg (by omega), if_neg (by omega), if_neg (by omega)]; simp

/-- The semaphores that others raise. -/
def raisedSems : List (SemLoc sig) := .reg barS :: (all.map (fun r => .dma (rs1 r)) ++ all.map (fun r => .dma (rs2 r)))
theorem raisedSems_nodup : raisedSems.Nodup := by decide +kernel

/-- The three credits of one peer in one phase. -/
theorem split_three {g : GSem nD τ sig} : (cred (tallyAt g 0 N + (tallyAt g 1 N + tallyAt g 2 N)) : sProp 𝕄)
    ⊢ iprop(cred (tallyAt g 0 N) ∗ cred (tallyAt g 1 N) ∗ cred (tallyAt g 2 N)) :=
  (cred_add _ _).1.trans (sep_mono_right (cred_add _ _).1)

theorem creds (c : Dev nD) :
    (Pipeline.launchCred (fun d => tal d esS) c : sProp 𝕄)
      ⊢ iprop(cred (tallyAt (barC c) 0 31) ∗ bigSepL all (fun r => iprop(cd1 (F := F) c 0 r ∗ cd1 (F := F) c 1 r ∗ cd1 (F := F) c 2 r))
          ∗ bigSepL all (fun r => iprop(cd2 (F := F) c 0 r ∗ cd2 (F := F) c 1 r ∗ cd2 (F := F) c 2 r))) := by
  unfold Pipeline.launchCred
  refine (bigSep_subset (Finset.subset_univ raisedSems.toFinset)).trans ?_
  rw [bigSep_eq_bigSepL _ raisedSems_nodup]
  unfold raisedSems
  rw [bigSepL_cons', bigSepL_append, bigSepL_map, bigSepL_map, launch_bar]
  refine sep_mono_right (sep_mono (bigSepL_mono fun r _ => ?_) (bigSepL_mono fun r _ => ?_))
  · refine (Entails.of_eq (congrArg _ (launch_three (Raised.r1 (c := c) r) (fun e h => by cases e with | bar r => cases h | r1 l r => rfl | r2 l r => cases h) (count_r1 r)))).trans split_three
  · refine (Entails.of_eq (congrArg _ (launch_three (Raised.r2 (c := c) r) (fun e h => by cases e with | bar r => cases h | r1 l r => cases h | r2 l r => rfl) (count_r2 r)))).trans split_three

end Cert.KernelIdeal.Net

end
-- ==== Proof.Launch.lean ====
/- The kernel's run, for any float values: from any memory with all counters at zero it ends, with the
   result array at the computed contents, the arguments unchanged and all counters at zero again. -/
module

public import proofs.«01_k».proof.Proof.Ghost
public import Idealize.ShloMosaic.Lib.Pipeline.CollectiveSegs

@[expose] public section

noncomputable section

namespace Cert.KernelIdeal.Net

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds Idealize.ShloMosaic.ValueIdx

variable {F : FTy → Type} [FloatOps F] (m : (ℓ : Loc nD τ sig) → Buf (Elt F) ℓ) (ρ : Dev nD → PrngReg)

local notation "𝕄" => MT nD τ sig ℕ (Elt F) ℕ UU ℕ

abbrev EP : Emb (UR sig nD τ) (MT nD τ sig ℕ (Elt F) ℕ UU ℕ) := embL
abbrev s₀ : MemSt nD τ sig (Elt F) := ⟨m, fun _ => 0, ρ⟩

/-! ## The pipeline's data -/

/-- The operands, as fetched from the argument arrays. -/
def ops : Ops F where
  x c := (win0_0.blk t0_0).view.read (Elt F) (m ((c : Thread nD τ).loc main_arg0))
  wi l c := match l with
    | 0 => (win0_1.blk t0_0).view.read (Elt F) (m ((c : Thread nD τ).loc main_arg1))
    | 1 => (win0_3.blk t0_0).view.read (Elt F) (m ((c : Thread nD τ).loc main_arg2))
    | _ => (win0_5.blk t0_0).view.read (Elt F) (m ((c : Thread nD τ).loc main_arg3))
  wo l c := match l with
    | 0 => (win0_2.blk t0_0).view.read (Elt F) (m ((c : Thread nD τ).loc main_arg4))
    | 1 => (win0_4.blk t0_0).view.read (Elt F) (m ((c : Thread nD τ).loc main_arg5))
    | _ => (win0_6.blk t0_0).view.read (Elt F) (m ((c : Thread nD τ).loc main_arg6))

/-- Before and after the body: its ghost state and scratch buffers; the scratch buffers and all counters at zero. -/
def Φ₀ (c : Dev nD) : sProp 𝕄 := iprop(startC (ops m) c ∗ scratch (F := F) c)
def Φ₁ (c : Dev nD) : sProp 𝕄 := iprop(scratch (F := F) c ∗ zeros (F := F) c)

def dats (_ : Fin 1) (c : Dev nD) : Dat τ (Elt F) ℕ ℕ UU ℕ cfg0 c where
  A w := m ((cfg0.win w).arr.view.loc (c : Thread nD τ))
  after w _ := match w with
    | ⟨0, _⟩ => (ops m).x c
    | ⟨1, _⟩ => (ops m).wi 0 c
    | ⟨2, _⟩ => (ops m).wo 0 c
    | ⟨3, _⟩ => (ops m).wi 1 c
    | ⟨4, _⟩ => (ops m).wo 1 c
    | ⟨5, _⟩ => (ops m).wi 2 c
    | ⟨6, _⟩ => (ops m).wo 2 c
    | ⟨7, _⟩ => Ov (ops m) c
  Φ t := match t with
    | ⟨0, _⟩ => Φ₀ m c
    | ⟨_ + 1, _⟩ => Φ₁ (F := F) c
  q _ := fullShare
  owed t := match t with
    | ⟨0, _⟩ => tal c esS
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t0_0.castSucc
    ∗ (∃ d, stg c cc0_stg0_0 ((dats m 0 c).before (0 : Fin 8) t0_0 d)) ∗ (∃ d, stg c cc0_stg1_0 ((dats m 0 c).before (1 : Fin 8) t0_0 d))
    ∗ (∃ d, stg c cc0_stg2_0 ((dats m 0 c).before (2 : Fin 8) t0_0 d)) ∗ (∃ d, stg c cc0_stg3_0 ((dats m 0 c).before (3 : Fin 8) t0_0 d))
    ∗ (∃ d, stg c cc0_stg4_0 ((dats m 0 c).before (4 : Fin 8) t0_0 d)) ∗ (∃ d, stg c cc0_stg5_0 ((dats m 0 c).before (5 : Fin 8) t0_0 d))
    ∗ (∃ d, stg c cc0_stg6_0 ((dats m 0 c).before (6 : Fin 8) t0_0 d)) ∗ (∃ d, stg c cc0_stg7_0 ((dats m 0 c).before (7 : Fin 8) t0_0 d)))

def bodyPost (c : Dev nD) : sProp 𝕄 :=
  iprop(Φ₁ (F := F) c ∗ (dats m 0 c).owesAt 0 t0_0.succ
    ∗ stg c cc0_stg0_0 ((ops m).x c) ∗ stg c cc0_stg1_0 ((ops m).wi 0 c) ∗ stg c cc0_stg2_0 ((ops m).wo 0 c) ∗ stg c cc0_stg3_0 ((ops m).wi 1 c)
    ∗ stg c cc0_stg4_0 ((ops m).wo 1 c) ∗ stg c cc0_stg5_0 ((ops m).wi 2 c) ∗ stg c cc0_stg6_0 ((ops m).wo 2 c) ∗ stg c cc0_stg7_0 (Ov (ops m) c))

theorem sound_body (c : Dev nD) : bodyPre m c ⊢ Wp c (fun _ => bodyPost m c) (bodyAt0 (F := F) t0_0) := by
  rw [body_eq]
  unfold bodyPre Φ₀ Dat.owesAt Pipeline.owesWithin Wp
  rw [wp_deviceId, show (dats m 0 c).owed t0_0.castSucc = tal c esS from rfl]
  iintro ⟨⟨Hs, Hscr⟩, ⟨%W, %hW, HO⟩, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩, ⟨%d6, %g6, %h6, H6⟩, ⟨%d7, %g7, %h7, H7⟩⟩
  have e0 : g0 = (ops m).x c := by rw [h0]; unfold Dat.before; rw [if_pos (fetch0_0 t0_0)]; rfl
  have e1 : g1 = (ops m).wi 0 c := by rw [h1]; unfold Dat.before; rw [if_pos (fetch0_1 t0_0)]; rfl
  have e2 : g2 = (ops m).wo 0 c := by rw [h2]; unfold Dat.before; rw [if_pos (fetch0_2 t0_0)]; rfl
  have e3 : g3 = (ops m).wi 1 c := by rw [h3]; unfold Dat.before; rw [if_pos (fetch0_3 t0_0)]; rfl
  have e4 : g4 = (ops m).wo 1 c := by rw [h4]; unfold Dat.before; rw [if_pos (fetch0_4 t0_0)]; rfl
  have e5 : g5 = (ops m).wi 2 c := by rw [h5]; unfold Dat.before; rw [if_pos (fetch0_5 t0_0)]; rfl
  have e6 : g6 = (ops m).wo 2 c := by rw [h6]; unfold Dat.before; rw [if_pos (fetch0_6 t0_0)]; rfl
  subst e0 e1 e2 e3 e4 e5 e6
  iapply (body_wp (ops m) c (fun _ => bodyPost m c)) $$ [Hs Hscr HO H0 H1 H2 H3 H4 H5 H6 H7]
  · isplitl [Hs]; · iexact Hs
    isplitl [Hscr]; · iexact Hscr
    isplitl [H0 H1 H2 H3 H4 H5 H6]
    · unfold Wt held
      isplitl [H0]; · iexact H0
      isplitl [H1]; · iexact H1
      isplitl [H2]; · iexact H2
      isplitl [H3]; · iexact H3
      isplitl [H4]; · iexact H4
      isplitl [H5]; · iexact H5
      iexact H6
    isplitl [H7]
    · iexists g7; unfold oAt; iexact H7
    unfold ow
    iexists W; iexact HO
  unfold bodyPost Φ₁ Wt held oAt ow Dat.owesAt Pipeline.owesWithin
  rw [show (dats m 0 c).owed t0_0.succ = 0 from rfl]
  iintro ⟨Hscr, Hz, ⟨H0, H1, H2, H3, H4, H5, H6⟩, H7, ⟨%W', HO⟩⟩
  isplitl [Hscr Hz]
  · isplitl [Hscr] <;> iassumption
  isplitl [HO]
  · iexists W'; isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  iexists _; isplitr; · (ipureintro; rfl)
  iexact H7

set_option maxRecDepth 65536 in
theorem body_obligation (c : Dev nD) : BodyObligation (dats (F := F) m 0 c) (defs₀ (F := F)) 𝒱₀ 0 Set.univ := fun t => by
  rw [fin_N0 t]
  rw [bigSep_W0, bigSep_W0]
  simp only [owns_whole_eq]
  exact sound_body m c

/-! ## The launch -/

abbrev osem (q : Fin 126) : SemLoc sig := csem (some q)

theorem ownSemFacts : Pipeline.OwnSemFacts cfg0.spec osem := by decide +kernel

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf netCells netToks)

abbrev Sem := Option (Fin 126)

/-- What the launch deals a device: its cells' states and positions, and their tokens. -/
def G (c : Dev nD) : sProp 𝕄 :=
  iprop((bigSep Finset.univ fun k : Sem => roundState ER (Rd (ops m)) (kcell (c, k)) 0)
    ∗ (bigSep Finset.univ fun k : Sem => iprop(atPos ER (kcell (c, k)) 0 ∅ 0 ∗ reached ER (kcell (c, k)) 0))
    ∗ bigSep Finset.univ fun r : Fin 31 => toksAt (F := F) (c, r))

theorem fund_net : BI.own (ER (initOf netCells netToks)) ⊢ (|==> bigSep Finset.univ (G m) : sProp 𝕄) := by
  have hX (Φ : GSem nD τ sig → sProp 𝕄) : bigSep netCells Φ = bigSep Finset.univ fun c : Dev nD => bigSep Finset.univ fun k : Sem => Φ (kcell (c, k)) := by
    unfold netCells; rw [bigSep_map, bigSep_univ_prod]; rfl
  have hT : bigSep netToks (fun x => (dutyTok ER x.1 x.2.1 x.2.2 : sProp 𝕄))
      = bigSep Finset.univ fun c : Dev nD => bigSep Finset.univ fun r : Fin 31 => toksAt (F := F) (c, r) := by
    unfold netToks
    rw [bigSep_map, bigSep_univ_prod, bigSep_univ_prod]
    rfl
  iintro HX
  imod (Rounds.fund ER (Rd (ops m)) netCells netToks) $$ HX with ⟨Hst, Hr, Hat, Htok⟩
  imodintro
  ihave Hst' := (Entails.of_eq (hX fun g => roundState ER (Rd (ops m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_option (Φ : Sem → sProp (MT nD τ sig ℕ (Elt F) ℕ UU ℕ)) :
    bigSep Finset.univ Φ = iprop(Φ none ∗ bigSep Finset.univ fun q : Fin 126 => Φ (some q)) := by
  rw [show (Finset.univ : Finset Sem) = insert none (Finset.univ.map Function.Embedding.some) by
      ext k; cases k <;> simp,
    bigSep_insert (by simp), bigSep_map]
  rfl

theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem sems0_eq (c : Dev nD) :
    (zeros (F := F) c : sProp 𝕄) = iprop(unscopedSems0 c ∗ Pipeline.ownSems0 (Ix := ℕ) (Name := ℕ) (U := UU) (Lvl := ℕ) (Val := Elt F) (τ := τ) osem c) := by
  rw [unscopedSems0_eq]; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Sem => inv (ops m) (kcell (c, k)))
          ∗ (bigSep Finset.univ fun k : Sem => iprop(atPos ER (kcell (c, k)) 0 ∅ 0 ∗ reached ER (kcell (c, k)) 0))
          ∗ bigSep Finset.univ fun r : Fin 31 => toksAt (F := F) (c, r)) := by
  unfold G
  iintro ⟨Hos, Hus, Hst, Hat, Htok⟩
  ihave Hv := (show iprop(unscopedSems0 c ∗ Pipeline.ownSems0 (Ix := ℕ) (Name := ℕ) (U := UU) (Lvl := ℕ) (Val := Elt F) (τ := τ) osem c)
      ⊢ (bigSep Finset.univ fun k : Sem => semVal (kcell (c, k)) 0 : sProp 𝕄) from
    Entails.of_eq (by rw [← sems0_eq, bigSep_option]; rfl)) $$ [Hos Hus]
  · isplitl [Hus] <;> iassumption
  imod (show iprop((bigSep Finset.univ fun k : Sem => semVal (kcell (c, k)) 0) ∗ bigSep Finset.univ fun k : Sem => roundState ER (Rd (ops m)) (kcell (c, k)) 0)
      ⊢ (|={Set.univ}=> bigSep Finset.univ fun k : Sem => inv (ops m) (kcell (c, k)) : sProp 𝕄) from by
        rw [← bigSep_sep']
        unfold inv
        exact (bigSep_mono fun k _ => (Rounds.body_intro ER (Rd (ops m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all devices know before the levels are set. -/
def records : sProp 𝕄 :=
  iprop((bigSep Finset.univ fun ck : Dev nD × Sem => inv (ops m) (kcell ck)) ∗ bigSep Finset.univ fun ck : Dev nD × Sem => reached ER (kcell ck) 0)
instance records_persistent : BI.Persistent (records m) := by unfold records; infer_instance

/-- What the global step makes of a device's part. -/
def G' (c : Dev nD) : sProp 𝕄 :=
  iprop(records m ∗ (bigSep Finset.univ fun k : Sem => atPos ER (kcell (c, k)) 0 ∅ 0) ∗ bigSep Finset.univ fun r : Fin 31 => payToks (F := F) c r)

theorem regroup :
    (bigSep Finset.univ fun c : Dev nD => iprop((bigSep Finset.univ fun k : Sem => inv (ops m) (kcell (c, k)))
          ∗ (bigSep Finset.univ fun k : Sem => iprop(atPos ER (kcell (c, k)) 0 ∅ 0 ∗ reached ER (kcell (c, k)) 0))
          ∗ bigSep Finset.univ fun r : Fin 31 => toksAt (F := F) (c, r)) : sProp 𝕄)
      ⊢ bigSep Finset.univ (G' m) := by
  rw [bigSep_sep', bigSep_sep', ← bigSep_univ_prod (fun ck : Dev nD × Sem => inv (ops m) (kcell ck)),
    bigSep_congr (s := Finset.univ) (fun (c : Dev nD) _ => bigSep_sep' Finset.univ (fun k : Sem => (atPos ER (kcell (c, k)) 0 ∅ 0 : sProp 𝕄)) (fun k => reached ER (kcell (c, k)) 0)),
    bigSep_sep', ← bigSep_univ_prod (fun ck : Dev nD × Sem => (reached ER (kcell ck) 0 : sProp 𝕄)),
    ← bigSep_univ_prod (fun p : Dev nD × Fin 31 => toksAt (F := F) p)]
  iintro ⟨#HI, ⟨Hat, #HR⟩, Htok⟩
  ihave Htk := (toks_around (F := F)) $$ Htok
  ihave Htk := (Entails.of_eq (bigSep_univ_prod (fun p : Dev nD × Fin 31 => payToks (F := F) p.1 p.2))) $$ Htk
  unfold G'
  simp only [bigSep_sep']
  isplitr
  · iapply (BI.bigSep_of_persistent Finset.univ (records m))
    unfold records
    isplitr; · iexact HI
    iexact HR
  isplitl [Hat]; · iexact Hat
  iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### What a device starts from -/

/-- One peer's part, out of its tokens, credits and positions. -/
theorem mine_intro (c : Dev nD) (r : Fin 31) :
    iprop(Know (ops m) ∗ payToks (F := F) c r ∗ (cd1 (F := F) c 0 r ∗ cd1 (F := F) c 1 r ∗ cd1 (F := F) c 2 r) ∗ (cd2 (F := F) c 0 r ∗ cd2 (F := F) c 1 r ∗ cd2 (F := F) c 2 r)
        ∗ atPos ER (cs1 c r) 0 ∅ 0 ∗ atPos ER (cr1 c r) 0 ∅ 0 ∗ atPos ER (cs2 c r) 0 ∅ 0 ∗ atPos ER (cr2 c r) 0 ∅ 0)
      ⊢ mine (F := F) c r := by
  unfold payToks mine tks pos
  iintro ⟨#HK, ⟨Hb, A0, A1, A2, B0, B1, B2⟩, ⟨C0, C1, C2⟩, ⟨D0, D1, D2⟩, P1, P2, P3, P4⟩
  ihave R1 := (know_reached (ops m) c (ne_s1 r)) $$ HK
  ihave R2 := (know_reached (ops m) c (ne_r1 r)) $$ HK
  ihave R3 := (know_reached (ops m) c (ne_s2 r)) $$ HK
  ihave R4 := (know_reached (ops m) c (ne_r2 r)) $$ HK
  isplitl [Hb]; · iexact Hb
  isplitl [A0 C0]
  · isplitl [A0]; · iexact A0
    iexact C0
  isplitl [A1 C1 B0 D0]
  · isplitl [A1]; · iexact A1
    isplitl [C1]; · iexact C1
    isplitl [B0]; · iexact B0
    iexact D0
  isplitl [A2 C2 B1 D1]
  · isplitl [A2]; · iexact A2
    isplitl [C2]; · iexact C2
    isplitl [B1]; · iexact B1
    iexact D1
  isplitl [B2 D2]
  · isplitl [B2]; · iexact B2
    iexact D2
  isplitl [P1 R1]
  · isplitl [P1]; · iexact P1
    iexact R1
  isplitl [P2 R2]
  · isplitl [P2]; · iexact P2
    iexact R2
  isplitl [P3 R3]
  · isplitl [P3]; · iexact P3
    iexact R3
  isplitl [P4]; · iexact P4
  iexact R4

theorem start_intro (c : Dev nD) :
    iprop(Pipeline.unscopedRestP Pipeline.Prefetch.none cfg0.spec c (fun b => m ((c : Thread nD τ).loc b)) ∗ levAts L lv
        ∗ Pipeline.launchCred (fun d => tal d esS) c ∗ prngReg c (ρ c) ∗ G' m c)
      ⊢ |={Set.univ}=> iprop(startC (ops m) c ∗ emp) := by
  unfold G' records
  iintro ⟨-, Hlev, Hcr, -, ⟨HI, HR⟩, Hat, Htok⟩
  ihave Hc := (creds (F := F) c) $$ Hcr
  icases Hc with ⟨Hb, H1, H2⟩
  ihave HK := (show iprop((bigSep Finset.univ fun ck : Dev nD × Sem => inv (ops m) (kcell ck)) ∗ (bigSep Finset.univ fun ck : Dev nD × Sem => reached ER (kcell ck) 0) ∗ levAts L lv)
      ⊢ Know (ops m) from by unfold Know Lev; exact BI.Entails.refl _) $$ [HI HR Hlev]
  · isplitl [HI]; · iexact HI
    isplitl [HR] <;> iassumption
  icases HK with #HK
  ihave Hat := (Entails.of_eq ((bigSep_option (F := F) fun k => atPos ER (kcell (c, k)) 0 ∅ 0).trans
    (congrArg (fun P => iprop(atPos ER (barC c) 0 ∅ 0 ∗ P)) (own_split (F := F) c fun g => atPos ER g 0 ∅ 0)))) $$ Hat
  icases Hat with ⟨Hab, Hap, H31, H94⟩
  ihave Htok := (Entails.of_eq (bigSep_univ_eq_bigSepL all (by decide) (by decide) (fun r : Fin 31 => payToks (F := F) c r))) $$ Htok
  imodintro
  isplitl
  · unfold startC idle
    isplitr; · iexact HK
    isplitl [Htok H1 H2 Hap]
    · iapply (show iprop(Know (ops m) ∗ bigSepL all (fun r => payToks (F := F) c r)
          ∗ bigSepL all (fun r => iprop(cd1 (F := F) c 0 r ∗ cd1 (F := F) c 1 r ∗ cd1 (F := F) c 2 r))
          ∗ bigSepL all (fun r => iprop(cd2 (F := F) c 0 r ∗ cd2 (F := F) c 1 r ∗ cd2 (F := F) c 2 r))
          ∗ bigSepL all (fun r => iprop(atPos ER (cs1 c r) 0 ∅ 0 ∗ atPos ER (cr1 c r) 0 ∅ 0 ∗ atPos ER (cs2 c r) 0 ∅ 0 ∗ atPos ER (cr2 c r) 0 ∅ 0)))
          ⊢ bigSepL all (mine (F := F) c) from by
        rw [← bigSep_eq_bigSepL all all_nodup, ← bigSep_eq_bigSepL all all_nodup, ← bigSep_eq_bigSepL all all_nodup, ← bigSep_eq_bigSepL all all_nodup,
          ← bigSep_eq_bigSepL all all_nodup]
        refine (sep_mono_left (BI.bigSep_of_persistent all.toFinset (Know (ops m)))).trans ?_
        rw [← bigSep_sep', ← bigSep_sep', ← bigSep_sep', ← bigSep_sep']
        exact bigSep_mono fun r _ => mine_intro m c r)
      isplitr; · iexact HK
      isplitl [Htok]; · iexact Htok
      isplitl [H1]; · iexact H1
      isplitl [H2]; · iexact H2
      iexact Hap
    isplitl [Hab Hb]
    · isplitl [Hab]; · iexact Hab
      iexact Hb
    isplitl [H31]; · iexact H31
    iexact H94
  · iempintro

theorem scratch_eq (c : Dev nD) : (Pipeline.scopedRest (Ix := ℕ) (Name := ℕ) (U := UU) (Lvl := ℕ) (Val := Elt F) cfg0.spec c : sProp 𝕄) = scratch (F := F) c :=
  scopedRest0_eq c

theorem phi0_intro (c : Dev nD) :
    iprop(startC (ops m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scratch_eq]
  unfold Φ₁
  rw [sems0_eq]
  iintro ⟨Hr, Hu, Ho⟩
  isplitl [Hu]; · iexact Hu
  isplitl [Ho] <;> iassumption

theorem stage_other : ∀ (w : Fin 8) (s : Fin (spec0 w).nbuf), kind (.dma ((spec0 w).sem s)) = .other := by decide +kernel

theorem waits (c : Dev nD) : (levAts L lv : sProp 𝕄) ⊢ Pipeline.cellsWaits cfgs (dats m) 0 0 c :=
  Pipeline.cellsWaits_intro cfgs (dats m) 0 0 c fun w s t => by
    have h0 : lv ((c : Thread nD τ), .dma ((spec0 w).sem s)) 0 = 0 := by unfold lv; rw [stage_other w s]; rfl
    rcases t with ⟨_ | _, ht⟩
    · exact mayWait c _ 0 (by decide) esS fun e he => by rw [h0]; exact esS_hi e he
    · exact mayWait c _ 0 (by decide) [] fun e he => by cases he

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 65536 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := fun d => tal d esS) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_net m) $$ HX with HG
      imodintro
      isplitl [HP] <;> iassumption)
    (hglob := glob m)
    (hA := fun _ _ => rfl) (hpf := fun _ k => k.elim0)
    (X := startC (ops m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array after the run holds what it held. -/
theorem finalA_in (c : Dev nD) (w : Fin 8) (h : (spec0 w).isOut = false) : finalA m c w = m ((cfg0.win w).arr.view.loc (c : Thread nD τ)) :=
  (dats (F := F) m 0 c).arrAt_in w h _

end Cert.KernelIdeal.Net

end
-- ==== Proof.Pieces.lean ====
/- The kernel's payloads and buffer reads over the extended reals, read at an entry. -/
module

public import proofs.«01_k».proof.Proof.Contents
public import Idealize.ShloMosaic.Lib.StackMember
public import Idealize.ShloMosaic.Lib.KernelVsHost
public import Idealize.ShloMosaic.Lib.ValueLayout

@[expose] public section

noncomputable section

namespace Cert.KernelIdeal.Net

open Idealize.ShloMosaic Idealize.SL.Sem Cert.KernelIdeal.Gen Idealize.ShloMosaic.ValueIdx

/-! ## Products and casts -/

/-- A product into a zero accumulator, at an entry. -/
theorem mm_apply {M K N : ℕ} {d : DotDims ⟨2, ![M, K]⟩ ⟨2, ![K, N]⟩ ⟨2, ![M, N]⟩} (hd : d = DotDims.plain M K N)
    (l : FVec Ideal ⟨2, ![M, K]⟩ .bf16) (r : FVec Ideal ⟨2, ![K, N]⟩ .bf16) (i : Fin M) (j : Fin N) :
    matmul d none l r (constant ⟨2, ![M, N]⟩ .f32 0x00000000#32) (ix2 i j) = ∑ k : Fin K, l (ix2 i k) * r (ix2 k j) := by
  subst hd
  rw [matmul_zero_eq_dotGeneral]
  exact StackMember.dotGeneral_plain_apply none l r i j

/-- Slots of sixteen rows, side by side, are read row by row. -/
theorem cast_rows {n : ℕ} (v : (Sh3 n).Idx → Elt Ideal .bf16) (h : (Sh3 n).ShapeCasts ⟨2, ![16 * n, 512]⟩) (k : Fin n) (a : Fin 16)
    (j : Fin 512) (ha : 16 * k.val + a.val < 16 * n) :
    shapeCast ⟨2, ![16 * n, 512]⟩ v h (ix2 (⟨16 * k.val + a.val, ha⟩ : Fin (16 * n)) j) = v (ix3 k a j) :=
  shapeCast_apply v h _ _ (by
    rw [Shape.rowMajor_val_three, Shape.rowMajor_val_two]
    show (k.val * 16 + a.val) * 512 + j.val = (16 * k.val + a.val) * 512 + j.val
    omega)

/-! ## Reads of the buffers -/

theorem slots_apply {n lo : ℕ} (h : ∀ a, (![lo, 0, 0] : Fin 3 → Nat) a + (Sh3 n).size a ≤ S32x16x512.size a) (g : Sl Ideal)
    (k : Fin n) (a : Fin 16) (j : Fin 512) (hk : lo + k.val < 32) :
    slots n lo h g (ix3 k a j) = g (ix3 (⟨lo + k.val, hk⟩ : Fin 32) a j) :=
  congrArg g (emb_slots h k a j hk)

theorem ownRows_apply (c : Dev nD) (g : Sq Ideal) (a : Fin 16) (j : Fin 512) (h : 16 * c.val + a.val < 512) :
    ownRows c g (ix2 a j) = g (ix2 (⟨16 * c.val + a.val, h⟩ : Fin 512) j) := by
  refine congrArg g (funext fun d => Fin.ext ?_)
  have e := k0_off4_eq c
  match d with
  | ⟨0, _⟩ => exact (ValueKit.rect_emb_unit_val _ _ _ _ _).trans (congrArg (· + a.val) (congrFun e 0))
  | ⟨1, _⟩ => exact (ValueKit.rect_emb_unit_val _ _ _ _ _).trans ((congrArg (· + j.val) (congrFun e 1)).trans (Nat.zero_add _))

/-! ## The payloads -/

theorem pay1_apply (x : Vec Ideal S512x256 .bf16) (w : Vec Ideal S256x512 .bf16) (i j : Fin 512) :
    k0_pay1 x w (ix2 i j) = ∑ k : Fin 256, x (ix2 i k) * w (ix2 k j) := by
  unfold k0_pay1
  rw [shapeCast_self, shapeCast_self, shapeCast_self]
  exact mm_apply rfl x w i j

theorem pay2_apply (v : Vec Ideal S16x512 .bf16) (u : Fin 1) (a : Fin 16) (j : Fin 512) : k0_pay2 v (ix3 u a j) = v (ix2 a j) := by
  unfold k0_pay2
  rw [shapeCast_self]
  exact shapeCast_ab_1ab_apply v _ u a j

theorem pay4_apply (v : FVec Ideal S16x512 .bf16) (u : Fin 1) (a : Fin 16) (j : Fin 512) : k0_pay4 v (ix3 u a j) = v (ix2 a j) := by
  unfold k0_pay4
  rw [shapeCast_self]
  exact shapeCast_ab_1ab_apply v _ u a j

theorem pay5_eq (v : Vec Ideal S512x256 .bf16) : k0_pay5 v = v := shapeCast_self v _
theorem pay6_eq (v : Vec Ideal S256x512 .bf16) : k0_pay6 v = v := shapeCast_self v _
theorem pay25_eq (v : Vec Ideal S512x256 .bf16) : k0_pay25 v = v := shapeCast_self v _

/-- The sum over the slots, cut off at zero. -/
theorem pay3_apply (g : Vec Ideal S32x16x512 .bf16) (a : Fin 16) (j : Fin 512) :
    k0_pay3 g (ix2 a j) = max (∑ k : Fin 32, g (ix3 k a j)) (Ideal.ofBits .f32 0x00000000#32) := by
  unfold k0_pay3
  refine congrArg (fun z => max z (Ideal.ofBits .f32 0x00000000#32)) ?_
  refine (Ideal.multiReduction_add_single _ _ reduces_S32x16x512_S16x512 _ _ (ix2 a j)).trans (Finset.sum_congr rfl fun k _ => ?_)
  refine congrArg g (funext fun d => ?_)
  match d with
  | ⟨0, _⟩ => rfl
  | ⟨1, _⟩ => rfl
  | ⟨2, _⟩ => rfl

/-- Sixteen rows through both weights. -/
def two (h : Fin 512 → EReal) (wo : Vec Ideal S512x256 .bf16) (wi : Vec Ideal S256x512 .bf16) (j : Fin 512) : EReal :=
  ∑ k : Fin 256, (∑ p : Fin 512, h p * wo (ix2 p k)) * wi (ix2 k j)

theorem pay7_apply (s : FVec Ideal S16x512 .bf16) (wo : Vec Ideal S512x256 .bf16) (wi : Vec Ideal S256x512 .bf16) (u : Fin 1)
    (a : Fin 16) (j : Fin 512) : k0_pay7 s wo wi (ix3 u a j) = two (fun p => s (ix2 a p)) wo wi j := by
  unfold k0_pay7
  rw [shapeCast_self, pay5_eq, pay6_eq]
  refine (shapeCast_ab_1ab_apply _ _ u a j).trans ?_
  refine (mm_apply rfl _ wi a j).trans (Finset.sum_congr rfl fun k _ => congrArg (· * wi (ix2 k j)) ?_)
  exact mm_apply rfl s wo a k

theorem pay8_apply (wo : FVec Ideal S512x256 .bf16) (wi : FVec Ideal S256x512 .bf16) (g : Vec Ideal S7x16x512 .bf16)
    (k : Fin 7) (a : Fin 16) (j : Fin 512) (h : 16 * k.val + a.val < 112) :
    k0_pay8 wo wi g (ix2 (⟨16 * k.val + a.val, h⟩ : Fin 112) j) = two (fun p => g (ix3 k a p)) wo wi j := by
  unfold k0_pay8
  rw [shapeCast_self]
  refine (mm_apply rfl _ wi _ j).trans (Finset.sum_congr rfl fun q _ => congrArg (· * wi (ix2 q j)) ?_)
  refine (mm_apply rfl _ wo _ q).trans (Finset.sum_congr rfl fun p _ => congrArg (· * wo (ix2 p q)) ?_)
  exact cast_rows (n := 7) g _ k a p h

theorem pay9_apply (wo : FVec Ideal S512x256 .bf16) (wi : FVec Ideal S256x512 .bf16) (g : Vec Ideal S8x16x512 .bf16)
    (k : Fin 8) (a : Fin 16) (j : Fin 512) (h : 16 * k.val + a.val < 128) :
    k0_pay9 wo wi g (ix2 (⟨16 * k.val + a.val, h⟩ : Fin 128) j) = two (fun p => g (ix3 k a p)) wo wi j := by
  unfold k0_pay9
  rw [shapeCast_self]
  refine (mm_apply rfl _ wi _ j).trans (Finset.sum_congr rfl fun q _ => congrArg (· * wi (ix2 q j)) ?_)
  refine (mm_apply rfl _ wo _ q).trans (Finset.sum_congr rfl fun p _ => congrArg (· * wo (ix2 p q)) ?_)
  exact cast_rows (n := 8) g _ k a p h

/-- A row through one weight. -/
def one (h : Fin 512 → EReal) (wo : Vec Ideal S512x256 .bf16) (k : Fin 256) : EReal := ∑ p : Fin 512, h p * wo (ix2 p k)

theorem pay26_apply (s : FVec Ideal S16x512 .bf16) (wo : Vec Ideal S512x256 .bf16) (a : Fin 16) (k : Fin 256) :
    k0_pay26 s wo (ix2 a k) = one (fun p => s (ix2 a p)) wo k := by
  unfold k0_pay26
  rw [pay25_eq]
  exact mm_apply rfl s wo a k

theorem pay27_apply (wo : FVec Ideal S512x256 .bf16) (g : Vec Ideal S7x16x512 .bf16) (k : Fin 7) (a : Fin 16) (q : Fin 256)
    (h : 16 * k.val + a.val < 112) :
    k0_pay27 wo g (ix2 (⟨16 * k.val + a.val, h⟩ : Fin 112) q) = one (fun p => g (ix3 k a p)) wo q := by
  unfold k0_pay27
  refine (mm_apply rfl _ wo _ q).trans (Finset.sum_congr rfl fun p _ => congrArg (· * wo (ix2 p q)) ?_)
  exact cast_rows (n := 7) g _ k a p h

theorem pay35_apply (wo : FVec Ideal S512x256 .bf16) (g : Vec Ideal S8x16x512 .bf16) (k : Fin 8) (a : Fin 16) (q : Fin 256)
    (h : 16 * k.val + a.val < 128) :
    k0_pay35 wo g (ix2 (⟨16 * k.val + a.val, h⟩ : Fin 128) q) = one (fun p => g (ix3 k a p)) wo q := by
  unfold k0_pay35
  refine (mm_apply rfl _ wo _ q).trans (Finset.sum_congr rfl fun p _ => congrArg (· * wo (ix2 p q)) ?_)
  exact cast_rows (n := 8) g _ k a p h

end Cert.KernelIdeal.Net

end
-- ==== Proof.Value.lean ====
/- What the kernel computes over the extended reals: every device's result is its columns of the plain three-layer network.
   Only sums are taken apart and put in another order; no product is distributed. -/
module

public import proofs.«01_k».proof.Proof.Pieces

@[expose] public section

noncomputable section

namespace Cert.KernelIdeal.Net

open Idealize.ShloMosaic Idealize.SL.Sem Cert.KernelIdeal.Gen Idealize.ShloMosaic.ValueIdx

/-! ## The plain network -/

/-- The zero that the activations are cut off at. -/
abbrev zeroE : EReal := Ideal.ofBits .f32 0x00000000#32

/-- Row `a` of device `c`'s sixteen; column `k` of device `c`'s 256. -/
def rowOf (c : Dev nD) (a : Fin 16) : Fin 512 := ⟨16 * c.val + a.val, by have h : c.val < 32 := c.isLt; omega⟩
def colOf (c : Dev nD) (k : Fin 256) : Fin 8192 := ⟨c.val * 256 + k.val, by have h : c.val < 32 := c.isLt; omega⟩

variable (X : Fin 512 → Fin 8192 → EReal) (Wi : Nat → Fin 8192 → Fin 512 → EReal) (Wo : Nat → Fin 512 → Fin 8192 → EReal)

/-- The hidden activations of each layer. -/
def act : Nat → Fin 512 → Fin 512 → EReal
  | 0 => fun i j => max (∑ k : Fin 8192, X i k * Wi 0 k j) zeroE
  | l + 1 => fun i j => max (∑ k : Fin 8192, (∑ p : Fin 512, act l i p * Wo l p k) * Wi (l + 1) k j) zeroE

/-- The operands on the devices are the columns (of the weights in, the rows) of whole arrays. -/
structure Agrees (A : Ops Ideal) : Prop where
  x : ∀ c i k, A.x c (ix2 i k) = X i (colOf c k)
  wi : ∀ l c k j, A.wi l c (ix2 k j) = Wi l (colOf c k) j
  wo : ∀ l c p k, A.wo l c (ix2 p k) = Wo l p (colOf c k)

/-! ## Sums -/

/-- A sum over all columns, device by device. -/
theorem sum_cols (f : Fin 8192 → EReal) : ∑ k : Fin 8192, f k = ∑ c : Dev nD, ∑ k : Fin 256, f (colOf c k) := by
  rw [← Equiv.sum_comp (finProdFinEquiv (m := 32) (n := 256)) f, Fintype.sum_prod_type]
  refine Finset.sum_congr rfl fun c _ => Finset.sum_congr rfl fun k _ => congrArg f (Fin.ext ?_)
  show k.val + 256 * c.val = c.val * 256 + k.val
  omega

/-- The sum over a landing buffer's slots is the sum over the devices. -/
theorem stack_sum (c : Dev nD) (f : Dev nD → EReal) (own : S1x16x512.Idx → Elt Ideal .bf16) (b : Fin 31 → S16x512.Idx → Elt Ideal .bf16)
    (a : Fin 16) (j : Fin 512) (ho : own (ix3 (0 : Fin 1) a j) = f c) (hb : ∀ r, b r (ix2 a j) = f (nb c r)) :
    ∑ k : Fin 32, stack (F := Ideal) own b (ix3 k a j) = ∑ d : Dev nD, f d := by
  let c' : Fin 32 := c
  let f' : Fin 32 → EReal := f
  show _ = ∑ d : Fin 32, f' d
  rw [← Equiv.sum_comp (Equiv.addLeft c') f']
  refine Finset.sum_congr rfl fun k _ => ?_
  show stack (F := Ideal) own b (ix3 k a j) = f' (c' + k)
  by_cases hk : k.val = 0
  · rw [stack_own own b k hk a j, ho]
    have : k = 0 := Fin.ext hk
    rw [this, add_zero]
  · have hlt : k.val < 32 := k.isLt
    have e : k = (⟨1 + (⟨k.val - 1, by omega⟩ : Fin 31).val, by show 1 + (k.val - 1) < 32; omega⟩ : Fin 32) :=
      Fin.ext (by show k.val = 1 + (k.val - 1); omega)
    rw [e, stack_peer, hb]
    refine congrArg f (Fin.ext ?_)
    show (c.val + (k.val - 1) + 1) % 32 = (c.val + (1 + (k.val - 1))) % 32
    congr 1; omega

/-! ## The layers -/

/-- What a device gathered from the peer at distance `t + 1`. -/
theorem gatherOf_peer (s : Dev nD → FVec Ideal S16x512 .bf16) (d : Dev nD) (t : Fin 31) (h : 1 + t.val < 32) (a : Fin 16) (p : Fin 512) :
    gatherOf s d (ix3 (⟨1 + t.val, h⟩ : Fin 32) a p) = s (nb d t) (ix2 a p) := by
  unfold gatherOf
  rw [stack_peer]
  exact pay4_apply _ _ a p

/-! A group of gathered slots through the weights, at a row of slot `u`. -/

theorem group8 {lo : ℕ} (h : ∀ a, (![lo, 0, 0] : Fin 3 → Nat) a + (Sh3 8).size a ≤ S32x16x512.size a) (wo : Vec Ideal S512x256 .bf16)
    (wi : Vec Ideal S256x512 .bf16) (g : Sl Ideal) (u : Fin 32) (a : Fin 16) (j : Fin 512) (k : Fin 8) (z : Fin 128)
    (hz : z.val = 16 * k.val + a.val) (hu : u.val = lo + k.val) :
    k0_pay9 (k0_pay5 wo) (k0_pay6 wi) (slots 8 lo h g) (ix2 z j) = two (fun p => g (ix3 u a p)) wo wi j := by
  rw [pay5_eq, pay6_eq]
  obtain ⟨z, hz'⟩ := z
  obtain ⟨u, hu'⟩ := u
  obtain rfl : z = 16 * k.val + a.val := hz
  obtain rfl : u = lo + k.val := hu
  rw [pay9_apply]
  exact congrArg (fun h => two h wo wi j) (funext fun p => slots_apply _ g k a p _)

theorem group7 {lo : ℕ} (h : ∀ a, (![lo, 0, 0] : Fin 3 → Nat) a + (Sh3 7).size a ≤ S32x16x512.size a) (wo : Vec Ideal S512x256 .bf16)
    (wi : Vec Ideal S256x512 .bf16) (g : Sl Ideal) (u : Fin 32) (a : Fin 16) (j : Fin 512) (k : Fin 7) (z : Fin 112)
    (hz : z.val = 16 * k.val + a.val) (hu : u.val = lo + k.val) :
    k0_pay8 (k0_pay5 wo) (k0_pay6 wi) (slots 7 lo h g) (ix2 z j) = two (fun p => g (ix3 u a p)) wo wi j := by
  rw [pay5_eq, pay6_eq]
  obtain ⟨z, hz'⟩ := z
  obtain ⟨u, hu'⟩ := u
  obtain rfl : z = 16 * k.val + a.val := hz
  obtain rfl : u = lo + k.val := hu
  rw [pay8_apply]
  exact congrArg (fun h => two h wo wi j) (funext fun p => slots_apply _ g k a p _)

theorem last8 {lo : ℕ} (h : ∀ a, (![lo, 0, 0] : Fin 3 → Nat) a + (Sh3 8).size a ≤ S32x16x512.size a) (wo : Vec Ideal S512x256 .bf16)
    (g : Sl Ideal) (u : Fin 32) (a : Fin 16) (q : Fin 256) (k : Fin 8) (z : Fin 128)
    (hz : z.val = 16 * k.val + a.val) (hu : u.val = lo + k.val) :
    k0_pay35 (k0_pay25 wo) (slots 8 lo h g) (ix2 z q) = one (fun p => g (ix3 u a p)) wo q := by
  rw [pay25_eq]
  obtain ⟨z, hz'⟩ := z
  obtain ⟨u, hu'⟩ := u
  obtain rfl : z = 16 * k.val + a.val := hz
  obtain rfl : u = lo + k.val := hu
  rw [pay35_apply]
  exact congrArg (fun h => one h wo q) (funext fun p => slots_apply _ g k a p _)

theorem last7 {lo : ℕ} (h : ∀ a, (![lo, 0, 0] : Fin 3 → Nat) a + (Sh3 7).size a ≤ S32x16x512.size a) (wo : Vec Ideal S512x256 .bf16)
    (g : Sl Ideal) (u : Fin 32) (a : Fin 16) (q : Fin 256) (k : Fin 7) (z : Fin 112)
    (hz : z.val = 16 * k.val + a.val) (hu : u.val = lo + k.val) :
    k0_pay27 (k0_pay25 wo) (slots 7 lo h g) (ix2 z q) = one (fun p => g (ix3 u a p)) wo q := by
  rw [pay25_eq]
  obtain ⟨z, hz'⟩ := z
  obtain ⟨u, hu'⟩ := u
  obtain rfl : z = 16 * k.val + a.val := hz
  obtain rfl : u = lo + k.val := hu
  rw [pay27_apply]
  exact congrArg (fun h => one h wo q) (funext fun p => slots_apply _ g k a p _)

/-- A middle layer's partial product, block by block: slot `u` through both weights. -/
theorem partQ_apply (wo : Vec Ideal S512x256 .bf16) (wi : Vec Ideal S256x512 .bf16) (g : Sl Ideal) (u : Fin 32) (hu : 1 ≤ u.val)
    (a : Fin 16) (j : Fin 512) (i : Fin 512) (hi : i.val = 16 * u.val + a.val) :
    partQ wo wi g (ix2 i j) = two (fun p => g (ix3 u a p)) wo wi j := by
  have ha := a.isLt
  have hlt := u.isLt
  unfold partQ
  by_cases hA : 400 ≤ i.val
  · refine (dif_pos hA).trans (group7 _ wo wi g u a j (⟨u.val - 25, by omega⟩ : Fin 7) _ ?_ ?_)
    · show i.val - 400 = 16 * (u.val - 25) + a.val; omega
    · show u.val = 25 + (u.val - 25); omega
  refine (dif_neg hA).trans ?_
  by_cases hB : 272 ≤ i.val
  · refine (dif_pos hB).trans (group8 _ wo wi g u a j (⟨u.val - 17, by omega⟩ : Fin 8) _ ?_ ?_)
    · show i.val - 272 = 16 * (u.val - 17) + a.val; omega
    · show u.val = 17 + (u.val - 17); omega
  refine (dif_neg hB).trans ?_
  by_cases hC : 144 ≤ i.val
  · refine (dif_pos hC).trans (group8 _ wo wi g u a j (⟨u.val - 9, by omega⟩ : Fin 8) _ ?_ ?_)
    · show i.val - 144 = 16 * (u.val - 9) + a.val; omega
    · show u.val = 9 + (u.val - 9); omega
  refine (dif_neg hC).trans (group8 _ wo wi g u a j (⟨u.val - 1, by omega⟩ : Fin 8) _ ?_ ?_)
  · show i.val - 16 = 16 * (u.val - 1) + a.val; omega
  · show u.val = 1 + (u.val - 1); omega

/-- The result's rows of the device at distance `t + 1`: slot `1 + t` through the last weight. -/
theorem result_other (c : Dev nD) (s : FVec Ideal S16x512 .bf16) (wo : Vec Ideal S512x256 .bf16) (g : Sl Ideal) (t : Fin 31) (a : Fin 16)
    (k : Fin 256) (h' : 1 + t.val < 32) :
    result c s wo g (ix2 (rowOf (nb c t) a) k) = one (fun p => g (ix3 (⟨1 + t.val, h'⟩ : Fin 32) a p)) wo k := by
  have ha := a.isLt
  have ht := t.isLt
  have hc : c.val < 32 := c.isLt
  obtain ⟨i, hi⟩ : ∃ i : Fin 512, i = rowOf (nb c t) a := ⟨_, rfl⟩
  have hiv : i.val = 16 * ((c.val + t.val + 1) % 32) + a.val := by rw [hi]; rfl
  have e1 : i.val % 16 = a.val := by omega
  have e2 : (i.val / 16 + 31 - c.val) % 32 = t.val := by omega
  rw [← hi]
  unfold result
  refine (dif_neg (show ¬ (i.val / 16 + 31 - c.val) % 32 = 31 by omega)).trans ?_
  by_cases hA : 24 ≤ (i.val / 16 + 31 - c.val) % 32
  · refine (dif_pos hA).trans (last7 _ wo g _ a k (⟨t.val - 24, by omega⟩ : Fin 7) _ ?_ ?_)
    · show 16 * ((i.val / 16 + 31 - c.val) % 32 - 24) + i.val % 16 = 16 * (t.val - 24) + a.val; rw [e1, e2]
    · show 1 + t.val = 25 + (t.val - 24); omega
  refine (dif_neg hA).trans ?_
  by_cases hB : 16 ≤ (i.val / 16 + 31 - c.val) % 32
  · refine (dif_pos hB).trans (last8 _ wo g _ a k (⟨t.val - 16, by omega⟩ : Fin 8) _ ?_ ?_)
    · show 16 * ((i.val / 16 + 31 - c.val) % 32 - 16) + i.val % 16 = 16 * (t.val - 16) + a.val; rw [e1, e2]
    · show 1 + t.val = 17 + (t.val - 16); omega
  refine (dif_neg hB).trans ?_
  by_cases hC : 8 ≤ (i.val / 16 + 31 - c.val) % 32
  · refine (dif_pos hC).trans (last8 _ wo g _ a k (⟨t.val - 8, by omega⟩ : Fin 8) _ ?_ ?_)
    · show 16 * ((i.val / 16 + 31 - c.val) % 32 - 8) + i.val % 16 = 16 * (t.val - 8) + a.val; rw [e1, e2]
    · show 1 + t.val = 9 + (t.val - 8); omega
  refine (dif_neg hC).trans (last8 _ wo g _ a k (⟨t.val, by omega⟩ : Fin 8) _ ?_ ?_)
  · show 16 * ((i.val / 16 + 31 - c.val) % 32) + i.val % 16 = 16 * t.val + a.val; rw [e1, e2]
  · rfl

/-- The result's own rows. -/
theorem result_self (c : Dev nD) (s : FVec Ideal S16x512 .bf16) (wo : Vec Ideal S512x256 .bf16) (g : Sl Ideal) (a : Fin 16) (k : Fin 256) :
    result c s wo g (ix2 (rowOf c a) k) = one (fun p => s (ix2 a p)) wo k := by
  have ha := a.isLt
  have hc : c.val < 32 := c.isLt
  have e1 : (16 * c.val + a.val) % 16 = a.val := by omega
  have e2 : ((16 * c.val + a.val) / 16 + 31 - c.val) % 32 = 31 := by omega
  unfold result
  refine (dif_pos e2).trans (Eq.trans ?_ (pay26_apply s wo a k))
  exact congrArg (fun z : Fin 16 => k0_pay26 s wo (ix2 z k)) (Fin.ext e1)

variable {X Wi Wo} {A : Ops Ideal} (H : Agrees X Wi Wo A)
include H

/-- After each layer a device holds its sixteen rows of the activations. -/
theorem S_apply (l : Nat) (c : Dev nD) (a : Fin 16) (j : Fin 512) : S A l c (ix2 a j) = act X Wi Wo l (rowOf c a) j := by
  induction l generalizing c a j with
  | zero =>
    show k0_pay3 (scat0 A c) (ix2 a j) = max _ _
    rw [pay3_apply, sum_cols]
    refine congrArg (fun z => max z zeroE) ?_
    have e : ∀ d : Dev nD, Pc A d (ix2 (rowOf c a) j) = ∑ k : Fin 256, X (rowOf c a) (colOf d k) * Wi 0 (colOf d k) j := fun d => by
      unfold Pc
      rw [pay1_apply]
      exact Finset.sum_congr rfl fun k _ => by rw [H.x, H.wi]
    refine stack_sum c (fun d => ∑ k : Fin 256, X (rowOf c a) (colOf d k) * Wi 0 (colOf d k) j) _ _ a j ?_ fun r => ?_
    · rw [pay2_apply, ownRows_apply]
      exact e c
    · exact e (nb c r)
  | succ l ih =>
    show k0_pay3 (scatS A l (S A l) c) (ix2 a j) = max _ _
    rw [pay3_apply, sum_cols]
    refine congrArg (fun z => max z zeroE) ?_
    have e : ∀ d : Dev nD, two (fun p => S A l c (ix2 a p)) (A.wo l d) (A.wi (l + 1) d) j
        = ∑ k : Fin 256, (∑ p : Fin 512, act X Wi Wo l (rowOf c a) p * Wo l p (colOf d k)) * Wi (l + 1) (colOf d k) j := fun d =>
      Finset.sum_congr rfl fun k _ => by
        rw [H.wi]
        exact congrArg (· * Wi (l + 1) (colOf d k) j) (Finset.sum_congr rfl fun p _ => by rw [← ih, ← H.wo])
    refine stack_sum c (fun d => ∑ k : Fin 256, (∑ p : Fin 512, act X Wi Wo l (rowOf c a) p * Wo l p (colOf d k)) * Wi (l + 1) (colOf d k) j)
      _ _ a j ?_ fun r => ?_
    · rw [pay7_apply]
      exact e c
    · refine Eq.trans ?_ (e (nb c r))
      have hr : 1 + r.rev.val < 32 := by rw [rev_val]; omega
      refine (partQ_apply _ _ _ (⟨1 + r.rev.val, hr⟩ : Fin 32) (Nat.le_add_right 1 _) a j _ rfl).trans ?_
      refine congrArg (fun h => two h _ _ j) (funext fun p => ?_)
      rw [gatherOf_peer, nb_nb]

/-- A device's result: its columns of the network's value. -/
theorem Ov_apply (c : Dev nD) (i : Fin 512) (k : Fin 256) :
    Ov A c (ix2 i k) = ∑ p : Fin 512, act X Wi Wo 2 i p * Wo 2 p (colOf c k) := by
  have e : ∀ (d : Dev nD) (a : Fin 16), one (fun p => S A 2 d (ix2 a p)) (A.wo 2 c) k
      = ∑ p : Fin 512, act X Wi Wo 2 (rowOf d a) p * Wo 2 p (colOf c k) := fun d a =>
    Finset.sum_congr rfl fun p _ => by rw [← S_apply H, ← H.wo]
  obtain ⟨d, a, rfl⟩ : ∃ (d : Dev nD) (a : Fin 16), i = rowOf d a :=
    ⟨⟨i.val / 16, by have := i.isLt; show i.val / 16 < 32; omega⟩, ⟨i.val % 16, Nat.mod_lt _ (by decide)⟩,
      Fin.ext (by show i.val = 16 * (i.val / 16) + i.val % 16; omega)⟩
  unfold Ov
  by_cases hd : d = c
  · subst hd
    rw [result_self]
    exact e d a
  · obtain ⟨t, rfl⟩ := exists_nb c d hd
    rw [result_other c _ _ _ t a k (by omega)]
    refine Eq.trans ?_ (e (nb c t) a)
    refine congrArg (fun h => one h _ k) (funext fun p => ?_)
    exact gatherOf_peer (S A 2) c t _ a p

end Cert.KernelIdeal.Net

end
-- ==== Proof.Network.lean ====
/- The reference's value read at an entry: the plain network of Proof/Value.lean. And where a block of an array lies in it. -/
module

public import proofs.«01_k».proof.Proof.Value
public import proofs.«01_k».proof.Proof.Gen.ReferenceIdeal.Run

@[expose] public section

noncomputable section

namespace Cert.KernelIdeal.Net

open Idealize.ShloMosaic Idealize.SL.Sem Idealize.ShloMosaic.ValueIdx

/-! ## Blocks -/

/-- Device `c`'s columns of an array. -/
theorem block_cols {α : Type} (c : Dev nD) (v : (⟨2, ![512, 8192]⟩ : Shape).Idx → α)
    (h : Layout.Tiles ⟨2, ![512, 256]⟩ ⟨2, ![512, 8192]⟩ 1 32) (i : Fin 512) (k : Fin 256) :
    Layout.block ⟨2, ![512, 256]⟩ ⟨2, ![512, 8192]⟩ 1 32 c v h (ix2 i k) = v (ix2 i (colOf c k)) := by
  refine congrArg v (funext fun a => Fin.ext ?_)
  match a with
  | ⟨0, _⟩ => rfl
  | ⟨1, _⟩ => rfl

/-- Device `c`'s rows of an array. -/
theorem block_rows {α : Type} (c : Dev nD) (v : (⟨2, ![8192, 512]⟩ : Shape).Idx → α)
    (h : Layout.Tiles ⟨2, ![256, 512]⟩ ⟨2, ![8192, 512]⟩ 0 32) (k : Fin 256) (j : Fin 512) :
    Layout.block ⟨2, ![256, 512]⟩ ⟨2, ![8192, 512]⟩ 0 32 c v h (ix2 k j) = v (ix2 (colOf c k) j) := by
  refine congrArg v (funext fun a => Fin.ext ?_)
  match a with
  | ⟨0, _⟩ => rfl
  | ⟨1, _⟩ => rfl

/-! ## The reference -/

section Reference

open Cert.ReferenceIdeal Cert.ReferenceIdeal.Gen

/-- The reference's cut-off of a product. -/
def hid (x : FVec Ideal S512x8192 .f32) (w : FVec Ideal S8192x512 .f32) : FVec Ideal S512x512 .f32 :=
  maximumf (Host.dotGeneral dot_S512x8192_S8192x512_S512x512_1_0_0_1_n_n none x w)
    (broadcastInDim S512x512 ![] bcast_S_S512x512 (constant S_ .f32 0x00000000#32))

/-- The reference's second product of a layer. -/
def back (h : FVec Ideal S512x512 .f32) (w : FVec Ideal S512x8192 .f32) : FVec Ideal S512x8192 .f32 :=
  Host.dotGeneral dot_S512x512_S512x8192_S512x8192_1_0_0_1_n_n none h w

/-- The reference's value, over its arguments in their order. -/
def whole (x : FVec Ideal S512x8192 .bf16) (i0 i1 i2 : FVec Ideal S8192x512 .bf16) (o0 o1 o2 : FVec Ideal S512x8192 .bf16) :
    FVec Ideal S512x8192 .f32 :=
  back (hid (back (hid (back (hid (extf .f32 x bitsLt_bf16_f32) (extf .f32 i0 bitsLt_bf16_f32)) (extf .f32 o0 bitsLt_bf16_f32))
    (extf .f32 i1 bitsLt_bf16_f32)) (extf .f32 o1 bitsLt_bf16_f32)) (extf .f32 i2 bitsLt_bf16_f32)) (extf .f32 o2 bitsLt_bf16_f32)

theorem hid_apply (x : FVec Ideal S512x8192 .f32) (w : FVec Ideal S8192x512 .f32) (i j : Fin 512) :
    hid x w (ix2 i j) = max (∑ k : Fin 8192, x (ix2 i k) * w (ix2 k j)) zeroE :=
  congrArg (fun z => max z zeroE) (StackMember.dotGeneral_plain_apply (φ₁ := .f32) (φ₂ := .f32) none x w i j)

theorem back_apply (h : FVec Ideal S512x512 .f32) (w : FVec Ideal S512x8192 .f32) (i : Fin 512) (k : Fin 8192) :
    back h w (ix2 i k) = ∑ p : Fin 512, h (ix2 i p) * w (ix2 p k) :=
  StackMember.dotGeneral_plain_apply (φ₁ := .f32) (φ₂ := .f32) none h w i k

/-- The weights of each layer. -/
def wiOf (i0 i1 i2 : FVec Ideal S8192x512 .bf16) : Nat → Fin 8192 → Fin 512 → EReal
  | 0 => fun k j => i0 (ix2 k j)
  | 1 => fun k j => i1 (ix2 k j)
  | _ => fun k j => i2 (ix2 k j)
def woOf (o0 o1 o2 : FVec Ideal S512x8192 .bf16) : Nat → Fin 512 → Fin 8192 → EReal
  | 0 => fun p k => o0 (ix2 p k)
  | 1 => fun p k => o1 (ix2 p k)
  | _ => fun p k => o2 (ix2 p k)

/-- The reference computes the plain network. -/
theorem whole_apply (x : FVec Ideal S512x8192 .bf16) (i0 i1 i2 : FVec Ideal S8192x512 .bf16) (o0 o1 o2 : FVec Ideal S512x8192 .bf16)
    (i : Fin 512) (k : Fin 8192) :
    whole x i0 i1 i2 o0 o1 o2 (ix2 i k)
      = ∑ p : Fin 512, act (fun i k => x (ix2 i k)) (wiOf i0 i1 i2) (woOf o0 o1 o2) 2 i p * woOf o0 o1 o2 2 p k := by
  unfold whole
  simp only [back_apply, hid_apply]
  rfl

end Reference

end Cert.KernelIdeal.Net

end
-- ==== Proof.Final.lean ====
/- The result array after the run, over the extended reals: each device's columns of the reference's value. -/
module

public import proofs.«01_k».proof.Proof.Launch
public import proofs.«01_k».proof.Proof.Network

@[expose] public section

noncomputable section

namespace Cert.KernelIdeal.Net

open Cert.KernelIdeal.Gen
open Idealize.ShloMosaic Idealize.ShloMosaic.TcCoe Idealize.SL.Sem Idealize.ShloMosaic.ValueIdx

/-! ## Every window is its whole array -/

section Whole

variable {F : FTy → Type}

theorem read0 (f : main_arg0.ty.Contents (Elt F)) : (win0_0.blk t0_0).view.read (Elt F) f = f :=
  Memref.read_access_unit_zero (Elt F) main_arg0 (funext fun a => by fin_cases a <;> rfl) _ f
theorem read1 (f : main_arg1.ty.Contents (Elt F)) : (win0_1.blk t0_0).view.read (Elt F) f = f :=
  Memref.read_access_unit_zero (Elt F) main_arg1 (funext fun a => by fin_cases a <;> rfl) _ f
theorem read2 (f : main_arg4.ty.Contents (Elt F)) : (win0_2.blk t0_0).view.read (Elt F) f = f :=
  Memref.read_access_unit_zero (Elt F) main_arg4 (funext fun a => by fin_cases a <;> rfl) _ f
theorem read3 (f : main_arg2.ty.Contents (Elt F)) : (win0_3.blk t0_0).view.read (Elt F) f = f :=
  Memref.read_access_unit_zero (Elt F) main_arg2 (funext fun a => by fin_cases a <;> rfl) _ f
theorem read4 (f : main_arg5.ty.Contents (Elt F)) : (win0_4.blk t0_0).view.read (Elt F) f = f :=
  Memref.read_access_unit_zero (Elt F) main_arg5 (funext fun a => by fin_cases a <;> rfl) _ f
theorem read5 (f : main_arg3.ty.Contents (Elt F)) : (win0_5.blk t0_0).view.read (Elt F) f = f :=
  Memref.read_access_unit_zero (Elt F) main_arg3 (funext fun a => by fin_cases a <;> rfl) _ f
theorem read6 (f : main_arg6.ty.Contents (Elt F)) : (win0_6.blk t0_0).view.read (Elt F) f = f :=
  Memref.read_access_unit_zero (Elt F) main_arg6 (funext fun a => by fin_cases a <;> rfl) _ f
theorem read7 (f : main_v1.ty.Contents (Elt F)) : (win0_7.blk t0_0).view.read (Elt F) f = f :=
  Memref.read_access_unit_zero (Elt F) main_v1 (funext fun a => by fin_cases a <;> rfl) _ f

end Whole

/-- The result array after the run holds what the body left in the result's staging buffer. -/
theorem finalA_out {F : FTy → Type} [FloatOps F] (m : (ℓ : Loc nD τ sig) → Buf (Elt F) ℓ) (c : Dev nD) :
    finalA m c (7 : Fin 8) = Ov (ops m) c := by
  refine (read7 (F := F) (finalA m c (7 : Fin 8))).symm.trans ?_
  unfold finalA
  rw [show cfg0.N = (t0_0 : Fin cfg0.N).val + 1 from rfl, (dats m 0 c).arrAt_succ (7 : Fin 8) t0_0,
    if_pos (flush0_7 t0_0)]
  exact View.read_write_univ _ _

variable (m : (ℓ : Loc nD τ sig) → Buf (Elt Ideal) ℓ)
variable (x : FVec Ideal ⟨2, ![512, 8192]⟩ .bf16) (i0 i1 i2 : FVec Ideal ⟨2, ![8192, 512]⟩ .bf16)
  (o0 o1 o2 : FVec Ideal ⟨2, ![512, 8192]⟩ .bf16)

/-- The devices' arguments are the blocks of whole arrays. -/
def Blocks : Prop := ∀ c : Dev nD,
  m ((c : Thread nD τ).loc main_arg0) = Layout.block ⟨2, ![512, 256]⟩ ⟨2, ![512, 8192]⟩ 1 32 c x
  ∧ m ((c : Thread nD τ).loc main_arg1) = Layout.block ⟨2, ![256, 512]⟩ ⟨2, ![8192, 512]⟩ 0 32 c i0
  ∧ m ((c : Thread nD τ).loc main_arg2) = Layout.block ⟨2, ![256, 512]⟩ ⟨2, ![8192, 512]⟩ 0 32 c i1
  ∧ m ((c : Thread nD τ).loc main_arg3) = Layout.block ⟨2, ![256, 512]⟩ ⟨2, ![8192, 512]⟩ 0 32 c i2
  ∧ m ((c : Thread nD τ).loc main_arg4) = Layout.block ⟨2, ![512, 256]⟩ ⟨2, ![512, 8192]⟩ 1 32 c o0
  ∧ m ((c : Thread nD τ).loc main_arg5) = Layout.block ⟨2, ![512, 256]⟩ ⟨2, ![512, 8192]⟩ 1 32 c o1
  ∧ m ((c : Thread nD τ).loc main_arg6) = Layout.block ⟨2, ![512, 256]⟩ ⟨2, ![512, 8192]⟩ 1 32 c o2

variable {m x i0 i1 i2 o0 o1 o2}

theorem agrees (h : Blocks m x i0 i1 i2 o0 o1 o2) :
    Agrees (fun i k => x (ix2 i k)) (wiOf i0 i1 i2) (woOf o0 o1 o2) (ops m) where
  x c i k := by
    refine (congrFun ((read0 _).trans (h c).1) (ix2 i k)).trans (block_cols c x _ i k)
  wi l c k j := match l with
    | 0 => (congrFun ((read1 _).trans (h c).2.1) (ix2 k j)).trans (block_rows c i0 _ k j)
    | 1 => (congrFun ((read3 _).trans (h c).2.2.1) (ix2 k j)).trans (block_rows c i1 _ k j)
    | _ + 2 => (congrFun ((read5 _).trans (h c).2.2.2.1) (ix2 k j)).trans (block_rows c i2 _ k j)
  wo l c p k := match l with
    | 0 => (congrFun ((read2 _).trans (h c).2.2.2.2.1) (ix2 p k)).trans (block_cols c o0 _ p k)
    | 1 => (congrFun ((read4 _).trans (h c).2.2.2.2.2.1) (ix2 p k)).trans (block_cols c o1 _ p k)
    | _ + 2 => (congrFun ((read6 _).trans (h c).2.2.2.2.2.2) (ix2 p k)).trans (block_cols c o2 _ p k)

/-- A device's result array ends holding its columns of the reference's value. -/
theorem result_block (h : Blocks m x i0 i1 i2 o0 o1 o2) (c : Dev nD) :
    finalA m c (7 : Fin 8) = Layout.block ⟨2, ![512, 256]⟩ ⟨2, ![512, 8192]⟩ 1 32 c (whole x i0 i1 i2 o0 o1 o2) := by
  refine (finalA_out m c).trans (funext fun ix => ?_)
  obtain ⟨i, k, rfl⟩ : ∃ (i : Fin 512) (k : Fin 256), ix = ix2 i k := ⟨ix 0, ix 1, eq_ix2 ix⟩
  rw [Ov_apply (agrees h) c i k, block_cols, whole_apply]

end Cert.KernelIdeal.Net

end
-- ==== Proof.lean ====
/- The claims of this directory. The whole run of the kernel is `Cert.KernelIdeal.Net.run_main` (Proof/Launch.lean), stated over
   any float values; the frames here are its instances. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Final
public import Idealize.ShloMosaic.Adequacy
public import Idealize.ShloMosaic.Init

@[expose] public section

noncomputable section

namespace Cert.Proof

open Idealize.ShloMosaic Idealize.SL.Sem

/-- The frame over any float values: every argument is the array of an input window, so it ends as it began; the counters end
    at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem (c.tc.loc Cert.KernelIdeal.main_arg0) = m (c.tc.loc Cert.KernelIdeal.main_arg0) ∧
        r.2.mem (c.tc.loc Cert.KernelIdeal.main_arg1) = m (c.tc.loc Cert.KernelIdeal.main_arg1) ∧
        r.2.mem (c.tc.loc Cert.KernelIdeal.main_arg2) = m (c.tc.loc Cert.KernelIdeal.main_arg2) ∧
        r.2.mem (c.tc.loc Cert.KernelIdeal.main_arg3) = m (c.tc.loc Cert.KernelIdeal.main_arg3) ∧
        r.2.mem (c.tc.loc Cert.KernelIdeal.main_arg4) = m (c.tc.loc Cert.KernelIdeal.main_arg4) ∧
        r.2.mem (c.tc.loc Cert.KernelIdeal.main_arg5) = m (c.tc.loc Cert.KernelIdeal.main_arg5) ∧
        r.2.mem (c.tc.loc Cert.KernelIdeal.main_arg6) = m (c.tc.loc Cert.KernelIdeal.main_arg6)) ∧
      r.2.sem = fun _ => 0) :=
  (θ_run Cert.KernelIdeal.defs _ _).mono
    (fun _ h => ⟨fun c =>
      ⟨(h.1 c 0).trans (Cert.KernelIdeal.Net.finalA_in m c 0 rfl), (h.1 c 1).trans (Cert.KernelIdeal.Net.finalA_in m c 1 rfl),
       (h.1 c 3).trans (Cert.KernelIdeal.Net.finalA_in m c 3 rfl), (h.1 c 5).trans (Cert.KernelIdeal.Net.finalA_in m c 5 rfl),
       (h.1 c 2).trans (Cert.KernelIdeal.Net.finalA_in m c 2 rfl), (h.1 c 4).trans (Cert.KernelIdeal.Net.finalA_in m c 4 rfl),
       (h.1 c 6).trans (Cert.KernelIdeal.Net.finalA_in m c 6 rfl)⟩, h.2⟩)
    (Cert.KernelIdeal.Net.run_main m ρ)

/-- The two printed programs are the same text: so are their kernels' bodies, label by label. -/
theorem bodies_eq : Cert.Kernel.defs₀ (F := Bits) = Cert.KernelIdeal.defs₀ (F := Bits) :=
  congrArg Defs.onTc (funext fun l => funext fun a => match l, a with
    | 0, (_, _) => rfl)

/-- And so are the tables of bodies their runs use. -/
theorem defs_eq : Cert.Kernel.defs (F := Bits) = Cert.KernelIdeal.defs (F := Bits) :=
  congrArg (Pipeline.defs (Cert.Kernel.pcfgs (F := Bits))) bodies_eq

/-- The kernel's frame: the frame at the bit-exact floats, read at the kernel's own text. -/
theorem frame_kernel : Cert.quiescent_Kernel := fun m ρ _ => by
  have h := frame_any (F := Bits) m ρ
  rw [← defs_eq] at h
  exact h

/-- The same frame at the ideal floats. -/
theorem frame_ideal : Cert.quiescent_KernelIdeal := fun m ρ _ => frame_any (F := Ideal) m ρ

/-- The reference's frame: no operation of it writes an argument, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

set_option maxRecDepth 65536 in
/-- Over the extended reals each device's result is its columns of the reference's value. -/
theorem algebraic : Cert.algebraic_KernelIdeal_ReferenceIdeal := fun m ρ m' ρ' _ hblocks =>
  ⟨Cert.KernelIdeal.Net.whole
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)),
    (θ_run Cert.KernelIdeal.defs _ _).mono
      (fun _ h c =>
        ⟨(h.1 c 7).trans (Cert.KernelIdeal.Net.result_block hblocks c),
         (h.1 c 0).trans (Cert.KernelIdeal.Net.finalA_in m c 0 rfl), (h.1 c 1).trans (Cert.KernelIdeal.Net.finalA_in m c 1 rfl),
         (h.1 c 3).trans (Cert.KernelIdeal.Net.finalA_in m c 3 rfl), (h.1 c 5).trans (Cert.KernelIdeal.Net.finalA_in m c 5 rfl),
         (h.1 c 2).trans (Cert.KernelIdeal.Net.finalA_in m c 2 rfl), (h.1 c 4).trans (Cert.KernelIdeal.Net.finalA_in m c 4 rfl),
         (h.1 c 6).trans (Cert.KernelIdeal.Net.finalA_in m c 6 rfl)⟩)
      (Cert.KernelIdeal.Net.run_main (F := Ideal) m ρ),
    (θ_run Cert.ReferenceIdeal.defs _ _).mono (fun _ h => h 0) (Cert.ReferenceIdeal.Value.run m' ρ')⟩

/-- The claim. The ideal program is the kernel's own text, so what it preserves needs no argument. -/
theorem claim : Cert.Claim :=
  ⟨Cert.Kernel.Gen.facts, Cert.KernelIdeal.Gen.facts, Cert.ReferenceIdeal.Gen.facts,
   frame_kernel, frame_ideal, frame_reference, trivial, algebraic⟩

end Cert.Proof

end
